-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.2.2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S33792x2048 : Shape := ⟨2, ![33792, 2048]⟩
abbrev S33792x512 : Shape := ⟨2, ![33792, 512]⟩
abbrev S16x128x4x64 : Shape := ⟨4, ![16, 128, 4, 64]⟩
abbrev S1x32 : Shape := ⟨2, ![1, 32]⟩
abbrev S_ : Shape := ⟨0, ![]⟩
abbrev S33792x256 : Shape := ⟨2, ![33792, 256]⟩

class Facts : Prop where
  bitsLt_bf16_f32 : FTy.bits .bf16 < FTy.bits .f32
  bcast_S_S33792x2048 : S_.BroadcastsInDim S33792x2048 (![] : Fin 0 → Fin S33792x2048.rank)
  slices_S33792x512_S33792x256_0_0 : S33792x512.Slices ![0, 0] S33792x256
  bcast_S_S33792x256 : S_.BroadcastsInDim S33792x256 (![] : Fin 0 → Fin S33792x256.rank)
  bcast_S_S16x128x4x64 : S_.BroadcastsInDim S16x128x4x64 (![] : Fin 0 → Fin S16x128x4x64.rank)
  bcast_S_S1x32 : S_.BroadcastsInDim S1x32 (![] : Fin 0 → Fin S1x32.rank)

variable [Facts]

def fn {F : FTy → Type} [FloatOps F] (main_arg0 : FVec F S33792x2048 .bf16) (main_arg1 : FVec F S33792x512 .f32) (main_arg2 : FVec F S16x128x4x64 .f32) (main_arg3 : FVec F S16x128x4x64 .f32) (main_arg4 : FVec F S1x32 .f32) : IVec S33792x2048 1 × IVec S33792x256 1 × IVec S16x128x4x64 1 × IVec S1x32 1 :=
  let main_v0 : FVec F S33792x2048 .f32 := (extf .f32 · bitsLt_bf16_f32) main_arg0
  let main_v1 : FVec F S33792x2048 .f32 := Host.absf main_v0
  let main_cst : FVec F S_ .f32 := constant S_ .f32 0x7F800000#32
  let main_v2 : FVec F S33792x2048 .f32 := broadcastInDim S33792x2048 ![] bcast_S_S33792x2048 main_cst
  let main_v3 : IVec S33792x2048 1 := cmpf .olt main_v1 main_v2
  let main_v4 : FVec F S33792x256 .f32 := (extractStridedSlice S33792x256 ![0, 0] · slices_S33792x512_S33792x256_0_0) main_arg1
  let main_v5 : FVec F S33792x256 .f32 := Host.absf main_v4
  let main_cst_0 : FVec F S_ .f32 := constant S_ .f32 0x7F800000#32
  let main_v6 : FVec F S33792x256 .f32 := broadcastInDim S33792x256 ![] bcast_S_S33792x256 main_cst_0
  let main_v7 : IVec S33792x256 1 := cmpf .olt main_v5 main_v6
  let main_v8 : FVec F S16x128x4x64 .f32 := Host.absf main_arg2
  let main_cst_1 : FVec F S_ .f32 := constant S_ .f32 0x7F800000#32
  let main_v9 : FVec F S16x128x4x64 .f32 := broadcastInDim S16x128x4x64 ![] bcast_S_S16x128x4x64 main_cst_1
  let main_v10 : IVec S16x128x4x64 1 := cmpf .olt main_v8 main_v9
  let main_v11 : FVec F S1x32 .f32 := Host.absf main_arg4
  let main_cst_2 : FVec F S_ .f32 := constant S_ .f32 0x7F800000#32
  let main_v12 : FVec F S1x32 .f32 := broadcastInDim S1x32 ![] bcast_S_S1x32 main_cst_2
  let main_v13 : IVec S1x32 1 := cmpf .olt main_v11 main_v12
  (main_v3, main_v7, main_v10, main_v13)
-- ==== Pre_routed.lean ====
abbrev S156 : Shape := ⟨1, ![156]⟩
abbrev S39936x2048 : Shape := ⟨2, ![39936, 2048]⟩
abbrev S39936x128 : Shape := ⟨2, ![39936, 128]⟩
abbrev S16x2048x512 : Shape := ⟨3, ![16, 2048, 512]⟩
abbrev S16x512x2048 : Shape := ⟨3, ![16, 512, 2048]⟩
abbrev S_ : Shape := ⟨0, ![]⟩

class Facts : Prop where
  bcast_S_S156 : S_.BroadcastsInDim S156 (![] : Fin 0 → Fin S156.rank)

variable [Facts]

def fn {F : FTy → Type} [FloatOps F] (main_arg0 : IVec S156 32) (main_arg1 : IVec S156 32) (main_arg2 : IVec S156 32) (main_arg3 : FVec F S39936x2048 .f32) (main_arg4 : FVec F S39936x128 .f32) (main_arg5 : FVec F S16x2048x512 .f32) (main_arg6 : FVec F S16x2048x512 .f32) (main_arg7 : FVec F S16x512x2048 .f32) : IVec S156 1 × IVec S156 1 × IVec S156 1 × IVec S156 1 × IVec S156 1 × IVec S156 1 :=
  let main_c : IVec S_ 32 := constantI S_ 32 0#32
  let main_v0 : IVec S156 32 := broadcastInDim S156 ![] bcast_S_S156 main_c
  let main_v1 : IVec S156 1 := cmpi .sge main_arg0 main_v0
  let main_c_0 : IVec S_ 32 := constantI S_ 32 16#32
  let main_v2 : IVec S156 32 := broadcastInDim S156 ![] bcast_S_S156 main_c_0
  let main_v3 : IVec S156 1 := cmpi .slt main_arg0 main_v2
  let main_c_1 : IVec S_ 32 := constantI S_ 32 0#32
  let main_v4 : IVec S156 32 := broadcastInDim S156 ![] bcast_S_S156 main_c_1
  let main_v5 : IVec S156 1 := cmpi .sge main_arg1 main_v4
  let main_c_2 : IVec S_ 32 := constantI S_ 32 16#32
  let main_v6 : IVec S156 32 := broadcastInDim S156 ![] bcast_S_S156 main_c_2
  let main_v7 : IVec S156 1 := cmpi .slt main_arg1 main_v6
  let main_v8 : IVec S156 1 := cmpi .ne main_arg0 main_arg1
  let main_c_3 : IVec S_ 32 := constantI S_ 32 0#32
  let main_v9 : IVec S156 32 := broadcastInDim S156 ![] bcast_S_S156 main_c_3
  let main_v10 : IVec S156 1 := cmpi .sge main_arg2 main_v9
  (main_v1, main_v3, main_v5, main_v7, main_v8, main_v10)
-- ==== Kernel.lean ====
abbrev S33792x2048 : Shape := ⟨2, ![33792, 2048]⟩
abbrev S33792x512 : Shape := ⟨2, ![33792, 512]⟩
abbrev S16x128x4x64 : Shape := ⟨4, ![16, 128, 4, 64]⟩
abbrev S1x32 : Shape := ⟨2, ![1, 32]⟩
abbrev S528 : Shape := ⟨1, ![528]⟩
abbrev S32768x512 : Shape := ⟨2, ![32768, 512]⟩
abbrev S16x2048x512 : Shape := ⟨3, ![16, 2048, 512]⟩
abbrev S16x128x256 : Shape := ⟨3, ![16, 128, 256]⟩
abbrev S16x128x512 : Shape := ⟨3, ![16, 128, 512]⟩
abbrev S1024x512 : Shape := ⟨2, ![1024, 512]⟩
abbrev S16x64x512 : Shape := ⟨3, ![16, 64, 512]⟩
abbrev S16x192x512 : Shape := ⟨3, ![16, 192, 512]⟩
abbrev S_ : Shape := ⟨0, ![]⟩
abbrev S16x2176x512 : Shape := ⟨3, ![16, 2176, 512]⟩
abbrev S34816x512 : Shape := ⟨2, ![34816, 512]⟩
abbrev S3072x512 : Shape := ⟨2, ![3072, 512]⟩
abbrev S37888x512 : Shape := ⟨2, ![37888, 512]⟩
abbrev S32 : Shape := ⟨1, ![32]⟩
abbrev S64x2048 : Shape := ⟨2, ![64, 2048]⟩
abbrev S64x512 : Shape := ⟨2, ![64, 512]⟩
abbrev S1 : Shape := ⟨1, ![1]⟩
abbrev S64x192 : Shape := ⟨2, ![64, 192]⟩
abbrev S64x64 : Shape := ⟨2, ![64, 64]⟩
abbrev S192x64 : Shape := ⟨2, ![192, 64]⟩
abbrev S64 : Shape := ⟨1, ![64]⟩
abbrev S64x1 : Shape := ⟨2, ![64, 1]⟩
abbrev S64x128 : Shape := ⟨2, ![64, 128]⟩

abbrev nBuf : Space → Nat
  | .hbm => 21
  | .vmem => 10
  | .smem => 3
  | _ => 0

abbrev bufTy : (tb : Table) → Fin (tcTables nBuf tb) → BufTy
  | .hbm, ⟨0, _⟩ => ⟨S33792x2048, .bf16⟩
  | .hbm, ⟨1, _⟩ => ⟨S33792x512, .f32⟩
  | .hbm, ⟨2, _⟩ => ⟨S16x128x4x64, .f32⟩
  | .hbm, ⟨3, _⟩ => ⟨S16x128x4x64, .f32⟩
  | .hbm, ⟨4, _⟩ => ⟨S1x32, .f32⟩
  | .hbm, ⟨5, _⟩ => ⟨S32768x512, .f32⟩
  | .hbm, ⟨6, _⟩ => ⟨S16x2048x512, .f32⟩
  | .hbm, ⟨7, _⟩ => ⟨S16x128x256, .f32⟩
  | .hbm, ⟨8, _⟩ => ⟨S16x128x256, .f32⟩
  | .hbm, ⟨9, _⟩ => ⟨S16x128x512, .f32⟩
  | .hbm, ⟨10, _⟩ => ⟨S1024x512, .f32⟩
  | .hbm, ⟨11, _⟩ => ⟨S16x64x512, .f32⟩
  | .hbm, ⟨12, _⟩ => ⟨S16x192x512, .f32⟩
  | .hbm, ⟨13, _⟩ => ⟨S_, .i32⟩
  | .hbm, ⟨14, _⟩ => ⟨S_, .f32⟩
  | .hbm, ⟨15, _⟩ => ⟨S16x2176x512, .f32⟩
  | .hbm, ⟨16, _⟩ => ⟨S34816x512, .f32⟩
  | .hbm, ⟨17, _⟩ => ⟨S3072x512, .f32⟩
  | .hbm, ⟨18, _⟩ => ⟨S37888x512, .f32⟩
  | .hbm, ⟨19, _⟩ => ⟨S32, .f32⟩
  | .hbm, ⟨20, _⟩ => ⟨S33792x2048, .bf16⟩
  | .local _ .vmem, ⟨0, _⟩ => ⟨S64x2048, .bf16⟩
  | .local _ .vmem, ⟨1, _⟩ => ⟨S64x2048, .bf16⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x2048, .bf16⟩
  | .local _ .vmem, ⟨9, _⟩ => ⟨S64x2048, .bf16⟩
  | .local _ .smem, ⟨0, _⟩ => ⟨S528, .i32⟩
  | .local _ .smem, ⟨1, _⟩ => ⟨S528, .i32⟩
  | .local _ .smem, ⟨2, _⟩ => ⟨S32, .f32⟩
  | _, _ => ⟨S33792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![528], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c2_i32 : BitVec 32 := 2#32
  let v2 : BitVec 32 := Scalar.subi v1 c2_i32
  let c0_i32 : BitVec 32 := 0#32
  let v3 : BitVec 32 := Scalar.addi v2 c0_i32
  let c0_i32_0 : BitVec 32 := 0#32
  let c0_i32_1 : BitVec 32 := 0#32
  ![v3.toNat, c0_i32_0.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c2_i32 : BitVec 32 := 2#32
  let v2 : BitVec 32 := Scalar.subi v1 c2_i32
  let c1_i32 : BitVec 32 := 1#32
  let v3 : BitVec 32 := Scalar.addi v2 c1_i32
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S528) ![v0.toNat] S1.size (k0_off1_inb i)) numel1_S1
  let c2_i32 : BitVec 32 := 2#32
  let v2 : BitVec 32 := Scalar.subi v1 c2_i32
  let c2_i32_0 : BitVec 32 := 2#32
  let v3 : BitVec 32 := Scalar.addi v2 c2_i32_0
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S33792x2048 : Shape := ⟨2, ![33792, 2048]⟩
abbrev S33792x512 : Shape := ⟨2, ![33792, 512]⟩
abbrev S16x128x4x64 : Shape := ⟨4, ![16, 128, 4, 64]⟩
abbrev S1x32 : Shape := ⟨2, ![1, 32]⟩
abbrev S32 : Shape := ⟨1, ![32]⟩
abbrev S64 : Shape := ⟨1, ![64]⟩
abbrev S64x1 : Shape := ⟨2, ![64, 1]⟩
abbrev S_ : Shape := ⟨0, ![]⟩
abbrev S192 : Shape := ⟨1, ![192]⟩
abbrev S1x192 : Shape := ⟨2, ![1, 192]⟩
abbrev S64x192 : Shape := ⟨2, ![64, 192]⟩
abbrev S32x1 : Shape := ⟨2, ![32, 1]⟩
abbrev S32x192 : Shape := ⟨2, ![32, 192]⟩
abbrev S1x32x192 : Shape := ⟨3, ![1, 32, 192]⟩
abbrev S16x32x192 : Shape := ⟨3, ![16, 32, 192]⟩
abbrev S512x192 : Shape := ⟨2, ![512, 192]⟩
abbrev S16x192 : Shape := ⟨2, ![16, 192]⟩
abbrev S528x192 : Shape := ⟨2, ![528, 192]⟩
abbrev S33792x256 : Shape := ⟨2, ![33792, 256]⟩
abbrev S32768x256 : Shape := ⟨2, ![32768, 256]⟩
abbrev S16x2048x4x64 : Shape := ⟨4, ![16, 2048, 4, 64]⟩
abbrev S16x2176x4x64 : Shape := ⟨4, ![16, 2176, 4, 64]⟩
abbrev S512x64x4x64 : Shape := ⟨4, ![512, 64, 4, 64]⟩
abbrev S512x192x4x64 : Shape := ⟨4, ![512, 192, 4, 64]⟩
abbrev S1024x256 : Shape := ⟨2, ![1024, 256]⟩
abbrev S16x64x4x64 : Shape := ⟨4, ![16, 64, 4, 64]⟩
abbrev S16x192x4x64 : Shape := ⟨4, ![16, 192, 4, 64]⟩
abbrev S528x192x4x64 : Shape := ⟨4, ![528, 192, 4, 64]⟩
abbrev S528x64x4x8x64 : Shape := ⟨5, ![528, 64, 4, 8, 64]⟩
abbrev S528x4x192x64x8 : Shape := ⟨5, ![528, 4, 192, 64, 8]⟩
abbrev S528x4x8x64x192 : Shape := ⟨5, ![528, 4, 8, 64, 192]⟩
abbrev S4x8 : Shape := ⟨2, ![4, 8]⟩
abbrev S4x8x1x1 : Shape := ⟨4, ![4, 8, 1, 1]⟩
abbrev S1x1x64x192 : Shape := ⟨4, ![1, 1, 64, 192]⟩
abbrev S4x8x64x192 : Shape := ⟨4, ![4, 8, 64, 192]⟩
abbrev S1x4x8x64x192 : Shape := ⟨5, ![1, 4, 8, 64, 192]⟩
abbrev S528x1x1x1x192 : Shape := ⟨5, ![528, 1, 1, 1, 192]⟩
abbrev S528x4x8x64 : Shape := ⟨4, ![528, 4, 8, 64]⟩
abbrev S528x4x8x64x1 : Shape := ⟨5, ![528, 4, 8, 64, 1]⟩
abbrev S1x4x8x1x1 : Shape := ⟨5, ![1, 4, 8, 1, 1]⟩
abbrev S528x4x64x8x64 : Shape := ⟨5, ![528, 4, 64, 8, 64]⟩

abbrev nBuf : Space → Nat
  | .hbm => 122
  | .vmem => 0
  | .smem => 0
  | _ => 0

abbrev bufTy : (tb : Table) → Fin (tcTables nBuf tb) → BufTy
  | .hbm, ⟨0, _⟩ => ⟨S33792x2048, .bf16⟩
  | .hbm, ⟨1, _⟩ => ⟨S33792x512, .f32⟩
  | .hbm, ⟨2, _⟩ => ⟨S16x128x4x64, .f32⟩
  | .hbm, ⟨3, _⟩ => ⟨S16x128x4x64, .f32⟩
  | .hbm, ⟨4, _⟩ => ⟨S1x32, .f32⟩
  | .hbm, ⟨5, _⟩ => ⟨S32, .f32⟩
  | .hbm, ⟨6, _⟩ => ⟨S64, .i32⟩
  | .hbm, ⟨7, _⟩ => ⟨S64x1, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S192, .i32⟩
  | .hbm, ⟨12, _⟩ => ⟨S1x192, .i32⟩
  | .hbm, ⟨13, _⟩ => ⟨S64x192, .i32⟩
  | .hbm, ⟨14, _⟩ => ⟨S64x192, .i32⟩
  | .hbm, ⟨15, _⟩ => ⟨S64x192, .i32⟩
  | .hbm, ⟨16, _⟩ => ⟨S64x192, .i32⟩
  | .hbm, ⟨17, _⟩ => ⟨S64x192, .f32⟩
  | .hbm, ⟨18, _⟩ => ⟨S32, .i32⟩
  | .hbm, ⟨19, _⟩ => ⟨S32x1, .i32⟩
  | .hbm, ⟨20, _⟩ => ⟨S_, .i32⟩
  | .hbm, ⟨21, _⟩ => ⟨S32x1, .i32⟩
  | .hbm, ⟨22, _⟩ => ⟨S32x1, .i32⟩
  | .hbm, ⟨23, _⟩ => ⟨S_, .i32⟩
  | .hbm, ⟨24, _⟩ => ⟨S32x1, .i32⟩
  | .hbm, ⟨25, _⟩ => ⟨S32x1, .i32⟩
  | .hbm, ⟨26, _⟩ => ⟨S192, .i32⟩
  | .hbm, ⟨27, _⟩ => ⟨S1x192, .i32⟩
  | .hbm, ⟨28, _⟩ => ⟨S32x192, .i32⟩
  | .hbm, ⟨29, _⟩ => ⟨S32x192, .i32⟩
  | .hbm, ⟨30, _⟩ => ⟨S32x192, .i32⟩
  | .hbm, ⟨31, _⟩ => ⟨S_, .i32⟩
  | .hbm, ⟨32, _⟩ => ⟨S32x192, .i32⟩
  | .hbm, ⟨33, _⟩ => ⟨S32x192, .i1⟩
  | .hbm, ⟨34, _⟩ => ⟨S1x32x192, .i1⟩
  | .hbm, ⟨35, _⟩ => ⟨S16x32x192, .i1⟩
  | .hbm, ⟨36, _⟩ => ⟨S512x192, .i1⟩
  | .hbm, ⟨37, _⟩ => ⟨S_, .i1⟩
  | .hbm, ⟨38, _⟩ => ⟨S16x192, .i1⟩
  | .hbm, ⟨39, _⟩ => ⟨S528x192, .i1⟩
  | .hbm, ⟨40, _⟩ => ⟨S33792x256, .f32⟩
  | .hbm, ⟨41, _⟩ => ⟨S_, .f32⟩
  | .hbm, ⟨42, _⟩ => ⟨S16x128x4x64, .f32⟩
  | .hbm, ⟨43, _⟩ => ⟨S32768x256, .f32⟩
  | .hbm, ⟨44, _⟩ => ⟨S16x2048x4x64, .f32⟩
  | .hbm, ⟨45, _⟩ => ⟨S16x2176x4x64, .f32⟩
  | .hbm, ⟨46, _⟩ => ⟨S16x2048x4x64, .f32⟩
  | .hbm, ⟨47, _⟩ => ⟨S512x64x4x64, .f32⟩
  | .hbm, ⟨48, _⟩ => ⟨S16x2048x4x64, .f32⟩
  | .hbm, ⟨49, _⟩ => ⟨S512x64x4x64, .f32⟩
  | .hbm, ⟨50, _⟩ => ⟨S16x2048x4x64, .f32⟩
  | .hbm, ⟨51, _⟩ => ⟨S512x64x4x64, .f32⟩
  | .hbm, ⟨52, _⟩ => ⟨S512x192x4x64, .f32⟩
  | .hbm, ⟨53, _⟩ => ⟨S1024x256, .f32⟩
  | .hbm, ⟨54, _⟩ => ⟨S16x64x4x64, .f32⟩
  | .hbm, ⟨55, _⟩ => ⟨S16x192x4x64, .f32⟩
  | .hbm, ⟨56, _⟩ => ⟨S528x192x4x64, .f32⟩
  | .hbm, ⟨57, _⟩ => ⟨S33792x256, .f32⟩
  | .hbm, ⟨58, _⟩ => ⟨S_, .f32⟩
  | .hbm, ⟨59, _⟩ => ⟨S16x128x4x64, .f32⟩
  | .hbm, ⟨60, _⟩ => ⟨S32768x256, .f32⟩
  | .hbm, ⟨61, _⟩ => ⟨S16x2048x4x64, .f32⟩
  | .hbm, ⟨62, _⟩ => ⟨S16x2176x4x64, .f32⟩
  | .hbm, ⟨63, _⟩ => ⟨S16x2048x4x64, .f32⟩
  | .hbm, ⟨64, _⟩ => ⟨S512x64x4x64, .f32⟩
  | .hbm, ⟨65, _⟩ => ⟨S16x2048x4x64, .f32⟩
  | .hbm, ⟨66, _⟩ => ⟨S512x64x4x64, .f32⟩
  | .hbm, ⟨67, _⟩ => ⟨S16x2048x4x64, .f32⟩
  | .hbm, ⟨68, _⟩ => ⟨S512x64x4x64, .f32⟩
  | .hbm, ⟨69, _⟩ => ⟨S512x192x4x64, .f32⟩
  | .hbm, ⟨70, _⟩ => ⟨S1024x256, .f32⟩
  | .hbm, ⟨71, _⟩ => ⟨S16x64x4x64, .f32⟩
  | .hbm, ⟨72, _⟩ => ⟨S16x192x4x64, .f32⟩
  | .hbm, ⟨73, _⟩ => ⟨S528x192x4x64, .f32⟩
  | .hbm, ⟨74, _⟩ => ⟨S33792x2048, .f32⟩
  | .hbm, ⟨75, _⟩ => ⟨S528x64x4x8x64, .f32⟩
  | .hbm, ⟨76, _⟩ => ⟨S528x4x192x64x8, .f32⟩
  | .hbm, ⟨77, _⟩ => ⟨S528x4x8x64x192, .f32⟩
  | .hbm, ⟨78, _⟩ => ⟨S_, .f32⟩
  | .hbm, ⟨79, _⟩ => ⟨S528x4x8x64x192, .f32⟩
  | .hbm, ⟨80, _⟩ => ⟨S528x4x8x64x192, .f32⟩
  | .hbm, ⟨81, _⟩ => ⟨S4x8, .f32⟩
  | .hbm, ⟨82, _⟩ => ⟨S4x8x1x1, .f32⟩
  | .hbm, ⟨83, _⟩ => ⟨S1x1x64x192, .f32⟩
  | .hbm, ⟨84, _⟩ => ⟨S4x8x64x192, .f32⟩
  | .hbm, ⟨85, _⟩ => ⟨S4x8x64x192, .f32⟩
  | .hbm, ⟨86, _⟩ => ⟨S4x8x64x192, .f32⟩
  | .hbm, ⟨87, _⟩ => ⟨S1x4x8x64x192, .f32⟩
  | .hbm, ⟨88, _⟩ => ⟨S528x4x8x64x192, .f32⟩
  | .hbm, ⟨89, _⟩ => ⟨S528x4x8x64x192, .f32⟩
  | .hbm, ⟨90, _⟩ => ⟨S528x1x1x1x192, .i1⟩
  | .hbm, ⟨91, _⟩ => ⟨S_, .f32⟩
  | .hbm, ⟨92, _⟩ => ⟨S_, .f32⟩
  | .hbm, ⟨93, _⟩ => ⟨S528x4x8x64x192, .i1⟩
  | .hbm, ⟨94, _⟩ => ⟨S528x4x8x64x192, .f32⟩
  | .hbm, ⟨95, _⟩ => ⟨S528x4x8x64x192, .f32⟩
  | .hbm, ⟨96, _⟩ => ⟨S32, .f32⟩
  | .hbm, ⟨97, _⟩ => ⟨S4x8, .f32⟩
  | .hbm, ⟨98, _⟩ => ⟨S4x8x1x1, .f32⟩
  | .hbm, ⟨99, _⟩ => ⟨S_, .f32⟩
  | .hbm, ⟨100, _⟩ => ⟨S528x4x8x64, .f32⟩
  | .hbm, ⟨101, _⟩ => ⟨S528x4x8x64x1, .f32⟩
  | .hbm, ⟨102, _⟩ => ⟨S1x4x8x1x1, .f32⟩
  | .hbm, ⟨103, _⟩ => ⟨S528x4x8x64x1, .f32⟩
  | .hbm, ⟨104, _⟩ => ⟨S528x4x8x64x1, .f32⟩
  | .hbm, ⟨105, _⟩ => ⟨S528x4x8x64x192, .f32⟩
  | .hbm, ⟨106, _⟩ => ⟨S528x4x8x64x192, .f32⟩
  | .hbm, ⟨107, _⟩ => ⟨S528x4x8x64x192, .f32⟩
  | .hbm, ⟨108, _⟩ => ⟨S_, .f32⟩
  | .hbm, ⟨109, _⟩ => ⟨S528x4x8x64, .f32⟩
  | .hbm, ⟨110, _⟩ => ⟨S528x4x8x64x1, .f32⟩
  | .hbm, ⟨111, _⟩ => ⟨S1x4x8x1x1, .f32⟩
  | .hbm, ⟨112, _⟩ => ⟨S528x4x8x64x1, .f32⟩
  | .hbm, ⟨113, _⟩ => ⟨S528x4x8x64x1, .f32⟩
  | .hbm, ⟨114, _⟩ => ⟨S528x4x8x64x1, .f32⟩
  | .hbm, ⟨115, _⟩ => ⟨S528x4x8x64x1, .f32⟩
  | .hbm, ⟨116, _⟩ => ⟨S528x4x8x64x192, .f32⟩
  | .hbm, ⟨117, _⟩ => ⟨S528x4x8x64x192, .f32⟩
  | .hbm, ⟨118, _⟩ => ⟨S528x4x64x8x64, .f32⟩
  | .hbm, ⟨119, _⟩ => ⟨S528x64x4x8x64, .f32⟩
  | .hbm, ⟨120, _⟩ => ⟨S33792x2048, .f32⟩
  | .hbm, ⟨121, _⟩ => ⟨S33792x2048, .bf16⟩
  | _, _ => ⟨S33792x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_cst_7 : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Kernel2.lean ====
abbrev S156 : Shape := ⟨1, ![156]⟩
abbrev S39936x2048 : Shape := ⟨2, ![39936, 2048]⟩
abbrev S39936x128 : Shape := ⟨2, ![39936, 128]⟩
abbrev S16x2048x512 : Shape := ⟨3, ![16, 2048, 512]⟩
abbrev S16x512x2048 : Shape := ⟨3, ![16, 512, 2048]⟩
abbrev S16x2048x1024 : Shape := ⟨3, ![16, 2048, 1024]⟩
abbrev S256x2048 : Shape := ⟨2, ![256, 2048]⟩
abbrev S256x128 : Shape := ⟨2, ![256, 128]⟩
abbrev S1x2048x1024 : Shape := ⟨3, ![1, 2048, 1024]⟩
abbrev S1 : Shape := ⟨1, ![1]⟩
abbrev S1x512x2048 : Shape := ⟨3, ![1, 512, 2048]⟩
abbrev S256x1 : Shape := ⟨2, ![256, 1]⟩
abbrev S2048x1024 : Shape := ⟨2, ![2048, 1024]⟩
abbrev S256x1024 : Shape := ⟨2, ![256, 1024]⟩
abbrev S256x512 : Shape := ⟨2, ![256, 512]⟩
abbrev S512x2048 : Shape := ⟨2, ![512, 2048]⟩

abbrev nBuf : Space → Nat
  | .hbm => 9
  | .vmem => 14
  | .smem => 3
  | _ => 0

abbrev bufTy : (tb : Table) → Fin (tcTables nBuf tb) → BufTy
  | .hbm, ⟨0, _⟩ => ⟨S39936x2048, .f32⟩
  | .hbm, ⟨1, _⟩ => ⟨S39936x128, .f32⟩
  | .hbm, ⟨2, _⟩ => ⟨S16x2048x512, .f32⟩
  | .hbm, ⟨3, _⟩ => ⟨S16x2048x512, .f32⟩
  | .hbm, ⟨4, _⟩ => ⟨S16x512x2048, .f32⟩
  | .hbm, ⟨5, _⟩ => ⟨S16x2048x1024, .f32⟩
  | .hbm, ⟨6, _⟩ => ⟨S16x2048x1024, .bf16⟩
  | .hbm, ⟨7, _⟩ => ⟨S16x512x2048, .bf16⟩
  | .hbm, ⟨8, _⟩ => ⟨S39936x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S256x2048, .f32⟩
  | .local _ .vmem, ⟨13, _⟩ => ⟨S256x2048, .f32⟩
  | .local _ .smem, ⟨0, _⟩ => ⟨S156, .i32⟩
  | .local _ .smem, ⟨1, _⟩ => ⟨S156, .i32⟩
  | .local _ .smem, ⟨2, _⟩ => ⟨S156, .i32⟩
  | _, _ => ⟨S39936x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![156], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S156 : Shape := ⟨1, ![156]⟩
abbrev S39936x2048 : Shape := ⟨2, ![39936, 2048]⟩
abbrev S39936x128 : Shape := ⟨2, ![39936, 128]⟩
abbrev S16x2048x512 : Shape := ⟨3, ![16, 2048, 512]⟩
abbrev S16x512x2048 : Shape := ⟨3, ![16, 512, 2048]⟩
abbrev S156x1 : Shape := ⟨2, ![156, 1]⟩
abbrev S156x256 : Shape := ⟨2, ![156, 256]⟩
abbrev S39936 : Shape := ⟨1, ![39936]⟩
abbrev S39936x1 : Shape := ⟨2, ![39936, 1]⟩
abbrev S39936x2 : Shape := ⟨2, ![39936, 2]⟩
abbrev S39936x2x1 : Shape := ⟨3, ![39936, 2, 1]⟩
abbrev S1x1x16 : Shape := ⟨3, ![1, 1, 16]⟩
abbrev S39936x2x16 : Shape := ⟨3, ![39936, 2, 16]⟩
abbrev S_ : Shape := ⟨0, ![]⟩
abbrev S39936x16 : Shape := ⟨2, ![39936, 16]⟩
abbrev S39936x16x512 : Shape := ⟨3, ![39936, 16, 512]⟩
abbrev S39936x16x1 : Shape := ⟨3, ![39936, 16, 1]⟩
abbrev S16x2048x39936 : Shape := ⟨3, ![16, 2048, 39936]⟩
abbrev S39936x16x2048 : Shape := ⟨3, ![39936, 16, 2048]⟩

abbrev nBuf : Space → Nat
  | .hbm => 60
  | .vmem => 0
  | .smem => 0
  | _ => 0

abbrev bufTy : (tb : Table) → Fin (tcTables nBuf tb) → BufTy
  | .hbm, ⟨0, _⟩ => ⟨S156, .i32⟩
  | .hbm, ⟨1, _⟩ => ⟨S156, .i32⟩
  | .hbm, ⟨2, _⟩ => ⟨S156, .i32⟩
  | .hbm, ⟨3, _⟩ => ⟨S39936x2048, .f32⟩
  | .hbm, ⟨4, _⟩ => ⟨S39936x128, .f32⟩
  | .hbm, ⟨5, _⟩ => ⟨S16x2048x512, .f32⟩
  | .hbm, ⟨6, _⟩ => ⟨S16x2048x512, .f32⟩
  | .hbm, ⟨7, _⟩ => ⟨S16x512x2048, .f32⟩
  | .hbm, ⟨8, _⟩ => ⟨S156x1, .i32⟩
  | .hbm, ⟨9, _⟩ => ⟨S156x256, .i32⟩
  | .hbm, ⟨10, _⟩ => ⟨S39936, .i32⟩
  | .hbm, ⟨11, _⟩ => ⟨S156x1, .i32⟩
  | .hbm, ⟨12, _⟩ => ⟨S156x256, .i32⟩
  | .hbm, ⟨13, _⟩ => ⟨S39936, .i32⟩
  | .hbm, ⟨14, _⟩ => ⟨S39936x1, .i32⟩
  | .hbm, ⟨15, _⟩ => ⟨S39936x1, .i32⟩
  | .hbm, ⟨16, _⟩ => ⟨S39936x2, .i32⟩
  | .hbm, ⟨17, _⟩ => ⟨S39936x2x1, .i32⟩
  | .hbm, ⟨18, _⟩ => ⟨S1x1x16, .i32⟩
  | .hbm, ⟨19, _⟩ => ⟨S39936x2x16, .i32⟩
  | .hbm, ⟨20, _⟩ => ⟨S39936x2x16, .i32⟩
  | .hbm, ⟨21, _⟩ => ⟨S39936x2x16, .i1⟩
  | .hbm, ⟨22, _⟩ => ⟨S39936x2x16, .f32⟩
  | .hbm, ⟨23, _⟩ => ⟨S39936x2, .f32⟩
  | .hbm, ⟨24, _⟩ => ⟨S39936x2x1, .f32⟩
  | .hbm, ⟨25, _⟩ => ⟨S39936x2x16, .f32⟩
  | .hbm, ⟨26, _⟩ => ⟨S39936x2x16, .f32⟩
  | .hbm, ⟨27, _⟩ => ⟨S_, .f32⟩
  | .hbm, ⟨28, _⟩ => ⟨S39936x16, .f32⟩
  | .hbm, ⟨29, _⟩ => ⟨S39936x16x512, .f32⟩
  | .hbm, ⟨30, _⟩ => ⟨S39936x16x512, .f32⟩
  | .hbm, ⟨31, _⟩ => ⟨S39936x16x512, .f32⟩
  | .hbm, ⟨32, _⟩ => ⟨S_, .f32⟩
  | .hbm, ⟨33, _⟩ => ⟨S39936x16x512, .f32⟩
  | .hbm, ⟨34, _⟩ => ⟨S39936x16x512, .f32⟩
  | .hbm, ⟨35, _⟩ => ⟨S_, .f32⟩
  | .hbm, ⟨36, _⟩ => ⟨S39936x16x512, .f32⟩
  | .hbm, ⟨37, _⟩ => ⟨S39936x16x512, .f32⟩
  | .hbm, ⟨38, _⟩ => ⟨S39936x16x512, .f32⟩
  | .hbm, ⟨39, _⟩ => ⟨S39936x16x512, .f32⟩
  | .hbm, ⟨40, _⟩ => ⟨S39936x16x512, .f32⟩
  | .hbm, ⟨41, _⟩ => ⟨S39936x16x1, .f32⟩
  | .hbm, ⟨42, _⟩ => ⟨S16x2048x39936, .f32⟩
  | .hbm, ⟨43, _⟩ => ⟨S39936x16x2048, .f32⟩
  | .hbm, ⟨44, _⟩ => ⟨S39936x16x2048, .f32⟩
  | .hbm, ⟨45, _⟩ => ⟨S39936x16x2048, .f32⟩
  | .hbm, ⟨46, _⟩ => ⟨S_, .f32⟩
  | .hbm, ⟨47, _⟩ => ⟨S39936x2048, .f32⟩
  | .hbm, ⟨48, _⟩ => ⟨S156x1, .i32⟩
  | .hbm, ⟨49, _⟩ => ⟨S156x256, .i32⟩
  | .hbm, ⟨50, _⟩ => ⟨S39936, .i32⟩
  | .hbm, ⟨51, _⟩ => ⟨S_, .i32⟩
  | .hbm, ⟨52, _⟩ => ⟨S39936, .i32⟩
  | .hbm, ⟨53, _⟩ => ⟨S39936, .i1⟩
  | .hbm, ⟨54, _⟩ => ⟨S39936x1, .i1⟩
  | .hbm, ⟨55, _⟩ => ⟨S_, .f32⟩
  | .hbm, ⟨56, _⟩ => ⟨S_, .f32⟩
  | .hbm, ⟨57, _⟩ => ⟨S39936x2048, .i1⟩
  | .hbm, ⟨58, _⟩ => ⟨S39936x2048, .f32⟩
  | .hbm, ⟨59, _⟩ => ⟨S39936x2048, .f32⟩
  | _, _ => ⟨S156, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v31 : Ref sig .tc := ⟨.hbm, 59, rfl⟩

abbrev nD : Nat := 1
abbrev τ : Topo := Topo.v7x

variable {F : FTy → Type} [FloatOps F]
-- ==== Kernel3.lean ====
abbrev S33792x4096 : Shape := ⟨2, ![33792, 4096]⟩
abbrev S1x4096x2048 : Shape := ⟨3, ![1, 4096, 2048]⟩
abbrev S33792x2048 : Shape := ⟨2, ![33792, 2048]⟩
abbrev S32x1x2048 : Shape := ⟨3, ![32, 1, 2048]⟩
abbrev S528 : Shape := ⟨1, ![528]⟩
abbrev S4096x2048 : Shape := ⟨2, ![4096, 2048]⟩
abbrev S1024x4096 : Shape := ⟨2, ![1024, 4096]⟩
abbrev S4096x512 : Shape := ⟨2, ![4096, 512]⟩
abbrev S1024x512 : Shape := ⟨2, ![1024, 512]⟩
abbrev S32x1x512 : Shape := ⟨3, ![32, 1, 512]⟩
abbrev S1 : Shape := ⟨1, ![1]⟩
abbrev S64x512 : Shape := ⟨2, ![64, 512]⟩
abbrev S1x1x512 : Shape := ⟨3, ![1, 1, 512]⟩
abbrev S1x512 : Shape := ⟨2, ![1, 512]⟩

abbrev nBuf : Space → Nat
  | .hbm => 7
  | .vmem => 11
  | .smem => 1
  | _ => 0

abbrev bufTy : (tb : Table) → Fin (tcTables nBuf tb) → BufTy
  | .hbm, ⟨0, _⟩ => ⟨S33792x4096, .bf16⟩
  | .hbm, ⟨1, _⟩ => ⟨S1x4096x2048, .f32⟩
  | .hbm, ⟨2, _⟩ => ⟨S33792x2048, .f32⟩
  | .hbm, ⟨3, _⟩ => ⟨S32x1x2048, .f32⟩
  | .hbm, ⟨4, _⟩ => ⟨S4096x2048, .f32⟩
  | .hbm, ⟨5, _⟩ => ⟨S4096x2048, .bf16⟩
  | .hbm, ⟨6, _⟩ => ⟨S33792x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S32x1x512, .f32⟩
  | .local _ .vmem, ⟨7, _⟩ => ⟨S32x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .smem, ⟨0, _⟩ => ⟨S528, .i32⟩
  | _, _ => ⟨S33792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_off1 (i : grid0.Coords) (k0_t1 : Fin k0_t1_loop.trips) : Fin 1 → Nat :=
  let arg0 : BitVec 32 := BitVec.ofNat 32 (i 0).val
  let c16_i32_6 : BitVec 32 := 16#32
  let v8 : BitVec 32 := Scalar.muli arg0 c16_i32_6
  let c0_i32 : BitVec 32 := 0#32
  let c1_i32 : BitVec 32 := 1#32
  let arg9 : BitVec 32 := Scf.iv c0_i32 c1_i32 k0_t1
  let v9 : BitVec 32 := Scalar.addi v8 arg9
  let v10 : Index := Scalar.indexCast v9
  ![v10.toNat]
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v12 : BitVec 32 := Scalar.muli arg9 c64_i32
  v12
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v12 : BitVec 32 := Scalar.muli arg9 c64_i32
  let v13 : BitVec 32 := v12
  let v14 : Index := Scalar.indexCast v13
  let c0_7 : Index := 0#32
  ![v14.toNat, 0]
def k0_off3 (v11 : BitVec 32) : Fin 3 → Nat :=
  let v16 : Index := Scalar.indexCast v11
  let c0_8 : Index := 0#32
  let c0_9 : Index := 0#32
  ![v16.toNat, 0, 0]

def k0_chk1 (v11 : BitVec 32) : Prop :=
  (∀ a, (k0_off3 v11) a + S1x1x512.size a ≤ S32x1x512.size a)
theorem k0_off3_inb : ∀ (v11 : BitVec 32) (k0_hw1 : k0_chk1 v11), ∀ a, (k0_off3 v11) a + S1x1x512.size a ≤ S32x1x512.size a := fun v11 k0_hw1 => k0_hw1

def k0_off4 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v12 : BitVec 32 := Scalar.muli arg9 c64_i32
  let v13 : BitVec 32 := v12
  let v19 : Index := Scalar.indexCast v13
  let c0_10 : Index := 0#32
  ![v19.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S33792x4096 : Shape := ⟨2, ![33792, 4096]⟩
abbrev S1x4096x2048 : Shape := ⟨3, ![1, 4096, 2048]⟩
abbrev S33792x2048 : Shape := ⟨2, ![33792, 2048]⟩
abbrev S32x1x2048 : Shape := ⟨3, ![32, 1, 2048]⟩
abbrev S32768x2048 : Shape := ⟨2, ![32768, 2048]⟩
abbrev S16x2048x2048 : Shape := ⟨3, ![16, 2048, 2048]⟩
abbrev S32768x4096 : Shape := ⟨2, ![32768, 4096]⟩
abbrev S16x2048x4096 : Shape := ⟨3, ![16, 2048, 4096]⟩
abbrev S16x1x2048 : Shape := ⟨3, ![16, 1, 2048]⟩
abbrev S4096x2048 : Shape := ⟨2, ![4096, 2048]⟩
abbrev S1024x2048 : Shape := ⟨2, ![1024, 2048]⟩
abbrev S16x64x2048 : Shape := ⟨3, ![16, 64, 2048]⟩
abbrev S1024x4096 : Shape := ⟨2, ![1024, 4096]⟩
abbrev S16x64x4096 : Shape := ⟨3, ![16, 64, 4096]⟩

abbrev nBuf : Space → Nat
  | .hbm => 29
  | .vmem => 0
  | .smem => 0
  | _ => 0

abbrev bufTy : (tb : Table) → Fin (tcTables nBuf tb) → BufTy
  | .hbm, ⟨0, _⟩ => ⟨S33792x4096, .bf16⟩
  | .hbm, ⟨1, _⟩ => ⟨S1x4096x2048, .f32⟩
  | .hbm, ⟨2, _⟩ => ⟨S33792x2048, .f32⟩
  | .hbm, ⟨3, _⟩ => ⟨S32x1x2048, .f32⟩
  | .hbm, ⟨4, _⟩ => ⟨S32768x2048, .f32⟩
  | .hbm, ⟨5, _⟩ => ⟨S16x2048x2048, .f32⟩
  | .hbm, ⟨6, _⟩ => ⟨S32768x4096, .bf16⟩
  | .hbm, ⟨7, _⟩ => ⟨S16x2048x4096, .bf16⟩
  | .hbm, ⟨8, _⟩ => ⟨S16x1x2048, .f32⟩
  | .hbm, ⟨9, _⟩ => ⟨S16x2048x4096, .f32⟩
  | .hbm, ⟨10, _⟩ => ⟨S4096x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S1024x2048, .f32⟩
  | .hbm, ⟨16, _⟩ => ⟨S16x64x2048, .f32⟩
  | .hbm, ⟨17, _⟩ => ⟨S1024x4096, .bf16⟩
  | .hbm, ⟨18, _⟩ => ⟨S16x64x4096, .bf16⟩
  | .hbm, ⟨19, _⟩ => ⟨S16x1x2048, .f32⟩
  | .hbm, ⟨20, _⟩ => ⟨S16x64x4096, .f32⟩
  | .hbm, ⟨21, _⟩ => ⟨S4096x2048, .f32⟩
  | .hbm, ⟨22, _⟩ => ⟨S16x64x2048, .f32⟩
  | .hbm, ⟨23, _⟩ => ⟨S16x64x2048, .f32⟩
  | .hbm, ⟨24, _⟩ => ⟨S16x64x2048, .f32⟩
  | .hbm, ⟨25, _⟩ => ⟨S16x64x2048, .f32⟩
  | .hbm, ⟨26, _⟩ => ⟨S32768x2048, .f32⟩
  | .hbm, ⟨27, _⟩ => ⟨S1024x2048, .f32⟩
  | .hbm, ⟨28, _⟩ => ⟨S33792x2048, .f32⟩
  | _, _ => ⟨S33792x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel4.lean ====
abbrev S33792x2048 : Shape := ⟨2, ![33792, 2048]⟩
abbrev S2x2048 : Shape := ⟨2, ![2, 2048]⟩
abbrev S1x2048x10304 : Shape := ⟨3, ![1, 2048, 10304]⟩
abbrev S32x1x2048 : Shape := ⟨3, ![32, 1, 2048]⟩
abbrev S528 : Shape := ⟨1, ![528]⟩
abbrev S2048x10304 : Shape := ⟨2, ![2048, 10304]⟩
abbrev S_ : Shape := ⟨0, ![]⟩
abbrev S2048x10368 : Shape := ⟨2, ![2048, 10368]⟩
abbrev S1x2048 : Shape := ⟨2, ![1, 2048]⟩
abbrev S2048 : Shape := ⟨1, ![2048]⟩
abbrev S33792x10368 : Shape := ⟨2, ![33792, 10368]⟩
abbrev S1024x2048 : Shape := ⟨2, ![1024, 2048]⟩
abbrev S2048x1152 : Shape := ⟨2, ![2048, 1152]⟩
abbrev S1024x1152 : Shape := ⟨2, ![1024, 1152]⟩
abbrev S1 : Shape := ⟨1, ![1]⟩
abbrev S64x2048 : Shape := ⟨2, ![64, 2048]⟩
abbrev S1x1x2048 : Shape := ⟨3, ![1, 1, 2048]⟩
abbrev S64 : Shape := ⟨1, ![64]⟩
abbrev S64x1 : Shape := ⟨2, ![64, 1]⟩

abbrev nBuf : Space → Nat
  | .hbm => 14
  | .vmem => 10
  | .smem => 1
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S1x2048x10304, .f32⟩
  | .hbm, ⟨3, _⟩ => ⟨S32x1x2048, .f32⟩
  | .hbm, ⟨4, _⟩ => ⟨S32x1x2048, .f32⟩
  | .hbm, ⟨5, _⟩ => ⟨S2048x10304, .f32⟩
  | .hbm, ⟨6, _⟩ => ⟨S_, .i32⟩
  | .hbm, ⟨7, _⟩ => ⟨S_, .f32⟩
  | .hbm, ⟨8, _⟩ => ⟨S2048x10368, .f32⟩
  | .hbm, ⟨9, _⟩ => ⟨S2048x10368, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S33792x10368, .bf16⟩
  | .local _ .vmem, ⟨0, _⟩ => ⟨S1024x2048, .f32⟩
  | .local _ .vmem, ⟨1, _⟩ => ⟨S1024x2048, .f32⟩
  | .local _ .vmem, ⟨2, _⟩ => ⟨S32x1x2048, .f32⟩
  | .local _ .vmem, ⟨3, _⟩ => ⟨S32x1x2048, .f32⟩
  | .local _ .vmem, ⟨4, _⟩ => ⟨S1x2048, .f32⟩
  | .local _ .vmem, ⟨5, _⟩ => ⟨S2048x1152, .bf16⟩
  | .local _ .vmem, ⟨6, _⟩ => ⟨S2048x1152, .bf16⟩
  | .local _ .vmem, ⟨7, _⟩ => ⟨S1024x1152, .bf16⟩
  | .local _ .vmem, ⟨8, _⟩ => ⟨S1024x1152, .bf16⟩
  | .local _ .vmem, ⟨9, _⟩ => ⟨S1024x2048, .bf16⟩
  | .local _ .smem, ⟨0, _⟩ => ⟨S528, .i32⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![33, 9], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v9 : BitVec 32 := Scalar.addi c0_i32_6 c16_i32
  let c1_i32 : BitVec 32 := 1#32
  ⟨c0_i32_6, v9, c1_i32⟩
def k0_off1 (i : grid0.Coords) (k0_t1 : Fin k0_t1_loop.trips) : Fin 1 → Nat :=
  let arg0 : BitVec 32 := BitVec.ofNat 32 (i 0).val
  let c16_i32_8 : BitVec 32 := 16#32
  let v10 : BitVec 32 := Scalar.muli arg0 c16_i32_8
  let c0_i32_6 : BitVec 32 := 0#32
  let c1_i32 : BitVec 32 := 1#32
  let arg10 : BitVec 32 := Scf.iv c0_i32_6 c1_i32 k0_t1
  let v11 : BitVec 32 := Scalar.addi v10 arg10
  let v12 : Index := Scalar.indexCast v11
  ![v12.toNat]
def k0_mult1 (k0_t1 : Fin k0_t1_loop.trips) : BitVec 32 :=
  let c0_i32_6 : BitVec 32 := 0#32
  let c1_i32 : BitVec 32 := 1#32
  let arg10 : BitVec 32 := Scf.iv c0_i32_6 c1_i32 k0_t1
  let c64_i32 : BitVec 32 := 64#32
  let v14 : BitVec 32 := Scalar.muli arg10 c64_i32
  v14
def k0_off2 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c64_i32 : BitVec 32 := 64#32
  let v14 : BitVec 32 := Scalar.muli arg10 c64_i32
  let v15 : BitVec 32 := v14
  let v16 : Index := Scalar.indexCast v15
  let c0_9 : Index := 0#32
  ![v16.toNat, 0]
def k0_off3 (v13 : BitVec 32) : Fin 3 → Nat :=
  let v20 : Index := Scalar.indexCast v13
  let c0_12 : Index := 0#32
  let c0_13 : Index := 0#32
  ![v20.toNat, 0, 0]

def k0_chk1 (i : grid0.Coords) (v13 : BitVec 32) : Prop :=
  (∀ (k0_h1 : k0_cond1 i = 1#1), ∀ a, (k0_off3 v13) a + S1x1x2048.size a ≤ S32x1x2048.size a)
theorem k0_off3_inb : ∀ (i : grid0.Coords) (v13 : BitVec 32) (k0_hw1 : k0_chk1 i v13), ∀ (k0_h1 : k0_cond1 i = 1#1), ∀ a, (k0_off3 v13) a + S1x1x2048.size a ≤ S32x1x2048.size a := fun i v13 k0_hw1 k0_h1 => k0_hw1 k0_h1

def k0_off4 (k0_t1 : Fin k0_t1_loop.trips) : Fin 2 → Nat :=
  let c0_i32_6 : BitVec 32 := 0#32
  let c1_i32 : BitVec 32 := 1#32
  let arg10 : BitVec 32 := Scf.iv c0_i32_6 c1_i32 k0_t1
  let c64_i32 : BitVec 32 := 64#32
  let v14 : BitVec 32 := Scalar.muli arg10 c64_i32
  let v15 : BitVec 32 := v14
  let v45 : Index := Scalar.indexCast v15
  let c0_20 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S33792x2048 : Shape := ⟨2, ![33792, 2048]⟩
abbrev S2x2048 : Shape := ⟨2, ![2, 2048]⟩
abbrev S1x2048x10304 : Shape := ⟨3, ![1, 2048, 10304]⟩
abbrev S32x1x2048 : Shape := ⟨3, ![32, 1, 2048]⟩
abbrev S32768x2048 : Shape := ⟨2, ![32768, 2048]⟩
abbrev S16x2048x2048 : Shape := ⟨3, ![16, 2048, 2048]⟩
abbrev S16x1x2048 : Shape := ⟨3, ![16, 1, 2048]⟩
abbrev S1x2048 : Shape := ⟨2, ![1, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x10304 : Shape := ⟨2, ![2048, 10304]⟩
abbrev S16x2048x10304 : Shape := ⟨3, ![16, 2048, 10304]⟩
abbrev S1024x2048 : Shape := ⟨2, ![1024, 2048]⟩
abbrev S16x64x2048 : Shape := ⟨3, ![16, 64, 2048]⟩
abbrev S16x64 : Shape := ⟨2, ![16, 64]⟩
abbrev S16x64x1 : Shape := ⟨3, ![16, 64, 1]⟩
abbrev S16x64x10304 : Shape := ⟨3, ![16, 64, 10304]⟩
abbrev S32768x10304 : Shape := ⟨2, ![32768, 10304]⟩
abbrev S1024x10304 : Shape := ⟨2, ![1024, 10304]⟩
abbrev S33792x10304 : Shape := ⟨2, ![33792, 10304]⟩
abbrev S33792x64 : Shape := ⟨2, ![33792, 64]⟩
abbrev S33792x10368 : Shape := ⟨2, ![33792, 10368]⟩

abbrev nBuf : Space → Nat
  | .hbm => 74
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S2x2048, .f32⟩
  | .hbm, ⟨2, _⟩ => ⟨S1x2048x10304, .f32⟩
  | .hbm, ⟨3, _⟩ => ⟨S32x1x2048, .f32⟩
  | .hbm, ⟨4, _⟩ => ⟨S32x1x2048, .f32⟩
  | .hbm, ⟨5, _⟩ => ⟨S32768x2048, .f32⟩
  | .hbm, ⟨6, _⟩ => ⟨S16x2048x2048, .f32⟩
  | .hbm, ⟨7, _⟩ => ⟨S16x1x2048, .f32⟩
  | .hbm, ⟨8, _⟩ => ⟨S16x1x2048, .f32⟩
  | .hbm, ⟨9, _⟩ => ⟨S1x2048, .f32⟩
  | .hbm, ⟨10, _⟩ => ⟨S2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S1x1x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S16x1x2048, .f32⟩
  | .hbm, ⟨29, _⟩ => ⟨S16x1x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S2048x10304, .f32⟩
  | .hbm, ⟨35, _⟩ => ⟨S16x2048x10304, .f32⟩
  | .hbm, ⟨36, _⟩ => ⟨S1024x2048, .f32⟩
  | .hbm, ⟨37, _⟩ => ⟨S16x64x2048, .f32⟩
  | .hbm, ⟨38, _⟩ => ⟨S16x1x2048, .f32⟩
  | .hbm, ⟨39, _⟩ => ⟨S16x1x2048, .f32⟩
  | .hbm, ⟨40, _⟩ => ⟨S1x2048, .f32⟩
  | .hbm, ⟨41, _⟩ => ⟨S2048, .f32⟩
  | .hbm, ⟨42, _⟩ => ⟨S16x64x2048, .f32⟩
  | .hbm, ⟨43, _⟩ => ⟨S_, .f32⟩
  | .hbm, ⟨44, _⟩ => ⟨S16x64, .f32⟩
  | .hbm, ⟨45, _⟩ => ⟨S16x64x1, .f32⟩
  | .hbm, ⟨46, _⟩ => ⟨S_, .f32⟩
  | .hbm, ⟨47, _⟩ => ⟨S16x64x1, .f32⟩
  | .hbm, ⟨48, _⟩ => ⟨S16x64x1, .f32⟩
  | .hbm, ⟨49, _⟩ => ⟨S_, .f32⟩
  | .hbm, ⟨50, _⟩ => ⟨S16x64x1, .f32⟩
  | .hbm, ⟨51, _⟩ => ⟨S16x64x1, .f32⟩
  | .hbm, ⟨52, _⟩ => ⟨S16x64x1, .f32⟩
  | .hbm, ⟨53, _⟩ => ⟨S16x64x2048, .f32⟩
  | .hbm, ⟨54, _⟩ => ⟨S16x64x2048, .f32⟩
  | .hbm, ⟨55, _⟩ => ⟨S1x1x2048, .f32⟩
  | .hbm, ⟨56, _⟩ => ⟨S16x64x2048, .f32⟩
  | .hbm, ⟨57, _⟩ => ⟨S16x64x2048, .f32⟩
  | .hbm, ⟨58, _⟩ => ⟨S_, .f32⟩
  | .hbm, ⟨59, _⟩ => ⟨S16x1x2048, .f32⟩
  | .hbm, ⟨60, _⟩ => ⟨S16x1x2048, .f32⟩
  | .hbm, ⟨61, _⟩ => ⟨S16x64x2048, .f32⟩
  | .hbm, ⟨62, _⟩ => ⟨S16x64x2048, .f32⟩
  | .hbm, ⟨63, _⟩ => ⟨S16x64x2048, .f32⟩
  | .hbm, ⟨64, _⟩ => ⟨S16x64x2048, .f32⟩
  | .hbm, ⟨65, _⟩ => ⟨S2048x10304, .f32⟩
  | .hbm, ⟨66, _⟩ => ⟨S16x64x10304, .f32⟩
  | .hbm, ⟨67, _⟩ => ⟨S32768x10304, .f32⟩
  | .hbm, ⟨68, _⟩ => ⟨S1024x10304, .f32⟩
  | .hbm, ⟨69, _⟩ => ⟨S33792x10304, .f32⟩
  | .hbm, ⟨70, _⟩ => ⟨S_, .f32⟩
  | .hbm, ⟨71, _⟩ => ⟨S33792x64, .f32⟩
  | .hbm, ⟨72, _⟩ => ⟨S33792x10368, .f32⟩
  | .hbm, ⟨73, _⟩ => ⟨S33792x10368, .bf16⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel5.lean ====
abbrev S33792x2048 : Shape := ⟨2, ![33792, 2048]⟩
abbrev S32x1x2048 : Shape := ⟨3, ![32, 1, 2048]⟩
abbrev S2048 : Shape := ⟨1, ![2048]⟩
abbrev S528 : Shape := ⟨1, ![528]⟩
abbrev S1x2048 : Shape := ⟨2, ![1, 2048]⟩
abbrev S32768x2048 : Shape := ⟨2, ![32768, 2048]⟩
abbrev S512x2048 : Shape := ⟨2, ![512, 2048]⟩
abbrev S1 : Shape := ⟨1, ![1]⟩
abbrev S64x2048 : Shape := ⟨2, ![64, 2048]⟩
abbrev S1x1x2048 : Shape := ⟨3, ![1, 1, 2048]⟩
abbrev S64 : Shape := ⟨1, ![64]⟩
abbrev S64x1 : Shape := ⟨2, ![64, 1]⟩

abbrev nBuf : Space → Nat
  | .hbm => 8
  | .vmem => 10
  | .smem => 1
  | _ => 0

abbrev bufTy : (tb : Table) → Fin (tcTables nBuf tb) → BufTy
  | .hbm, ⟨0, _⟩ => ⟨S33792x2048, .f32⟩
  | .hbm, ⟨1, _⟩ => ⟨S33792x2048, .f32⟩
  | .hbm, ⟨2, _⟩ => ⟨S32x1x2048, .f32⟩
  | .hbm, ⟨3, _⟩ => ⟨S32x1x2048, .f32⟩
  | .hbm, ⟨4, _⟩ => ⟨S32x1x2048, .f32⟩
  | .hbm, ⟨5, _⟩ => ⟨S2048, .f32⟩
  | .hbm, ⟨6, _⟩ => ⟨S1x2048, .f32⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S32x1x2048, .f32⟩
  | .local _ .vmem, ⟨5, _⟩ => ⟨S32x1x2048, .f32⟩
  | .local _ .vmem, ⟨6, _⟩ => ⟨S32x1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .smem, ⟨0, _⟩ => ⟨S528, .i32⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_0 : BitVec 32 := 0#32
  let c8_i32 : BitVec 32 := 8#32
  let v1 : BitVec 32 := Scalar.addi c0_i32_0 c8_i32
  let c1_i32 : BitVec 32 := 1#32
  ⟨c0_i32_0, v1, c1_i32⟩
def k0_off1 (i : grid0.Coords) (k0_t1 : Fin k0_t1_loop.trips) : Fin 1 → Nat :=
  let arg0 : BitVec 32 := BitVec.ofNat 32 (i 0).val
  let c0_i32 : BitVec 32 := 0#32
  let v0 : BitVec 32 := Scalar.addi arg0 c0_i32
  let c8_i32_2 : BitVec 32 := 8#32
  let v2 : BitVec 32 := Scalar.muli v0 c8_i32_2
  let c0_i32_0 : BitVec 32 := 0#32
  let c1_i32 : BitVec 32 := 1#32
  let arg9 : BitVec 32 := Scf.iv c0_i32_0 c1_i32 k0_t1
  let v3 : BitVec 32 := Scalar.addi v2 arg9
  let v4 : Index := Scalar.indexCast v3
  ![v4.toNat]
def k0_mult1 (k0_t1 : Fin k0_t1_loop.trips) : BitVec 32 :=
  let c0_i32_0 : BitVec 32 := 0#32
  let c1_i32 : BitVec 32 := 1#32
  let arg9 : BitVec 32 := Scf.iv c0_i32_0 c1_i32 k0_t1
  let c64_i32 : BitVec 32 := 64#32
  let v6 : BitVec 32 := Scalar.muli arg9 c64_i32
  v6
def k0_off2 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c64_i32 : BitVec 32 := 64#32
  let v6 : BitVec 32 := Scalar.muli arg9 c64_i32
  let v7 : BitVec 32 := v6
  let v8 : Index := Scalar.indexCast v7
  let c0 : Index := 0#32
  ![v8.toNat, 0]
def k0_off3 (v5 : BitVec 32) : Fin 3 → Nat :=
  let v10 : Index := Scalar.indexCast v5
  let c0_3 : Index := 0#32
  let c0_4 : Index := 0#32
  ![v10.toNat, 0, 0]

def k0_chk1 (v5 : BitVec 32) : Prop :=
  (∀ a, (k0_off3 v5) a + S1x1x2048.size a ≤ S32x1x2048.size a)
theorem k0_off3_inb : ∀ (v5 : BitVec 32) (k0_hw1 : k0_chk1 v5), ∀ a, (k0_off3 v5) a + S1x1x2048.size a ≤ S32x1x2048.size a := fun v5 k0_hw1 => k0_hw1

def k0_off4 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let c64_i32 : BitVec 32 := 64#32
  let v6 : BitVec 32 := Scalar.muli arg9 c64_i32
  let v7 : BitVec 32 := v6
  let v13 : Index := Scalar.indexCast v7
  let c0_5 : Index := 0#32
  ![v13.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S33792x2048 : Shape := ⟨2, ![33792, 2048]⟩
abbrev S32x1x2048 : Shape := ⟨3, ![32, 1, 2048]⟩
abbrev S2048 : Shape := ⟨1, ![2048]⟩
abbrev S32768x2048 : Shape := ⟨2, ![32768, 2048]⟩
abbrev S16x2048x2048 : Shape := ⟨3, ![16, 2048, 2048]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S33792x2048, .f32⟩
  | .hbm, ⟨2, _⟩ => ⟨S32x1x2048, .f32⟩
  | .hbm, ⟨3, _⟩ => ⟨S32x1x2048, .f32⟩
  | .hbm, ⟨4, _⟩ => ⟨S32x1x2048, .f32⟩
  | .hbm, ⟨5, _⟩ => ⟨S2048, .f32⟩
  | .hbm, ⟨6, _⟩ => ⟨S32768x2048, .f32⟩
  | .hbm, ⟨7, _⟩ => ⟨S16x2048x2048, .f32⟩
  | .hbm, ⟨8, _⟩ => ⟨S32768x2048, .f32⟩
  | .hbm, ⟨9, _⟩ => ⟨S16x2048x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S1x1x2048, .f32⟩
  | .hbm, ⟨28, _⟩ => ⟨S16x2048x2048, .f32⟩
  | .hbm, ⟨29, _⟩ => ⟨S16x2048x2048, .f32⟩
  | .hbm, ⟨30, _⟩ => ⟨S16x1x2048, .f32⟩
  | .hbm, ⟨31, _⟩ => ⟨S16x1x2048, .f32⟩
  | .hbm, ⟨32, _⟩ => ⟨S_, .f32⟩
  | .hbm, ⟨33, _⟩ => ⟨S16x1x2048, .f32⟩
  | .hbm, ⟨34, _⟩ => ⟨S16x1x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S32768x2048, .f32⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Soft.lean ====
/- The two spellings of one attention row over the extended reals: the weighted sum of the values divided by the
   weights' sum after it (the kernel), or each weight divided first (the reference). -/
module

public import Idealize.ShloMosaic.Lib.Pointwise
public import Idealize.ShloMosaic.PureOps.Ideal.Laws

@[expose] public section

noncomputable section

namespace Cert.Soft

open Idealize.ShloMosaic

/-- The largest score of a row, the sink included. -/
def top {K : ℕ} (sc : Fin K → EReal) (sink : EReal) : EReal :=
  max (Finset.fold max (⊥ : EReal) (fun x => sc x) Finset.univ) sink

/-- The sum of the weights of a row, the sink's included. -/
def den {K : ℕ} (sc : Fin K → EReal) (sink : EReal) : EReal :=
  (∑ x, Ideal.exp (sc x - top sc sink)) + Ideal.exp (sink - top sc sink)

/-- The row as the kernel has it. -/
def late {K : ℕ} (sc v : Fin K → EReal) (sink : EReal) : EReal :=
  (∑ x, Ideal.exp (sc x - top sc sink) * v x) * Ideal.div 1 (den sc sink)

/-- The row as the reference has it. -/
def early {K : ℕ} (sc v : Fin K → EReal) (sink : EReal) : EReal :=
  ∑ x, v x * Ideal.div (Ideal.exp (sc x - top sc sink)) (den sc sink)

theorem exp_real (x : EReal) (h : x ≠ ⊤) : ∃ r : ℝ, 0 ≤ r ∧ Ideal.exp x = (r : EReal) := by
  induction x using EReal.rec with
  | bot => exact ⟨0, le_rfl, rfl⟩
  | top => exact absurd rfl h
  | coe r => exact ⟨Real.exp r, (Real.exp_pos r).le, rfl⟩

theorem sum_mul_real {K : ℕ} (f : Fin K → EReal) (c : ℝ) (hc : 0 ≤ c) :
    (∑ x, f x) * (c : EReal) = ∑ x, f x * (c : EReal) := by
  have key : ∀ s : Finset (Fin K), (∑ x ∈ s, f x) * (c : EReal) = ∑ x ∈ s, f x * (c : EReal) := by
    intro s
    induction s using Finset.induction_on with
    | empty => simp
    | insert a s ha ih =>
      rw [Finset.sum_insert ha, Finset.sum_insert ha, ← ih,
        EReal.right_distrib_of_nonneg_of_ne_top (EReal.coe_nonneg.mpr hc) (EReal.coe_ne_top c)]
  exact key Finset.univ

theorem coe_sum {K : ℕ} (f : Fin K → ℝ) : ((∑ x, f x : ℝ) : EReal) = ∑ x, (f x : EReal) := by
  have key : ∀ s : Finset (Fin K), ((∑ x ∈ s, f x : ℝ) : EReal) = ∑ x ∈ s, (f x : EReal) := by
    intro s
    induction s using Finset.induction_on with
    | empty => simp
    | insert a s ha ih => rw [Finset.sum_insert ha, Finset.sum_insert ha, EReal.coe_add, ih]
  exact key Finset.univ

theorem late_eq_early {K : ℕ} (sc v : Fin K → EReal) (r : ℝ) (hsc : ∀ x, sc x ≠ ⊤) :
    late sc v (r : EReal) = early sc v (r : EReal) := by
  have hlt : top sc (r : EReal) < ⊤ := by
    unfold top
    refine max_lt ?_ (EReal.coe_lt_top r)
    exact (Finset.fold_max_lt _).mpr ⟨bot_lt_top, fun x _ => lt_top_iff_ne_top.mpr (hsc x)⟩
  have hgt : ⊥ < top sc (r : EReal) := lt_of_lt_of_le (EReal.bot_lt_coe r) (le_max_right _ _)
  obtain ⟨M, hM⟩ : ∃ M : ℝ, top sc (r : EReal) = (M : EReal) :=
    ⟨(top sc (r : EReal)).toReal, (EReal.coe_toReal hlt.ne hgt.ne').symm⟩
  have hw : ∀ x, ∃ e : ℝ, 0 ≤ e ∧ Ideal.exp (sc x - (M : EReal)) = (e : EReal) := fun x => by
    refine exp_real _ fun h => hsc x ?_
    generalize sc x = y at h ⊢
    induction y using EReal.rec with
    | bot => simp at h
    | top => rfl
    | coe y => exact absurd h (by rw [← EReal.coe_sub]; exact EReal.coe_ne_top _)
  choose e he0 he using hw
  have hs : Ideal.exp ((r : EReal) - (M : EReal)) = (Real.exp (r - M) : EReal) := by
    rw [← EReal.coe_sub]; rfl
  have hden : den sc (r : EReal) = ((∑ x, e x + Real.exp (r - M) : ℝ) : EReal) := by
    unfold den
    rw [hM, hs, EReal.coe_add, coe_sum]
    simp only [he]
  have hpos : 0 < ∑ x, e x + Real.exp (r - M) :=
    add_pos_of_nonneg_of_pos (Finset.sum_nonneg fun x _ => he0 x) (Real.exp_pos _)
  generalize hd : (∑ x, e x + Real.exp (r - M) : ℝ) = d at hden hpos
  have hd0 : (d : EReal) ≠ 0 := by exact_mod_cast hpos.ne'
  unfold late early
  simp only [hM, he, hden, Ideal.div, if_neg hd0]
  rw [one_mul, ← EReal.coe_inv, sum_mul_real _ _ (inv_nonneg.mpr hpos.le)]
  refine Finset.sum_congr rfl fun x _ => ?_
  rw [mul_comm (e x : EReal) (v x), mul_assoc]

end Cert.Soft

end
-- ==== Proof.Tables.lean ====
/- The two prefetched tables of the kernel: where a query block's own rows begin in the extended keys and values,
   and how many of its three key blocks lie before the sequence. -/
module

public import proofs.«01_k».proof.Proof.Gen.KernelIdeal.Frame.Runs
public import Idealize.ShloMosaic.Lib.Claim

@[expose] public section

set_option maxRecDepth 16384

noncomputable section

namespace Cert.KernelIdeal.Tables

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

/-- The region finds the first table at its literal. -/
theorem V_ext (c : Dev nD) : V m c main_c = (fun i => lit0 (S528.rowMajor i) : Vec F S528 .i32) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

/-- The region finds the second table at its literal. -/
theorem V_ninv (c : Dev nD) : V m c main_c_0 = (fun i => lit1 (S528.rowMajor i) : Vec F S528 .i32) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

/-- The first of the three key blocks that query block `k` reads: two blocks of padding precede each of the sixteen
    prompts of thirty-two blocks, two blocks of cache each of the sixteen samples of one block. -/
def base (k : ℕ) : ℕ := if k < 512 then 34 * (k / 32) + k % 32 else 544 + 3 * (k - 512)

/-- How many of the three key blocks of query block `k` are padding. -/
def ninv (k : ℕ) : ℕ := if k < 512 then 2 - k % 32 else 0

theorem lit0_base : ∀ k : Fin 528, (lit0 k - 2#32 + 0#32).toNat = base k ∧ (lit0 k - 2#32 + 1#32).toNat = base k + 1
    ∧ (lit0 k - 2#32 + 2#32).toNat = base k + 2 := by
  decide +kernel

theorem lit1_ninv : ∀ k : Fin 528, lit1 k = BitVec.ofNat 32 (ninv k) := by
  decide +kernel

theorem base_lt : ∀ k : Fin 528, base k + 2 < 592 := by
  decide +kernel

theorem rowMajor_528 (i : S528.Idx) : S528.rowMajor i = (i 0 : Fin 528) :=
  Fin.ext (Shape.rowMajor_val_one i)

theorem emb_one (n : ℕ) (h) (x : S1.Idx) : (((Rect.unit (s := S528) ![n] S1.size h).emb x) 0 : ℕ) = n := by
  rw [Rect.emb_apply]
  have h0 : (x 0).val < 1 := (x 0).isLt
  have h1 : (x 0).val = 0 := by omega
  simp [h1]

/-- What an index map reads of the first table at a grid point. -/
theorem tbl_ext (i : grid0.Coords) (h) : (tbl m).at 0 (Rect.unit (s := S528) ![(BitVec.ofNat 32 (i 0).val : BitVec 32).toNat] S1.size h) numel1_S1
    = lit0 (i 0) := by
  have hi : (i 0).val < 528 := (i 0).isLt
  have e := V_ext m (0 : Dev nD)
  refine (congrFun e _).trans (congrArg lit0 ?_)
  refine (rowMajor_528 _).trans (Fin.ext ((emb_one _ _ _).trans ?_))
  rw [BitVec.toNat_ofNat]; exact Nat.mod_eq_of_lt (by omega)

theorem transform_2 (i : grid0.Coords) : cc0_transform_2 k0_off1_inb numel1_S1 (tbl m) i = ![base (i 0).val, 0] := by
  have e := tbl_ext m i (k0_off1_inb i)
  exact (congrArg (fun w : BitVec 32 => ![(w - 2#32 + 0#32).toNat, 0]) e).trans (congrArg (fun n => ![n, 0]) (lit0_base (i 0)).1)

theorem transform_3 (i : grid0.Coords) : cc0_transform_3 k0_off1_inb numel1_S1 (tbl m) i = ![base (i 0).val + 1, 0] := by
  have e := tbl_ext m i (k0_off1_inb i)
  exact (congrArg (fun w : BitVec 32 => ![(w - 2#32 + 1#32).toNat, 0]) e).trans (congrArg (fun n => ![n, 0]) (lit0_base (i 0)).2.1)

theorem transform_4 (i : grid0.Coords) : cc0_transform_4 k0_off1_inb numel1_S1 (tbl m) i = ![base (i 0).val + 2, 0] := by
  have e := tbl_ext m i (k0_off1_inb i)
  exact (congrArg (fun w : BitVec 32 => ![(w - 2#32 + 2#32).toNat, 0]) e).trans (congrArg (fun n => ![n, 0]) (lit0_base (i 0)).2.2)

theorem inb (n : ℕ) (hn : n < 592) : ∀ a, ((![n, 0] : Fin 2 → ℕ) a + 1) * S64x512.size a ≤ S37888x512.size a := by
  intro a
  match a with
  | ⟨0, _⟩ => show (n + 1) * 64 ≤ 37888; omega
  | ⟨1, _⟩ => show (0 + 1) * 512 ≤ 512; omega

/-- Every block that the index maps read off the table lies inside the extended keys and values. -/
theorem ok : Ok m := by
  refine ⟨fun i => ?_, fun i => ?_, fun i => ?_⟩
  · rw [transform_2 m i]; exact ⟨inb _ (by have := base_lt (i 0); omega), Or.inl rfl⟩
  · rw [transform_3 m i]; exact ⟨inb _ (by have := base_lt (i 0); omega), Or.inl rfl⟩
  · rw [transform_4 m i]; exact ⟨inb _ (base_lt (i 0)), Or.inl rfl⟩

end Cert.KernelIdeal.Tables

end
-- ==== Proof.Head.lean ====
/- One head of the attention at one grid point, written once as an operation chain over the head's score inputs,
   and the fact that the sixteen stores of the body are, pair of heads by pair of heads, this chain. -/
module

public import proofs.«01_k».proof.Proof.Tables
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Head

open Idealize.ShloMosaic Idealize.ShloMosaic.TcCoe Idealize.SL.Sem
open Cert.KernelIdeal Cert.KernelIdeal.Gen

variable {F : FTy → Type} [FloatOps F]

/-- The words of the slopes, one per head. -/
def slopeW : Fin 32 → BitVec 32 :=
  ![0x3F5744FD#32, 0x3F3504F3#32, 0x3F1837F0#32, 0x3F000000#32, 0x3ED744FD#32, 0x3EB504F3#32, 0x3E9837F0#32,
    0x3E800000#32, 0x3E5744FD#32, 0x3E3504F3#32, 0x3E1837F0#32, 0x3E000000#32, 0x3DD744FD#32, 0x3DB504F3#32,
    0x3D9837F0#32, 0x3D800000#32, 0x3D5744FD#32, 0x3D3504F3#32, 0x3D1837F0#32, 0x3D000000#32, 0x3CD744FD#32,
    0x3CB504F3#32, 0x3C9837F0#32, 0x3C800000#32, 0x3C5744FD#32, 0x3C3504F3#32, 0x3C1837F0#32, 0x3C000000#32,
    0x3BD744FD#32, 0x3BB504F3#32, 0x3B9837F0#32, 0x3B800000#32]

/-- The scores of one head: the scaled products of queries and keys, less slope times distance, plus the mask. -/
def scores (w : BitVec 32) (mask : FVec F S64x192 .f32) (kg : FVec F S192x64 .bf16) (q : Vec F S64x64 .bf16) :
    FVec F S64x192 .f32 :=
  addf (subf (mulf (matmul dot_S64x64_S192x64_S64x192_1_1_0_0_n_n none q kg (constant S64x192 .f32 0x00000000#32))
      (broadcast S64x192 (Scalar.ofBits .f32 0x3E000000#32 : F .f32)))
    (mulf (broadcast S64x192 (Scalar.ofBits .f32 w : F .f32)) (k0_pay1 (F := F)))) mask

/-- The row maximum of the scores, and the sink. -/
def top (sc : FVec F S64x192 .f32) (sink : Elt F .f32) : FVec F S64x1 .f32 :=
  maximumf (shapeCast S64x1 (multiReduction .maximumf [1] S64 sc 0xFF800000#32 reduces_S64x192_S64 (.inl rfl) rfl)
    shapeCasts_S64_S64x1) (broadcast S64x1 sink)

/-- The weights before they are divided by their sum. -/
def weights (sc : FVec F S64x192 .f32) (sink : Elt F .f32) : FVec F S64x192 .f32 :=
  exp (subf sc (broadcastTo S64x192 (top sc sink) broadcasts_S64x1_S64x192))

/-- The sum of the weights, the sink's included. -/
def denom (sc : FVec F S64x192 .f32) (sink : Elt F .f32) : FVec F S64x1 .f32 :=
  addf (shapeCast S64x1 (multiReduction .add [1] S64 (weights sc sink) 0x00000000#32 reduces_S64x192_S64 (.inl rfl) rfl)
    shapeCasts_S64_S64x1) (exp (subf (broadcast S64x1 sink) (top sc sink)))

/-- One head's output from its scores. -/
def soft (sc : FVec F S64x192 .f32) (vg : FVec F S192x64 .bf16) (sink : Elt F .f32) : FVec F S64x64 .f32 :=
  mulf (matmul dot_S64x192_S192x64_S64x64_1_0_0_1_n_n none (truncf .bf16 (weights sc sink) bitsLt_bf16_f32) vg
      (constant S64x64 .f32 0x00000000#32))
    (broadcastTo S64x64 (divf (broadcast S64x1 (Scalar.ofBits .f32 0x3F800000#32 : F .f32)) (denom sc sink))
      broadcasts_S64x1_S64x64)

theorem inb_q (h : Fin 32) : ∀ a, (![0, 64 * h.val] : Fin 2 → ℕ) a + S64x64.size a ≤ S64x2048.size a := by
  revert h; decide

theorem inb_k (g : Fin 4) : ∀ a, (![0, 64 * g.val] : Fin 2 → ℕ) a + S64x64.size a ≤ S64x512.size a := by
  revert g; decide

theorem inb_v (g : Fin 4) : ∀ a, (![0, 256 + 64 * g.val] : Fin 2 → ℕ) a + S64x64.size a ≤ S64x512.size a := by
  revert g; decide

theorem inb_s (h : Fin 32) : ∀ a, (![h.val] : Fin 1 → ℕ) a + S1.size a ≤ S32.size a := by
  revert h; decide

theorem inb_o (j : Fin 16) : ∀ a, (![0, 128 * j.val] : Fin 2 → ℕ) a + S64x128.size a ≤ S64x2048.size a := by
  revert j; decide

/-- The output of head `h`, of group `h / 8`, from the point's blocks. -/
def head (v8 : Elt F .i32) (x0 : Vec F S32 .f32) (x1 : Vec F S64x2048 .bf16) (x2 x3 x4 : Vec F S64x512 .f32)
    (h : Fin 32) (g : Fin 4) : FVec F S64x64 .f32 :=
  soft (scores (slopeW h) (k0_pay2 v8)
      (k0_pay3 (View.ld x2 (Rect.unit ![0, 64 * g.val] S64x64.size (inb_k g)))
        (View.ld x3 (Rect.unit ![0, 64 * g.val] S64x64.size (inb_k g)))
        (View.ld x4 (Rect.unit ![0, 64 * g.val] S64x64.size (inb_k g))))
      (View.ld x1 (Rect.unit ![0, 64 * h.val] S64x64.size (inb_q h))))
    (k0_pay3 (View.ld x2 (Rect.unit ![0, 256 + 64 * g.val] S64x64.size (inb_v g)))
      (View.ld x3 (Rect.unit ![0, 256 + 64 * g.val] S64x64.size (inb_v g)))
      (View.ld x4 (Rect.unit ![0, 256 + 64 * g.val] S64x64.size (inb_v g))))
    (View.ld x0 (Rect.unit ![h.val] S1.size (inb_s h)) (Shape.Idx.first (show 0 < S1.numel by decide)))

/-- What one store of the body writes: two heads beside each other. -/
def pair (v8 : Elt F .i32) (x0 : Vec F S32 .f32) (x1 : Vec F S64x2048 .bf16) (x2 x3 x4 : Vec F S64x512 .f32)
    (h h' : Fin 32) (g : Fin 4) : FVec F S64x128 .bf16 :=
  truncf .bf16 (concatenate S64x128 1 [⟨S64x64, head v8 x0 x1 x2 x3 x4 h g⟩, ⟨S64x64, head v8 x0 x1 x2 x3 x4 h' g⟩]
    concatenates_S64x64_S64x64_S64x128_d1) bitsLt_bf16_f32

/-- The store of the pair `j`. -/
def piece (v8 : Elt F .i32) (x0 : Vec F S32 .f32) (x1 : Vec F S64x2048 .bf16) (x2 x3 x4 : Vec F S64x512 .f32)
    (j : Fin 16) : View.Piece (Elt F) S64x2048 .bf16 :=
  ⟨Rect.unit ![0, 128 * j.val] S64x128.size (inb_o j),
    pair v8 x0 x1 x2 x3 x4 ⟨2 * j.val, by omega⟩ ⟨2 * j.val + 1, by omega⟩ ⟨j.val / 4, by omega⟩⟩

/-- The word of the mask's table that a point reads. -/
def word (i : grid0.Coords) (xt : Vec F S528 .i32) : Elt F .i32 :=
  View.ld xt (Rect.unit (k0_off1 i) S1.size (k0_off1_inb i)) (Shape.Idx.first (show 0 < S1.numel by decide))

set_option maxHeartbeats 4000000 in
theorem pieces_eq (c : Dev nD) (i : grid0.Coords) (arg3 : Memref sig .tc .smem S32 .f32) (harg3 : arg3.IsWhole)
    (arg4 : Memref sig .tc .vmem S64x2048 .bf16) (harg4 : arg4.IsWhole)
    (arg5 : Memref sig .tc .vmem S64x512 .f32) (harg5 : arg5.IsWhole)
    (arg6 : Memref sig .tc .vmem S64x512 .f32) (harg6 : arg6.IsWhole)
    (arg7 : Memref sig .tc .vmem S64x512 .f32) (harg7 : arg7.IsWhole)
    (arg8 : Memref sig .tc .vmem S64x2048 .bf16) (harg8 : arg8.IsWhole)
    (x0 : Vec F S32 .f32) (x1 : Vec F S64x2048 .bf16) (x2 x3 x4 : Vec F S64x512 .f32)
    (xt0 : TbBuf0 (F := F) c tbM0_0) (xt1 : TbBuf0 (F := F) c tbM0_1) :
    (kernelRun0_A c i arg3 harg3 arg4 harg4 arg5 harg5 arg6 harg6 arg7 harg7 arg8 harg8 x0 x1 x2 x3 x4 xt0 xt1).1
      = [15, 14, 13, 12, 11, 10, 9, 8, 7, 6, 5, 4, 3, 2, 1, 0].map
          (piece (word i xt1) (arg3.view.read (Elt F) (harg3.unread x0)) (arg4.view.read (Elt F) (harg4.unread x1))
            (arg5.view.read (Elt F) (harg5.unread x2)) (arg6.view.read (Elt F) (harg6.unread x3))
            (arg7.view.read (Elt F) (harg7.unread x4))) := by
  sl_kernel_rfl

end Cert.KernelIdeal.Head

end
-- ==== Proof.Spec.lean ====
/- The attention in closed form over the arguments: which key and value a chunk of queries reads at a window position,
   the scores, and the result. -/
module

public import proofs.«01_k».proof.Proof.Soft
public import proofs.«01_k».proof.Proof.Head

@[expose] public section

set_option maxRecDepth 16384

noncomputable section

namespace Cert.Spec

open Idealize.ShloMosaic Idealize.ShloMosaic.TcCoe
open Cert.KernelIdeal

/-- Chunk `n` of 64 queries sees window position `s`: a prompt of 32 chunks has no keys before its start. -/
def Seen (n : Fin 528) (s : Fin 192) : Prop := ¬(n.val < 512 ∧ 64 * (n.val % 32) + s.val < 128)

instance (n : Fin 528) (s : Fin 192) : Decidable (Seen n s) := inferInstanceAs (Decidable (¬ _))

/-- The key (half `o = 0`) or value (half `o = 1`) of group `g` at window position `s` of chunk `n`. -/
def kvAt (kv : Vec Ideal S33792x512 .f32) (cache : Vec Ideal S16x128x4x64 .f32) (o : Fin 2) (n : Fin 528) (s : Fin 192)
    (g : Fin 4) (d : Fin 64) : EReal :=
  if n.val < 512 ∧ 64 * (n.val % 32) + s.val < 128 then 0
  else if h : 512 ≤ n.val ∧ s.val < 128 then cache (ix4 ⟨n.val - 512, by omega⟩ ⟨s.val, h.2⟩ g d)
  else kv (ix2 ⟨64 * n.val + s.val - 128, by omega⟩ ⟨256 * o.val + (64 * g.val + d.val), by omega⟩)

/-- The distance of query `t` of a chunk from window position `s`. -/
def dist (t : Fin 64) (s : Fin 192) : EReal :=
  FloatOps.sitofp (F := Ideal) .f32 (IntOp.absi (IntOp.subi (IntOp.addi (BitVec.ofNat 32 t.val) 128#32) (BitVec.ofNat 32 s.val)))

/-- The scaled product of a query and a key less the head's slope times their distance. -/
def raw (q : Vec Ideal S33792x2048 .bf16) (kv : Vec Ideal S33792x512 .f32) (ck : Vec Ideal S16x128x4x64 .f32)
    (n : Fin 528) (h : Fin 32) (t : Fin 64) (s : Fin 192) : EReal :=
  (∑ d : Fin 64, q (ix2 ⟨64 * n.val + t.val, by omega⟩ ⟨64 * h.val + d.val, by omega⟩)
      * kvAt kv ck 0 n s ⟨h.val / 8, by omega⟩ d) * Ideal.ofBits .f32 0x3E000000#32
    - Ideal.ofBits .f32 (Head.slopeW h) * dist t s

/-- The score: minus infinity where the window reaches before the prompt. -/
def score (q : Vec Ideal S33792x2048 .bf16) (kv : Vec Ideal S33792x512 .f32) (ck : Vec Ideal S16x128x4x64 .f32)
    (n : Fin 528) (h : Fin 32) (t : Fin 64) (s : Fin 192) : EReal :=
  if Seen n s then raw q kv ck n h t s else ⊥

/-- The result as the kernel has it. -/
def outLate (q : Vec Ideal S33792x2048 .bf16) (kv : Vec Ideal S33792x512 .f32) (ck cv : Vec Ideal S16x128x4x64 .f32)
    (sinks : Vec Ideal S1x32 .f32) (n : Fin 528) (t : Fin 64) (h : Fin 32) (d : Fin 64) : EReal :=
  Soft.late (score q kv ck n h t) (fun s => kvAt kv cv 1 n s ⟨h.val / 8, by omega⟩ d) (sinks (ix2 0 h))

/-- The result as the reference has it. -/
def outEarly (q : Vec Ideal S33792x2048 .bf16) (kv : Vec Ideal S33792x512 .f32) (ck cv : Vec Ideal S16x128x4x64 .f32)
    (sinks : Vec Ideal S1x32 .f32) (n : Fin 528) (t : Fin 64) (h : Fin 32) (d : Fin 64) : EReal :=
  Soft.early (score q kv ck n h t) (fun s => kvAt kv cv 1 n s ⟨h.val / 8, by omega⟩ d) (sinks (ix2 0 h))

/-- An extended real that is a real. -/
def IsReal (x : EReal) : Prop := ∃ r : ℝ, x = (r : EReal)

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_sum {K : ℕ} (f : Fin K → EReal) (h : ∀ x, IsReal (f x)) : IsReal (∑ x, f x) := by
  choose e he using h
  exact ⟨∑ x, e x, by rw [Soft.coe_sum]; exact Finset.sum_congr rfl fun x _ => he x⟩

/-- A word whose exponent is not the largest is a real. -/
theorem isReal_ofBits (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

theorem isReal_slope (h : Fin 32) : IsReal (Ideal.ofBits .f32 (Head.slopeW h)) :=
  isReal_ofBits _ (by revert h; decide)

theorem isReal_scale : IsReal (Ideal.ofBits .f32 0x3E000000#32) := isReal_ofBits _ (by decide)

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- Finite queries, keys and sinks make every score less than infinity, and the two forms agree. -/
theorem late_eq_early (q : Vec Ideal S33792x2048 .bf16) (kv : Vec Ideal S33792x512 .f32)
    (ck cv : Vec Ideal S16x128x4x64 .f32) (sinks : Vec Ideal S1x32 .f32)
    (hq : ∀ i j, IsReal (q (ix2 i j))) (hk : ∀ i (j : Fin 512), j.val < 256 → IsReal (kv (ix2 i j)))
    (hc : ∀ a b c d, IsReal (ck (ix4 a b c d))) (hs : ∀ h, IsReal (sinks (ix2 0 h)))
    (n : Fin 528) (t : Fin 64) (h : Fin 32) (d : Fin 64) :
    outLate q kv ck cv sinks n t h d = outEarly q kv ck cv sinks n t h d := by
  obtain ⟨r, hr⟩ := hs h
  unfold outLate outEarly
  rw [hr]
  refine Soft.late_eq_early _ _ r fun s => ?_
  unfold score
  split_ifs with hv
  · have hraw : IsReal (raw q kv ck n h t s) := by
      refine isReal_sub (isReal_mul (isReal_sum _ fun d => isReal_mul (hq _ _) ?_) isReal_scale)
        (isReal_mul (isReal_slope h) ⟨_, rfl⟩)
      unfold kvAt
      split_ifs
      · exact ⟨0, rfl⟩
      · exact hc _ _ _ _
      · exact hk _ _ (by show 256 * 0 + (64 * (h.val / 8) + d.val) < 256; omega)
    obtain ⟨x, hx⟩ := hraw
    rw [hx]; exact EReal.coe_ne_top x
  · exact bot_ne_top

end Cert.Spec

end
-- ==== Proof.Host.lean ====
/- What the launch finds in the arrays that the host code prepares: the padded keys and values, and the sinks. -/
module

public import proofs.«01_k».proof.Proof.Spec

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ)

/-- The prompts' part of the array of keys and values: each prompt after two blocks of zeros. -/
def prompts (kv : Vec Ideal S33792x512 .f32) : Vec Ideal S34816x512 .f32 :=
  shapeCast S34816x512 (pad S16x2176x512 ![0, 128, 0] ![0, 0, 0] ![0, 0, 0]
      (shapeCast S16x2048x512 (extractStridedSlice S32768x512 ![0, 0] kv slices_S33792x512_S32768x512_0_0)
        shapeCasts_S32768x512_S16x2048x512)
      (sitofp (F := Ideal) .f32 (constantI S_ 32 0#32)) pads_S16x2048x512_S16x2176x512_000_12800_000 h_S_)
    shapeCasts_S16x2176x512_S34816x512

/-- The samples' part: each sample after its cache. -/
def samples (kv : Vec Ideal S33792x512 .f32) (ck cv : Vec Ideal S16x128x4x64 .f32) : Vec Ideal S3072x512 .f32 :=
  shapeCast S3072x512 (concatenate S16x192x512 1
      [⟨S16x128x512, concatenate S16x128x512 2
          [⟨S16x128x256, shapeCast S16x128x256 ck shapeCasts_S16x128x4x64_S16x128x256⟩,
           ⟨S16x128x256, shapeCast S16x128x256 cv shapeCasts_S16x128x4x64_S16x128x256⟩]
          concatenates_S16x128x256_S16x128x256_S16x128x512_d2⟩,
       ⟨S16x64x512, shapeCast S16x64x512 (extractStridedSlice S1024x512 ![32768, 0] kv slices_S33792x512_S1024x512_32768_0)
          shapeCasts_S1024x512_S16x64x512⟩]
      concatenates_S16x128x512_S16x64x512_S16x192x512_d1) shapeCasts_S16x192x512_S3072x512

/-- The array of keys and values that the launch reads. -/
def kvExt (kv : Vec Ideal S33792x512 .f32) (ck cv : Vec Ideal S16x128x4x64 .f32) : Vec Ideal S37888x512 .f32 :=
  concatenate S37888x512 0 [⟨S34816x512, prompts kv⟩, ⟨S3072x512, samples kv ck cv⟩]
    concatenates_S34816x512_S3072x512_S37888x512_d0

theorem V_kv (c : Dev nD) : V m c main_v11
    = kvExt (m ((c.tc : Thread nD τ).loc main_arg1)) (m ((c.tc : Thread nD τ).loc main_arg2))
      (m ((c.tc : Thread nD τ).loc main_arg3)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

theorem V_sinks (c : Dev nD) : V m c main_v12
    = shapeCast S32 (m ((c.tc : Thread nD τ).loc main_arg4) : Vec Ideal S1x32 .f32) shapeCasts_S1x32_S32 := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

theorem prompts_at (kv : Vec Ideal S33792x512 .f32) (r : Fin 34816) (l : Fin 512) :
    prompts kv (ix2 r l) = if h : 128 ≤ r.val % 2176 then
      kv (ix2 ⟨r.val / 2176 * 2048 + (r.val % 2176 - 128), by omega⟩ l) else 0 := by
  pointwise [prompts]
  by_cases h : 128 ≤ r.val % 2176
  · rw [dif_pos ⟨by omega, h, by omega⟩, dif_pos h]
  · rw [dif_neg (fun h' => h h'.2.1), dif_neg h]
    show (((0#32 : BitVec 32).toInt : ℝ) : EReal) = 0
    simp

theorem samples_at (kv : Vec Ideal S33792x512 .f32) (ck cv : Vec Ideal S16x128x4x64 .f32) (r : Fin 3072) (l : Fin 512) :
    samples kv ck cv (ix2 r l) = if h : r.val % 192 < 128 then
      if h' : l.val < 256 then
        ck (ix4 ⟨r.val / 192, by omega⟩ ⟨r.val % 192, h⟩ ⟨l.val / 64, by omega⟩ ⟨l.val % 64, by omega⟩)
      else cv (ix4 ⟨r.val / 192, by omega⟩ ⟨r.val % 192, h⟩ ⟨(l.val - 256) / 64, by omega⟩ ⟨(l.val - 256) % 64, by omega⟩)
    else kv (ix2 ⟨32768 + (r.val / 192 * 64 + (r.val % 192 - 128)), by omega⟩ l) := by
  pointwise [samples]

theorem kvExt_at (kv : Vec Ideal S33792x512 .f32) (ck cv : Vec Ideal S16x128x4x64 .f32) (r : Fin 37888) (l : Fin 512) :
    kvExt kv ck cv (ix2 r l) = if h : r.val < 34816 then prompts kv (ix2 ⟨r.val, h⟩ l)
      else samples kv ck cv (ix2 ⟨r.val - 34816, by omega⟩ l) := by
  pointwise [kvExt]

/-- The key that the launch's array holds at window position `s` of chunk `n`. -/
theorem kvExt_key (kv : Vec Ideal S33792x512 .f32) (ck cv : Vec Ideal S16x128x4x64 .f32) (n : Fin 528) (s : Fin 192)
    (g : Fin 4) (d : Fin 64) (r : Fin 37888) (l : Fin 512) (hr : r.val = 64 * Tables.base n.val + s.val)
    (hl : l.val = 64 * g.val + d.val) : kvExt kv ck cv (ix2 r l) = Spec.kvAt kv ck 0 n s g d := by
  rw [kvExt_at]
  unfold Tables.base at hr
  unfold Spec.kvAt
  by_cases hn : n.val < 512
  · rw [if_pos hn] at hr
    rw [dif_pos (by omega), prompts_at, dif_neg (c := 512 ≤ n.val ∧ s.val < 128) (by omega)]
    by_cases hc : 64 * (n.val % 32) + s.val < 128
    · rw [dif_neg (by show ¬ 128 ≤ r.val % 2176; omega), if_pos ⟨hn, hc⟩]
    · rw [dif_pos (by show 128 ≤ r.val % 2176; omega), if_neg (by omega)]
      blk_ext
  · rw [if_neg hn] at hr
    rw [dif_neg (by omega), samples_at, if_neg (by omega)]
    by_cases hc : s.val < 128
    · rw [dif_pos (by show (r.val - 34816) % 192 < 128; omega), dif_pos (by omega), dif_pos (by omega)]
      blk_ext
    · rw [dif_neg (by show ¬ (r.val - 34816) % 192 < 128; omega), dif_neg (by omega)]
      blk_ext

/-- The value that the launch's array holds at window position `s` of chunk `n`. -/
theorem kvExt_val (kv : Vec Ideal S33792x512 .f32) (ck cv : Vec Ideal S16x128x4x64 .f32) (n : Fin 528) (s : Fin 192)
    (g : Fin 4) (d : Fin 64) (r : Fin 37888) (l : Fin 512) (hr : r.val = 64 * Tables.base n.val + s.val)
    (hl : l.val = 256 + 64 * g.val + d.val) : kvExt kv ck cv (ix2 r l) = Spec.kvAt kv cv 1 n s g d := by
  rw [kvExt_at]
  unfold Tables.base at hr
  unfold Spec.kvAt
  by_cases hn : n.val < 512
  · rw [if_pos hn] at hr
    rw [dif_pos (by omega), prompts_at, dif_neg (c := 512 ≤ n.val ∧ s.val < 128) (by omega)]
    by_cases hc : 64 * (n.val % 32) + s.val < 128
    · rw [dif_neg (by show ¬ 128 ≤ r.val % 2176; omega), if_pos ⟨hn, hc⟩]
    · rw [dif_pos (by show 128 ≤ r.val % 2176; omega), if_neg (by omega)]
      blk_ext
  · rw [if_neg hn] at hr
    rw [dif_neg (by omega), samples_at, if_neg (by omega)]
    by_cases hc : s.val < 128
    · rw [dif_pos (by show (r.val - 34816) % 192 < 128; omega), dif_neg (by omega), dif_pos (by omega)]
      blk_ext
    · rw [dif_neg (by show ¬ (r.val - 34816) % 192 < 128; omega), dif_neg (by omega)]
      blk_ext

end Cert.KernelIdeal.Host

end
-- ==== Proof.HeadAt.lean ====
/- One head of the attention at one grid point, element by element: the closed form of `Spec.outLate`. -/
module

public import proofs.«01_k».proof.Proof.Spec
public import proofs.«01_k».proof.Proof.Host
public import Idealize.ShloMosaic.Lib.Pointwise

@[expose] public section

set_option maxRecDepth 16384

noncomputable section

namespace Cert.KernelIdeal.Head

open Idealize.ShloMosaic Idealize.ShloMosaic.TcCoe
open Cert.KernelIdeal Cert.KernelIdeal.Gen

theorem cmp_mask : ∀ (k : Fin 3) (s : Fin 192),
    IntOp.cmpi .sge (BitVec.ofNat 32 s.val) (IntOp.muli (BitVec.ofNat 32 k.val) 64#32) = if 64 * k.val ≤ s.val then 1#1 else 0#1 := by
  decide +kernel

/-- The mask is zero at the positions that the chunk sees, minus infinity at the others. -/
theorem mask_at (n : Fin 528) (t : Fin 64) (s : Fin 192) :
    k0_pay2 (F := Ideal) (BitVec.ofNat 32 (Tables.ninv n.val)) (ix2 t s) = if Spec.Seen n s then (0 : EReal) else ⊥ := by
  have hk : Tables.ninv n.val < 3 := by unfold Tables.ninv; split_ifs <;> omega
  have hs : Spec.Seen n s ↔ 64 * Tables.ninv n.val ≤ s.val := by
    unfold Spec.Seen Tables.ninv; split_ifs <;> omega
  have hc := cmp_mask ⟨Tables.ninv n.val, hk⟩ s
  pointwise [k0_pay2]
  rw [Spec.ofBits_bot]
  refine (congrArg (fun b => Scalar.select b (0 : EReal) ⊥) hc).trans ?_
  by_cases h : Spec.Seen n s
  · rw [if_pos h, if_pos (hs.1 h)]; rfl
  · rw [if_neg h, if_neg (fun h' => h (hs.2 h'))]; rfl

theorem dist_at (t : Fin 64) (s : Fin 192) : k0_pay1 (F := Ideal) (ix2 t s) = Spec.dist t s := by
  pointwise [k0_pay1]
  rfl

theorem scores_at (w : BitVec 32) (n : Fin 528) (kg : FVec Ideal S192x64 .bf16) (q : Vec Ideal S64x64 .bf16) (t : Fin 64) (s : Fin 192) :
    scores w (k0_pay2 (F := Ideal) (BitVec.ofNat 32 (Tables.ninv n.val))) kg q (ix2 t s)
      = if Spec.Seen n s then (∑ x : Fin 64, q (ix2 t x) * kg (ix2 s x)) * Ideal.ofBits .f32 0x3E000000#32
          - Ideal.ofBits .f32 w * Spec.dist t s else (⊥ : EReal) := by
  have h1 : scores w (k0_pay2 (F := Ideal) (BitVec.ofNat 32 (Tables.ninv n.val))) kg q (ix2 t s)
      = (∑ x : Fin 64, q (ix2 t x) * kg (ix2 s x)) * Ideal.ofBits .f32 0x3E000000#32
          - Ideal.ofBits .f32 w * k0_pay1 (F := Ideal) (ix2 t s) + k0_pay2 (F := Ideal) (BitVec.ofNat 32 (Tables.ninv n.val)) (ix2 t s) := by
    pointwise [scores]
  rw [h1, mask_at, dist_at]
  split_ifs
  · exact add_zero _
  · exact EReal.add_bot _

theorem soft_at (sc : FVec Ideal S64x192 .f32) (vg : FVec Ideal S192x64 .bf16) (sink : Elt Ideal .f32) (t d : Fin 64) :
    soft sc vg sink (ix2 t d) = Soft.late (fun s : Fin 192 => sc (ix2 t s)) (fun s => vg (ix2 s d)) sink := by
  pointwise [soft, denom, weights, top]
  rw [Spec.ofBits_bot]
  rfl

variable (kv : Vec Ideal S33792x512 .f32) (ck cv : Vec Ideal S16x128x4x64 .f32)

/-- Three blocks of rows one after the other. -/
theorem stack_at (a b c : Vec Ideal S64x64 .f32) (s : Fin 192) (d : Fin 64) :
    k0_pay3 a b c (ix2 s d) = if h : s.val < 64 then a (ix2 ⟨s.val, h⟩ d)
      else if h : s.val - 64 < 64 then b (ix2 ⟨s.val - 64, h⟩ d) else c (ix2 ⟨s.val - 64 - 64, by omega⟩ d) := by
  pointwise [k0_pay3]

theorem ld_k (x : Vec Ideal S64x512 .f32) (g : Fin 4) (s d : Fin 64) :
    View.ld x (Rect.unit ![0, 64 * g.val] S64x64.size (inb_k g)) (ix2 s d) = x (ix2 s ⟨64 * g.val + d.val, by omega⟩) := by
  pointwise []

theorem ld_v (x : Vec Ideal S64x512 .f32) (g : Fin 4) (s d : Fin 64) :
    View.ld x (Rect.unit ![0, 256 + 64 * g.val] S64x64.size (inb_v g)) (ix2 s d)
      = x (ix2 s ⟨256 + 64 * g.val + d.val, by omega⟩) := by
  pointwise []

theorem ld_q (x : Vec Ideal S64x2048 .bf16) (h : Fin 32) (t d : Fin 64) :
    View.ld x (Rect.unit ![0, 64 * h.val] S64x64.size (inb_q h)) (ix2 t d) = x (ix2 t ⟨64 * h.val + d.val, by omega⟩) := by
  pointwise []

/-- The three key blocks one after the other are the window. -/
theorem keys_at (x2 x3 x4 : Vec Ideal S64x512 .f32) (n : Fin 528) (g : Fin 4)
    (hb : Tables.base n.val + 2 < 592)
    (h2 : ∀ (s : Fin 64) (l : Fin 512), x2 (ix2 s l) = Host.kvExt kv ck cv (ix2 ⟨64 * Tables.base n.val + s.val, by omega⟩ l))
    (h3 : ∀ (s : Fin 64) (l : Fin 512), x3 (ix2 s l) = Host.kvExt kv ck cv (ix2 ⟨64 * (Tables.base n.val + 1) + s.val, by omega⟩ l))
    (h4 : ∀ (s : Fin 64) (l : Fin 512), x4 (ix2 s l) = Host.kvExt kv ck cv (ix2 ⟨64 * (Tables.base n.val + 2) + s.val, by omega⟩ l))
    (s : Fin 192) (d : Fin 64) :
    k0_pay3 (View.ld x2 (Rect.unit ![0, 64 * g.val] S64x64.size (inb_k g)))
        (View.ld x3 (Rect.unit ![0, 64 * g.val] S64x64.size (inb_k g)))
        (View.ld x4 (Rect.unit ![0, 64 * g.val] S64x64.size (inb_k g))) (ix2 s d) = Spec.kvAt kv ck 0 n s g d := by
  rw [stack_at]
  split_ifs
  · rw [ld_k, h2]; exact Host.kvExt_key _ _ _ _ _ _ _ _ _ rfl rfl
  · rw [ld_k, h3]; exact Host.kvExt_key _ _ _ _ _ _ _ _ _ (by dsimp only; omega) rfl
  · rw [ld_k, h4]; exact Host.kvExt_key _ _ _ _ _ _ _ _ _ (by dsimp only; omega) rfl

theorem vals_at (x2 x3 x4 : Vec Ideal S64x512 .f32) (n : Fin 528) (g : Fin 4)
    (hb : Tables.base n.val + 2 < 592)
    (h2 : ∀ (s : Fin 64) (l : Fin 512), x2 (ix2 s l) = Host.kvExt kv ck cv (ix2 ⟨64 * Tables.base n.val + s.val, by omega⟩ l))
    (h3 : ∀ (s : Fin 64) (l : Fin 512), x3 (ix2 s l) = Host.kvExt kv ck cv (ix2 ⟨64 * (Tables.base n.val + 1) + s.val, by omega⟩ l))
    (h4 : ∀ (s : Fin 64) (l : Fin 512), x4 (ix2 s l) = Host.kvExt kv ck cv (ix2 ⟨64 * (Tables.base n.val + 2) + s.val, by omega⟩ l))
    (s : Fin 192) (d : Fin 64) :
    k0_pay3 (View.ld x2 (Rect.unit ![0, 256 + 64 * g.val] S64x64.size (inb_v g)))
        (View.ld x3 (Rect.unit ![0, 256 + 64 * g.val] S64x64.size (inb_v g)))
        (View.ld x4 (Rect.unit ![0, 256 + 64 * g.val] S64x64.size (inb_v g))) (ix2 s d) = Spec.kvAt kv cv 1 n s g d := by
  rw [stack_at]
  split_ifs
  · rw [ld_v, h2]; exact Host.kvExt_val _ _ _ _ _ _ _ _ _ rfl rfl
  · rw [ld_v, h3]; exact Host.kvExt_val _ _ _ _ _ _ _ _ _ (by dsimp only; omega) rfl
  · rw [ld_v, h4]; exact Host.kvExt_val _ _ _ _ _ _ _ _ _ (by dsimp only; omega) rfl

theorem head_at (q : Vec Ideal S33792x2048 .bf16) (sinks : Vec Ideal S1x32 .f32)
    (x0 : Vec Ideal S32 .f32) (x1 : Vec Ideal S64x2048 .bf16) (x2 x3 x4 : Vec Ideal S64x512 .f32) (n : Fin 528)
    (hb : Tables.base n.val + 2 < 592)
    (h0 : ∀ h : Fin 32, x0 (ix1 h) = sinks (ix2 0 h))
    (h1 : ∀ (t : Fin 64) (l : Fin 2048), x1 (ix2 t l) = q (ix2 ⟨64 * n.val + t.val, by omega⟩ l))
    (h2 : ∀ (s : Fin 64) (l : Fin 512), x2 (ix2 s l) = Host.kvExt kv ck cv (ix2 ⟨64 * Tables.base n.val + s.val, by omega⟩ l))
    (h3 : ∀ (s : Fin 64) (l : Fin 512), x3 (ix2 s l) = Host.kvExt kv ck cv (ix2 ⟨64 * (Tables.base n.val + 1) + s.val, by omega⟩ l))
    (h4 : ∀ (s : Fin 64) (l : Fin 512), x4 (ix2 s l) = Host.kvExt kv ck cv (ix2 ⟨64 * (Tables.base n.val + 2) + s.val, by omega⟩ l))
    (h : Fin 32) (g : Fin 4) (hg : g = ⟨h.val / 8, by omega⟩) (t d : Fin 64) :
    head (BitVec.ofNat 32 (Tables.ninv n.val)) x0 x1 x2 x3 x4 h g (ix2 t d) = Spec.outLate q kv ck cv sinks n t h d := by
  subst hg
  have e1 : View.ld x0 (Rect.unit ![h.val] S1.size (inb_s h)) (Shape.Idx.first (show 0 < S1.numel by decide)) = sinks (ix2 0 h) := by
    rw [← h0]; pointwise []
  unfold head Spec.outLate
  rw [soft_at, e1]
  congr 1
  · funext s
    rw [scores_at]
    unfold Spec.score Spec.raw
    refine if_congr Iff.rfl (congrArg (· * _ - _) (Finset.sum_congr rfl fun x _ => ?_)) rfl
    rw [← h1, ld_q]
    exact congrArg (_ * ·) (keys_at kv ck cv x2 x3 x4 n _ hb h2 h3 h4 s x)
  · funext s
    exact vals_at kv ck cv x2 x3 x4 n _ hb h2 h3 h4 s d

end Cert.KernelIdeal.Head

end
-- ==== Proof.Value.lean ====
/- What the kernel leaves in its result array: at every row and lane the closed form of `Spec.outLate`. -/
module

public import proofs.«01_k».proof.Proof.HeadAt

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen Cert.KernelIdeal.Head

variable (m : (ℓ : Loc nD τ sig) → Buf (Elt Ideal) ℓ)

/-- The chunk of a grid point. -/
abbrev pt (t : Fin grid0.N) : Fin 528 := grid0.coords t 0

theorem pt_val : ∀ t : Fin grid0.N, (grid0.coords t 0).val = t.val := by
  decide +kernel

theorem word_at (t : Fin grid0.N) : word (F := Ideal) (grid0.coords t) (tbl m 1) = BitVec.ofNat 32 (Tables.ninv t.val) := by
  have e := Tables.V_ninv m (0 : Dev nD)
  have ht : t.val < 528 := lt_of_lt_of_eq t.isLt (by decide)
  have hi := pt_val t
  refine (congrFun e _).trans ((congrArg lit1 (?_ : _ = (⟨t.val, ht⟩ : Fin 528))).trans (Tables.lit1_ninv _))
  refine (Tables.rowMajor_528 _).trans (Fin.ext ((Tables.emb_one _ _ _).trans ?_))
  show (BitVec.ofNat 32 (grid0.coords t 0).val : BitVec 32).toNat = t.val
  rw [BitVec.toNat_ofNat, hi]; exact Nat.mod_eq_of_lt (by omega)

variable (hO : Ok m)

theorem blk0 (c : Dev nD) (t : Fin (cfgM m hO).N) (h : Fin 32) :
    (show Vec Ideal S32 .f32 from iblk m hO c 0 t) (ix1 h) = V m c main_v12 (ix1 h) := by
  blk_simp [iblk]
  refine congrArg (V m c main_v12) (funext fun a => Fin.ext ?_)
  match a with
  | ⟨0, _⟩ => exact (ValueKit.view_emb_slice_whole_unit_val _ _ _ _ _ _).trans (Nat.zero_add _)

theorem blk1 (c : Dev nD) (t : Fin (cfgM m hO).N) (i : Fin 64) (l : Fin 2048) (r : Fin 33792) (hr : r.val = 64 * t.val + i.val) :
    (show Vec Ideal S64x2048 .bf16 from iblk m hO c 1 t) (ix2 i l) = V m c main_arg0 (ix2 r l) := by
  have ht := pt_val t
  blk_simp [iblk]
  refine congrArg (V m c main_arg0) (funext fun a => Fin.ext ?_)
  match a with
  | ⟨0, _⟩ =>
    refine (ValueKit.view_emb_slice_whole_unit_val _ _ _ _ _ _).trans ?_
    show (BitVec.ofNat 32 (grid0.coords t 0).val : BitVec 32).toNat * 64 + i.val = r.val
    rw [BitVec.toNat_ofNat, ht]; omega
  | ⟨1, _⟩ => exact (ValueKit.view_emb_slice_whole_unit_val _ _ _ _ _ _).trans (Nat.zero_add _)

theorem blk2 (c : Dev nD) (t : Fin (cfgM m hO).N) (i : Fin 64) (l : Fin 512) (r : Fin 37888) (hr : r.val = 64 * Tables.base t.val + i.val) :
    (show Vec Ideal S64x512 .f32 from iblk m hO c 2 t) (ix2 i l) = V m c main_v11 (ix2 r l) := by
  have ht := pt_val t
  have e := Tables.transform_2 m (grid0.coords t)
  blk_simp [iblk]
  refine congrArg (V m c main_v11) (funext fun a => Fin.ext ?_)
  match a with
  | ⟨0, _⟩ =>
    refine (ValueKit.view_emb_slice_whole_unit_val _ _ _ _ _ _).trans ?_
    refine (congrArg (fun f : Fin 2 → ℕ => f 0 * 64 + i.val) e).trans ?_
    show Tables.base (grid0.coords t 0).val * 64 + i.val = r.val
    rw [ht]; omega
  | ⟨1, _⟩ =>
    refine (ValueKit.view_emb_slice_whole_unit_val _ _ _ _ _ _).trans ?_
    exact (congrArg (fun f : Fin 2 → ℕ => f 1 * 512 + l.val) e).trans (by show 0 * 512 + l.val = l.val; omega)

theorem blk3 (c : Dev nD) (t : Fin (cfgM m hO).N) (i : Fin 64) (l : Fin 512) (r : Fin 37888) (hr : r.val = 64 * (Tables.base t.val + 1) + i.val) :
    (show Vec Ideal S64x512 .f32 from iblk m hO c 3 t) (ix2 i l) = V m c main_v11 (ix2 r l) := by
  have ht := pt_val t
  have e := Tables.transform_3 m (grid0.coords t)
  blk_simp [iblk]
  refine congrArg (V m c main_v11) (funext fun a => Fin.ext ?_)
  match a with
  | ⟨0, _⟩ =>
    refine (ValueKit.view_emb_slice_whole_unit_val _ _ _ _ _ _).trans ?_
    refine (congrArg (fun f : Fin 2 → ℕ => f 0 * 64 + i.val) e).trans ?_
    show (Tables.base (grid0.coords t 0).val + 1) * 64 + i.val = r.val
    rw [ht]; omega
  | ⟨1, _⟩ =>
    refine (ValueKit.view_emb_slice_whole_unit_val _ _ _ _ _ _).trans ?_
    exact (congrArg (fun f : Fin 2 → ℕ => f 1 * 512 + l.val) e).trans (by show 0 * 512 + l.val = l.val; omega)

theorem blk4 (c : Dev nD) (t : Fin (cfgM m hO).N) (i : Fin 64) (l : Fin 512) (r : Fin 37888) (hr : r.val = 64 * (Tables.base t.val + 2) + i.val) :
    (show Vec Ideal S64x512 .f32 from iblk m hO c 4 t) (ix2 i l) = V m c main_v11 (ix2 r l) := by
  have ht := pt_val t
  have e := Tables.transform_4 m (grid0.coords t)
  blk_simp [iblk]
  refine congrArg (V m c main_v11) (funext fun a => Fin.ext ?_)
  match a with
  | ⟨0, _⟩ =>
    refine (ValueKit.view_emb_slice_whole_unit_val _ _ _ _ _ _).trans ?_
    refine (congrArg (fun f : Fin 2 → ℕ => f 0 * 64 + i.val) e).trans ?_
    show (Tables.base (grid0.coords t 0).val + 2) * 64 + i.val = r.val
    rw [ht]; omega
  | ⟨1, _⟩ =>
    refine (ValueKit.view_emb_slice_whole_unit_val _ _ _ _ _ _).trans ?_
    exact (congrArg (fun f : Fin 2 → ℕ => f 1 * 512 + l.val) e).trans (by show 0 * 512 + l.val = l.val; omega)

/-- Two heads beside each other, read at a lane. -/
theorem pair_at (v8 : Elt Ideal .i32) (x0 : Vec Ideal S32 .f32) (x1 : Vec Ideal S64x2048 .bf16) (x2 x3 x4 : Vec Ideal S64x512 .f32)
    (h h' : Fin 32) (g : Fin 4) (t : Fin 64) (d : Fin 128) : pair v8 x0 x1 x2 x3 x4 h h' g (ix2 t d)
      = if e : d.val < 64 then head v8 x0 x1 x2 x3 x4 h g (ix2 t ⟨d.val, e⟩)
        else head v8 x0 x1 x2 x3 x4 h' g (ix2 t ⟨d.val - 64, by omega⟩) := by
  pointwise [pair]

/-- What the body leaves in the output block, from the point's blocks. -/
theorem canon_at (q : Vec Ideal S33792x2048 .bf16) (kv : Vec Ideal S33792x512 .f32) (ck cv : Vec Ideal S16x128x4x64 .f32)
    (sinks : Vec Ideal S1x32 .f32) (v8 : Elt Ideal .i32)
    (x0 : Vec Ideal S32 .f32) (x1 : Vec Ideal S64x2048 .bf16) (x2 x3 x4 : Vec Ideal S64x512 .f32) (n : Fin 528)
    (hv : v8 = BitVec.ofNat 32 (Tables.ninv n.val))
    (hb : Tables.base n.val + 2 < 592)
    (h0 : ∀ h : Fin 32, x0 (ix1 h) = sinks (ix2 0 h))
    (h1 : ∀ (t : Fin 64) (l : Fin 2048), x1 (ix2 t l) = q (ix2 ⟨64 * n.val + t.val, by omega⟩ l))
    (h2 : ∀ (s : Fin 64) (l : Fin 512), x2 (ix2 s l) = Host.kvExt kv ck cv (ix2 ⟨64 * Tables.base n.val + s.val, by omega⟩ l))
    (h3 : ∀ (s : Fin 64) (l : Fin 512), x3 (ix2 s l) = Host.kvExt kv ck cv (ix2 ⟨64 * (Tables.base n.val + 1) + s.val, by omega⟩ l))
    (h4 : ∀ (s : Fin 64) (l : Fin 512), x4 (ix2 s l) = Host.kvExt kv ck cv (ix2 ⟨64 * (Tables.base n.val + 2) + s.val, by omega⟩ l))
    (L : List (Fin 16)) (t : Fin 64) (l : Fin 2048)
    (hc : ∃ p ∈ L.map (piece v8 x0 x1 x2 x3 x4), (ix2 t l : S64x2048.Idx) ∈ p.1.set) :
    View.canon (L.map (piece v8 x0 x1 x2 x3 x4)) (ix2 t l)
      = Spec.outLate q kv ck cv sinks n t ⟨l.val / 64, by omega⟩ ⟨l.val % 64, by omega⟩ := by
  subst hv
  refine View.canon_apply_of_pieces (fun y : S64x2048.Idx => (Spec.outLate q kv ck cv sinks n (show Fin 64 from y 0)
    ⟨(show Fin 2048 from y 1).val / 64, by omega⟩ ⟨(show Fin 2048 from y 1).val % 64, by omega⟩ : EReal)) _ ?_ _ hc
  intro p hp x
  obtain ⟨j, -, rfl⟩ := List.mem_map.1 hp
  obtain ⟨i, d, rfl⟩ : ∃ (i : Fin 64) (d : Fin 128), x = ix2 i d := ⟨x 0, x 1, by funext a; match a with | ⟨0, _⟩ => rfl | ⟨1, _⟩ => rfl⟩
  have e0 : (((Rect.unit (s := S64x2048) ![0, 128 * j.val] S64x128.size (inb_o j)).emb (ix2 i d)) 0).val = i.val := by
    rw [ValueKit.rect_emb_unit_val]; exact Nat.zero_add _
  have e1 : (((Rect.unit (s := S64x2048) ![0, 128 * j.val] S64x128.size (inb_o j)).emb (ix2 i d)) 1).val = 128 * j.val + d.val := by
    rw [ValueKit.rect_emb_unit_val]; rfl
  refine (pair_at _ _ _ _ _ _ _ _ _ i d).trans ?_
  split_ifs with hd
  · refine (head_at kv ck cv q sinks x0 x1 x2 x3 x4 n hb h0 h1 h2 h3 h4 _ _ (Fin.ext (by dsimp only; omega)) _ _).trans ?_
    congr 1
    · exact Fin.ext e0.symm
    · exact Fin.ext (Eq.trans (by dsimp only; omega) (congrArg (· / 64) e1.symm))
    · exact Fin.ext (Eq.trans (by dsimp only; omega) (congrArg (· % 64) e1.symm))
  · refine (head_at kv ck cv q sinks x0 x1 x2 x3 x4 n hb h0 h1 h2 h3 h4 _ _ (Fin.ext (by dsimp only; omega)) _ _).trans ?_
    congr 1
    · exact Fin.ext e0.symm
    · exact Fin.ext (Eq.trans (by dsimp only; omega) (congrArg (· / 64) e1.symm))
    · exact Fin.ext (Eq.trans (by dsimp only; omega) (congrArg (· % 64) e1.symm))

/-- The block that the body leaves at a grid point. -/
theorem outs_at (c : Dev nD) (t : Fin (cfgM m hO).N) (n : Fin 528) (hn : n.val = t.val) (i : Fin 64) (l : Fin 2048) :
    outsAt0 m hO c t (ix2 i l) = Spec.outLate (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      n i ⟨l.val / 64, by omega⟩ ⟨l.val % 64, by omega⟩ := by
  have hb := Tables.base_lt n
  unfold outsAt0 out0_A_5
  refine (congrFun (View.read_writes_eq_canon _ _ _ (cover0_A_5 c (grid0.coords t) _ _ _ _ _ _ _ _ _ _ _ _ _ _ _ _ _ _ _)) _).trans ?_
  have hc := cover0_A_5 c (grid0.coords t) (ms0_0 m hO t) (hs0_0 m hO t) (ms0_1 m hO t) (hs0_1 m hO t) (ms0_2 m hO t)
    (hs0_2 m hO t) (ms0_3 m hO t) (hs0_3 m hO t) (ms0_4 m hO t) (hs0_4 m hO t) (ms0_5 m hO t) (hs0_5 m hO t) (iblk m hO c 0 t)
    (iblk m hO c 1 t) (iblk m hO c 2 t) (iblk m hO c 3 t) (iblk m hO c 4 t) (tbl m 0) (tbl m 1) (ix2 i l)
  have e := pieces_eq c (grid0.coords t) (ms0_0 m hO t) (hs0_0 m hO t) (ms0_1 m hO t) (hs0_1 m hO t) (ms0_2 m hO t)
    (hs0_2 m hO t) (ms0_3 m hO t) (hs0_3 m hO t) (ms0_4 m hO t) (hs0_4 m hO t) (ms0_5 m hO t) (hs0_5 m hO t) (iblk m hO c 0 t)
    (iblk m hO c 1 t) (iblk m hO c 2 t) (iblk m hO c 3 t) (iblk m hO c 4 t) (tbl m 0) (tbl m 1)
  generalize (kernelRun0_A c (grid0.coords t) (ms0_0 m hO t) (hs0_0 m hO t) (ms0_1 m hO t) (hs0_1 m hO t) (ms0_2 m hO t)
    (hs0_2 m hO t) (ms0_3 m hO t) (hs0_3 m hO t) (ms0_4 m hO t) (hs0_4 m hO t) (ms0_5 m hO t) (hs0_5 m hO t) (iblk m hO c 0 t)
    (iblk m hO c 1 t) (iblk m hO c 2 t) (iblk m hO c 3 t) (iblk m hO c 4 t) (tbl m 0) (tbl m 1)).1 = L at hc e ⊢
  subst e
  refine canon_at _ _ _ _ _ _ _ _ _ _ _ n ?_ hb ?_ ?_ ?_ ?_ ?_ _ i l hc
  · rw [hn]; exact word_at m t
  · intro h
    refine (congrFun ((hs0_0 m hO t).read_unread _) _).trans ((blk0 m hO c t h).trans ?_)
    rw [Host.V_sinks]
    pointwise []
  · intro i l
    exact (congrFun ((hs0_1 m hO t).read_unread _) _).trans ((blk1 m hO c t i l ⟨64 * n.val + i.val, by omega⟩
      (by dsimp only; omega)).trans (congrFun (V_main_arg0 m c) _))
  · intro i l
    exact (congrFun ((hs0_2 m hO t).read_unread _) _).trans ((blk2 m hO c t i l ⟨64 * Tables.base n.val + i.val, by omega⟩
      (by dsimp only; rw [hn])).trans (congrFun (Host.V_kv m c) _))
  · intro i l
    exact (congrFun ((hs0_3 m hO t).read_unread _) _).trans ((blk3 m hO c t i l ⟨64 * (Tables.base n.val + 1) + i.val, by omega⟩
      (by dsimp only; rw [hn])).trans (congrFun (Host.V_kv m c) _))
  · intro i l
    exact (congrFun ((hs0_4 m hO t).read_unread _) _).trans ((blk4 m hO c t i l ⟨64 * (Tables.base n.val + 2) + i.val, by omega⟩
      (by dsimp only; rw [hn])).trans (congrFun (Host.V_kv m c) _))

end Cert.KernelIdeal.Out

end
-- ==== Proof.Final.lean ====
/- The kernel's run: its result array in closed form, its arguments unchanged, every counter back at zero. -/
module

public import proofs.«01_k».proof.Proof.Value

@[expose] public section

set_option maxRecDepth 16384

noncomputable section

namespace Cert.KernelIdeal.Out

open Idealize.ShloMosaic Idealize.ShloMosaic.TcCoe Idealize.SL.Sem
open Idealize.ShloMosaic.Pipeline (Dat)
open Cert.KernelIdeal Cert.KernelIdeal.Gen Cert.KernelIdeal.Head

variable (m : (ℓ : Loc nD τ sig) → Buf (Elt Ideal) ℓ) (hO : Ok m)

/-- The blocks that are written back cover the result. -/
theorem covers : ((cfgM m hO).win 5).Covers := by
  refine ⟨fun a => ?_, fun β => ?_⟩
  · match a with
    | ⟨0, _⟩ => exact (by decide : 0 < 64)
    | ⟨1, _⟩ => exact (by decide : 0 < 2048)
  · have h0 : (β (0 : Fin 2)).val < 528 := lt_of_lt_of_eq (β (0 : Fin 2)).isLt (show (33792 + 64 - 1) / 64 = 528 by decide)
    have h1 : (β (1 : Fin 2)).val < 1 := lt_of_lt_of_eq (β (1 : Fin 2)).isLt (show (2048 + 2048 - 1) / 2048 = 1 by decide)
    have hN : grid0.N = 528 := by decide
    refine ⟨⟨(β (0 : Fin 2)).val, by show _ < grid0.N; omega⟩, flush0_5 _ _, fun a => ?_⟩
    have hp := pt_val ⟨(β (0 : Fin 2)).val, by omega⟩
    match a with
    | ⟨0, _⟩ =>
      refine ⟨?_, Or.inl rfl⟩
      show (BitVec.ofNat 32 (grid0.coords ⟨(β (0 : Fin 2)).val, _⟩ 0).val : BitVec 32).toNat = (β (0 : Fin 2)).val
      rw [BitVec.toNat_ofNat, hp]; exact Nat.mod_eq_of_lt (by dsimp only; omega)
    | ⟨1, _⟩ =>
      refine ⟨?_, Or.inl rfl⟩
      show 0 = (β (1 : Fin 2)).val
      omega

/-- The result in closed form. -/
def res (c : Dev nD) : Buf (Elt Ideal) ((c.tc : Thread nD τ).loc main_v13) := fun y : S33792x2048.Idx =>
  (Spec.outLate (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      ⟨(show Fin 33792 from y 0).val / 64, by omega⟩ ⟨(show Fin 33792 from y 0).val % 64, by omega⟩
      ⟨(show Fin 2048 from y 1).val / 64, by omega⟩ ⟨(show Fin 2048 from y 1).val % 64, by omega⟩ : EReal)

theorem final (c : Dev nD) : (dats m hO 0 c).arrAt 5 (cfgM m hO).N = res m c := by
  refine (dats m hO 0 c).arrAt_eq_of_covers 5 _ (covers m hO) fun t _ y => ?_
  have hN : grid0.N = 528 := by decide
  have ht : t.val < 528 := lt_of_lt_of_eq t.isLt hN
  have hp := pt_val t
  obtain ⟨i, l, rfl⟩ : ∃ (i : Fin 64) (l : Fin 2048), y = ix2 i l :=
    ⟨(show Fin 64 from y (0 : Fin 2)), (show Fin 2048 from y (1 : Fin 2)), by funext a; match a with | ⟨0, _⟩ => rfl | ⟨1, _⟩ => rfl⟩
  have e0 : ((((cfgM m hO).win 5).blk t).view.emb (ix2 i l) (0 : Fin 2)).val = 64 * t.val + i.val := by
    refine (ValueKit.view_emb_slice_whole_unit_val _ _ _ _ _ _).trans ?_
    show (BitVec.ofNat 32 (grid0.coords t 0).val : BitVec 32).toNat * 64 + i.val = _
    rw [BitVec.toNat_ofNat, hp]; omega
  have e1 : ((((cfgM m hO).win 5).blk t).view.emb (ix2 i l) (1 : Fin 2)).val = l.val :=
    (ValueKit.view_emb_slice_whole_unit_val _ _ _ _ _ _).trans (Nat.zero_add _)
  have ho := outs_at m hO c t ⟨t.val, ht⟩ rfl i l
  rw [after0_5]
  refine Eq.trans ?_ (ho.trans ?_)
  · rfl
  · unfold res
    congr 1
    · exact Fin.ext (Eq.trans (by dsimp only; omega) (congrArg (· / 64) e0.symm))
    · exact Fin.ext (Eq.trans (by dsimp only; omega) (congrArg (· % 64) e0.symm))
    · exact Fin.ext (congrArg (· / 64) e1.symm)
    · exact Fin.ext (congrArg (· % 64) e1.symm)

/-- The kernel ends with the closed form in its result and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v13) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m (Tables.ok m) c),
      ((h c).1 1).trans (((dats m (Tables.ok m) 0 c).arrAt_in 1 rfl _).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (Tables.ok m))

end Cert.KernelIdeal.Out

end
-- ==== Proof.Finite.lean ====
/- What the precondition says: the queries, the keys and the sinks are reals. -/
module

public import proofs.«01_k».proof.Defs
public import proofs.«01_k».proof.Proof.Spec
public import Idealize.ShloMosaic.Lib.Pointwise

@[expose] public section

set_option maxRecDepth 16384

noncomputable section

namespace Cert.Finite

open Idealize.ShloMosaic Idealize.ShloMosaic.TcCoe

theorem facts : Cert.Pre_finite.Facts where
  bitsLt_bf16_f32 := by decide
  bcast_S_S33792x2048 := by decide
  slices_S33792x512_S33792x256_0_0 := by decide
  bcast_S_S33792x256 := by decide
  bcast_S_S16x128x4x64 := by decide
  bcast_S_S1x32 := by decide

/-- A value whose magnitude compares below infinity is a real. -/
theorem real_of_cmp (x : EReal)
    (h : FloatOps.cmpf (F := Ideal) (φ := .f32) .olt (FloatOps.hostAbsf (F := Ideal) (φ := .f32) x) (Ideal.ofBits .f32 0x7F800000#32) = 1#1) :
    Spec.IsReal x := by
  rw [Spec.ofBits_top] at h
  have h' : Ideal.cmp .olt (max x (-x)) ⊤ = 1#1 := h
  induction x using EReal.rec with
  | coe r => exact ⟨r, rfl⟩
  | bot => simp [Ideal.cmp] at h'
  | top => simp [Ideal.cmp] at h'

variable (m : (ℓ : Loc Cert.KernelIdeal.nD Cert.KernelIdeal.τ Cert.KernelIdeal.sig) → Buf (Elt Ideal) ℓ)
  (h : Cert.Pre_KernelIdeal_finite (hPre_finite := facts) m) (c : Dev Cert.KernelIdeal.nD)
include h

theorem queries (i : Fin 33792) (j : Fin 2048) :
    Spec.IsReal ((m ((c.tc : Thread Cert.KernelIdeal.nD Cert.KernelIdeal.τ).loc Cert.KernelIdeal.main_arg0) : FVec Ideal Cert.KernelIdeal.S33792x2048 .bf16) (ix2 i j)) :=
  real_of_cmp _ (congrFun (h c).1 (ix2 i j))

theorem keys (i : Fin 33792) (j : Fin 512) (hj : j.val < 256) :
    Spec.IsReal ((m ((c.tc : Thread Cert.KernelIdeal.nD Cert.KernelIdeal.τ).loc Cert.KernelIdeal.main_arg1) : FVec Ideal Cert.KernelIdeal.S33792x512 .f32) (ix2 i j)) := by
  have e := real_of_cmp _ (congrFun (h c).2.1 (ix2 i (⟨j.val, hj⟩ : Fin 256)))
  refine (congrArg Spec.IsReal (congrArg _ (funext fun a => Fin.ext ?_))).mp e
  match a with
  | ⟨0, _⟩ => exact Nat.zero_add _
  | ⟨1, _⟩ => exact Nat.zero_add _

theorem cached (a : Fin 16) (b : Fin 128) (g : Fin 4) (d : Fin 64) :
    Spec.IsReal ((m ((c.tc : Thread Cert.KernelIdeal.nD Cert.KernelIdeal.τ).loc Cert.KernelIdeal.main_arg2) : FVec Ideal Cert.KernelIdeal.S16x128x4x64 .f32) (ix4 a b g d)) :=
  real_of_cmp _ (congrFun (h c).2.2.1 (ix4 a b g d))

theorem sinks (j : Fin 32) :
    Spec.IsReal ((m ((c.tc : Thread Cert.KernelIdeal.nD Cert.KernelIdeal.τ).loc Cert.KernelIdeal.main_arg4) : FVec Ideal Cert.KernelIdeal.S1x32 .f32) (ix2 0 j)) :=
  real_of_cmp _ (congrFun (h c).2.2.2 (ix2 0 j))

end Cert.Finite

end
-- ==== Proof.Ref.lean ====
/- The reference's result in stages: the windows of keys and values, the scores, the weights, the weighted sums. -/
module
public import proofs.«01_k».proof.Proof.Gen.ReferenceIdeal.Run
public import Idealize.ShloMosaic.Lib.Pipeline.ValueKit
public import Idealize.ShloMosaic.Lib.Pointwise
@[expose] public section
set_option maxRecDepth 16384
noncomputable section
namespace Cert.ReferenceIdeal.Ref
open Idealize.ShloMosaic Idealize.ShloMosaic.TcCoe Idealize.SL.Sem
open Cert.ReferenceIdeal Cert.ReferenceIdeal.Gen

/-- The keys (or values) of the prompts, each prompt after two blocks of zeros. -/
def padded (a : FVec Ideal S33792x256 .f32) : FVec Ideal S16x2176x4x64 .f32 :=
  concatenate S16x2176x4x64 1 [⟨S16x128x4x64, broadcastInDim S16x128x4x64 ![] bcast_S_S16x128x4x64 (constant (F := Ideal) S_ .f32 0x00000000#32)⟩,
    ⟨S16x2048x4x64, shapeCast S16x2048x4x64 (extractStridedSlice S32768x256 ![0, 0] a slices_S33792x256_S32768x256_0_0) shapeCasts_S32768x256_S16x2048x4x64⟩]
    concatenates_S16x128x4x64_S16x2048x4x64_S16x2176x4x64_d1

/-- What the chunks of the prompts read. -/
def promptWin (p : FVec Ideal S16x2176x4x64 .f32) : FVec Ideal S512x192x4x64 .f32 :=
  concatenate S512x192x4x64 1
    [⟨S512x64x4x64, shapeCast S512x64x4x64 (extractStridedSlice S16x2048x4x64 ![0, 0, 0, 0] p slices_S16x2176x4x64_S16x2048x4x64_0_0_0_0) shapeCasts_S16x2048x4x64_S512x64x4x64⟩,
     ⟨S512x64x4x64, shapeCast S512x64x4x64 (extractStridedSlice S16x2048x4x64 ![0, 64, 0, 0] p slices_S16x2176x4x64_S16x2048x4x64_0_64_0_0) shapeCasts_S16x2048x4x64_S512x64x4x64⟩,
     ⟨S512x64x4x64, shapeCast S512x64x4x64 (extractStridedSlice S16x2048x4x64 ![0, 128, 0, 0] p slices_S16x2176x4x64_S16x2048x4x64_0_128_0_0) shapeCasts_S16x2048x4x64_S512x64x4x64⟩]
    concatenates_S512x64x4x64_S512x64x4x64_S512x64x4x64_S512x192x4x64_d1

/-- What the chunks of the samples read. -/
def sampleWin (a : FVec Ideal S33792x256 .f32) (cache : FVec Ideal S16x128x4x64 .f32) : FVec Ideal S16x192x4x64 .f32 :=
  concatenate S16x192x4x64 1 [⟨S16x128x4x64, cache⟩,
    ⟨S16x64x4x64, shapeCast S16x64x4x64 (extractStridedSlice S1024x256 ![32768, 0] a slices_S33792x256_S1024x256_32768_0) shapeCasts_S1024x256_S16x64x4x64⟩]
    concatenates_S16x128x4x64_S16x64x4x64_S16x192x4x64_d1

/-- What every chunk reads. -/
def win (a : FVec Ideal S33792x256 .f32) (cache : FVec Ideal S16x128x4x64 .f32) : FVec Ideal S528x192x4x64 .f32 :=
  concatenate S528x192x4x64 0 [⟨S512x192x4x64, promptWin (padded a)⟩, ⟨S16x192x4x64, sampleWin a cache⟩]
    concatenates_S512x192x4x64_S16x192x4x64_S528x192x4x64_d0

/-- Which window positions a chunk sees. -/
def seen : IVec S528x192 1 :=
  concatenate S528x192 0
    [⟨S512x192, shapeCast S512x192 (broadcastInDim S16x32x192 ![0, 1, 2] bcast_S1x32x192_S16x32x192_0_1_2
        (broadcastInDim S1x32x192 ![1, 2] bcast_S32x192_S1x32x192_1_2
          (cmpi .sge (addi (broadcastInDim S32x192 ![0, 1] bcast_S32x1_S32x192_0_1
              (subi (muli (broadcastInDim S32x1 ![0] bcast_S32_S32x1_0 (iotaInDim S32 32 0))
                (broadcastInDim S32x1 ![] bcast_S_S32x1 (constantI S_ 32 64#32)))
                (broadcastInDim S32x1 ![] bcast_S_S32x1 (constantI S_ 32 128#32))))
              (broadcastInDim S32x192 ![0, 1] bcast_S1x192_S32x192_0_1
                (broadcastInDim S1x192 ![1] bcast_S192_S1x192_1 (iotaInDim S192 32 0))))
            (broadcastInDim S32x192 ![] bcast_S_S32x192 (constantI S_ 32 0#32))))) shapeCasts_S16x32x192_S512x192⟩,
     ⟨S16x192, broadcastInDim S16x192 ![] bcast_S_S16x192 (constantI S_ 1 1#1)⟩] concatenates_S512x192_S16x192_S528x192_d0

/-- The distances of the queries of a chunk from the window positions. -/
def dist : FVec Ideal S64x192 .f32 :=
  sitofp (F := Ideal) .f32 (absi (subi (broadcastInDim S64x192 ![0, 1] bcast_S64x1_S64x192_0_1
      (addi (broadcastInDim S64x1 ![0] bcast_S64_S64x1_0 (iotaInDim S64 32 0))
        (broadcastInDim S64x1 ![] bcast_S_S64x1 (constantI S_ 32 128#32))))
    (broadcastInDim S64x192 ![0, 1] bcast_S1x192_S64x192_0_1 (broadcastInDim S1x192 ![1] bcast_S192_S1x192_1 (iotaInDim S192 32 0)))))

/-- The scores before the mask. -/
def raw (q : FVec Ideal S33792x2048 .bf16) (k : FVec Ideal S528x192x4x64 .f32) (sl : FVec Ideal S32 .f32) (ds : FVec Ideal S64x192 .f32) :
    FVec Ideal S528x4x8x64x192 .f32 :=
  subf (mulf (transpose S528x4x8x64x192 [0, 1, 4, 3, 2] (Host.dotGeneral dot_S528x192x4x64_S528x64x4x8x64_S528x4x192x64x8_3_4_1_13_02_02 none k
        (shapeCast S528x64x4x8x64 (extf .f32 q bitsLt_bf16_f32) shapeCasts_S33792x2048_S528x64x4x8x64))
      transposes_S528x4x192x64x8_S528x4x8x64x192_0_1_4_3_2)
      (broadcastInDim S528x4x8x64x192 ![] bcast_S_S528x4x8x64x192 (constant (F := Ideal) S_ .f32 0x3E000000#32)))
    (broadcastInDim S528x4x8x64x192 ![0, 1, 2, 3, 4] bcast_S1x4x8x64x192_S528x4x8x64x192_0_1_2_3_4
      (broadcastInDim S1x4x8x64x192 ![1, 2, 3, 4] bcast_S4x8x64x192_S1x4x8x64x192_1_2_3_4
        (mulf (broadcastInDim S4x8x64x192 ![0, 1, 2, 3] bcast_S4x8x1x1_S4x8x64x192_0_1_2_3
            (broadcastInDim S4x8x1x1 ![0, 1] bcast_S4x8_S4x8x1x1_0_1 (shapeCast S4x8 sl shapeCasts_S32_S4x8)))
          (broadcastInDim S4x8x64x192 ![0, 1, 2, 3] bcast_S1x1x64x192_S4x8x64x192_0_1_2_3
            (broadcastInDim S1x1x64x192 ![2, 3] bcast_S64x192_S1x1x64x192_2_3 ds)))))

/-- The scores. -/
def score (x : FVec Ideal S528x4x8x64x192 .f32) (sn : IVec S528x192 1) : FVec Ideal S528x4x8x64x192 .f32 :=
  select (broadcastInDim S528x4x8x64x192 ![0, 1, 2, 3, 4] bcast_S528x1x1x1x192_S528x4x8x64x192_0_1_2_3_4
      (broadcastInDim S528x1x1x1x192 ![0, 4] bcast_S528x192_S528x1x1x1x192_0_4 sn)) x
    (broadcastInDim S528x4x8x64x192 ![] bcast_S_S528x4x8x64x192 (constant (F := Ideal) S_ .f32 0xFF800000#32))

/-- The sinks. -/
def sink (s : FVec Ideal S1x32 .f32) : FVec Ideal S4x8x1x1 .f32 :=
  broadcastInDim S4x8x1x1 ![0, 1] bcast_S4x8_S4x8x1x1_0_1 (shapeCast S4x8 (shapeCast S32 s shapeCasts_S1x32_S32) shapeCasts_S32_S4x8)

/-- The sinks beside the scores' rows. -/
def sinkRow (s : FVec Ideal S4x8x1x1 .f32) : FVec Ideal S528x4x8x64x1 .f32 :=
  broadcastInDim S528x4x8x64x1 ![0, 1, 2, 3, 4] bcast_S1x4x8x1x1_S528x4x8x64x1_0_1_2_3_4
    (broadcastInDim S1x4x8x1x1 ![1, 2, 3, 4] bcast_S4x8x1x1_S1x4x8x1x1_1_2_3_4 s)

/-- The row maxima without the sinks. -/
def rowMax (x : FVec Ideal S528x4x8x64x192 .f32) : FVec Ideal S528x4x8x64 .f32 :=
  Host.reduce FloatOps.maximumf x (constant (F := Ideal) S_ .f32 0xFF800000#32) reducesTo_S528x4x8x64x192_S528x4x8x64_d4 h_S_

/-- The row maxima. -/
def top (x : FVec Ideal S528x4x8x64x192 .f32) (s : FVec Ideal S4x8x1x1 .f32) : FVec Ideal S528x4x8x64x1 .f32 :=
  maximumf (broadcastInDim S528x4x8x64x1 ![0, 1, 2, 3] bcast_S528x4x8x64_S528x4x8x64x1_0_1_2_3 (rowMax x)) (sinkRow s)

/-- The weights. -/
def weights (x : FVec Ideal S528x4x8x64x192 .f32) (t : FVec Ideal S528x4x8x64x1 .f32) : FVec Ideal S528x4x8x64x192 .f32 :=
  Host.exp (subf x (broadcastInDim S528x4x8x64x192 ![0, 1, 2, 3, 4] bcast_S528x4x8x64x1_S528x4x8x64x192_0_1_2_3_4 t))

/-- The weights' sums. -/
def den (w : FVec Ideal S528x4x8x64x192 .f32) (s : FVec Ideal S4x8x1x1 .f32) (t : FVec Ideal S528x4x8x64x1 .f32) : FVec Ideal S528x4x8x64x1 .f32 :=
  addf (broadcastInDim S528x4x8x64x1 ![0, 1, 2, 3] bcast_S528x4x8x64_S528x4x8x64x1_0_1_2_3
    (Host.reduceAdd w (constant (F := Ideal) S_ .f32 0x00000000#32) reducesTo_S528x4x8x64x192_S528x4x8x64_d4 h_S_)) (Host.exp (subf (sinkRow s) t))

/-- The weighted sums of the values. -/
def out (w : FVec Ideal S528x4x8x64x192 .f32) (n : FVec Ideal S528x4x8x64x1 .f32) (v : FVec Ideal S528x192x4x64 .f32) : FVec Ideal S33792x2048 .bf16 :=
  truncf .bf16 (shapeCast S33792x2048 (transpose S528x64x4x8x64 [0, 4, 1, 3, 2]
    (Host.dotGeneral dot_S528x192x4x64_S528x4x8x64x192_S528x4x64x8x64_1_4_3_23_02_01 none v
      (Host.divf w (broadcastInDim S528x4x8x64x192 ![0, 1, 2, 3, 4] bcast_S528x4x8x64x1_S528x4x8x64x192_0_1_2_3_4 n)))
    transposes_S528x4x64x8x64_S528x64x4x8x64_0_4_1_3_2) shapeCasts_S528x64x4x8x64_S33792x2048) bitsLt_bf16_f32

/-- The slopes. -/
def slopes : FVec Ideal S32 .f32 := fun i => FloatOps.ofBits (F := Ideal) .f32 (lit0 (S32.rowMajor i))

/-- The keys' half of the keys and values. -/
def keysOf (kv : FVec Ideal S33792x512 .f32) : FVec Ideal S33792x256 .f32 :=
  extractStridedSlice S33792x256 ![0, 0] kv slices_S33792x512_S33792x256_0_0

/-- The values' half of the keys and values. -/
def valsOf (kv : FVec Ideal S33792x512 .f32) : FVec Ideal S33792x256 .f32 :=
  extractStridedSlice S33792x256 ![0, 256] kv slices_S33792x512_S33792x256_0_256

/-- The attention, from its arguments. -/
def attn (q : FVec Ideal S33792x2048 .bf16) (kv : FVec Ideal S33792x512 .f32) (ck cv : FVec Ideal S16x128x4x64 .f32)
    (sinks : FVec Ideal S1x32 .f32) : FVec Ideal S33792x2048 .bf16 :=
  let x := score (raw q (win (keysOf kv) ck) slopes dist) seen
  let w := weights x (top x (sink sinks))
  out w (den w (sink sinks) (top x (sink sinks))) (win (valsOf kv) cv)

variable (m : (ℓ : Loc nD τ sig) → Buf (Elt Ideal) ℓ)

/-- The reference's result, in these stages. -/
theorem res_eq (c : Dev nD) : Value.res_out0 m c = attn (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  rfl

end Cert.ReferenceIdeal.Ref

end
-- ==== Proof.RefAt.lean ====
/- The stages of the reference read element by element, and its result in the closed form of `Spec.outEarly`. -/
module

public import proofs.«01_k».proof.Proof.Ref
public import proofs.«01_k».proof.Proof.Spec
public import Idealize.ShloMosaic.Lib.Pointwise

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen

/-! ## The windows -/

theorem padded_at (a : FVec Ideal S33792x256 .f32) (b : Fin 16) (p : Fin 2176) (g : Fin 4) (d : Fin 64) :
    padded a (ix4 b p g d) = if h : p.val < 128 then (0 : EReal)
      else a (ix2 ⟨b.val * 2048 + (p.val - 128), by omega⟩ ⟨g.val * 64 + d.val, by omega⟩) := by
  pointwise [padded]

theorem promptWin_at (p : FVec Ideal S16x2176x4x64 .f32) (n : Fin 512) (s : Fin 192) (g : Fin 4) (d : Fin 64) :
    promptWin p (ix4 n s g d) = p (ix4 ⟨n.val / 32, by omega⟩ ⟨n.val % 32 * 64 + s.val, by omega⟩ g d) := by
  pointwise [promptWin]
  split_ifs <;> refine congrArg p ?_ <;> congr 1 <;> exact Fin.ext (by dsimp only; omega)

theorem sampleWin_at (a : FVec Ideal S33792x256 .f32) (c : FVec Ideal S16x128x4x64 .f32) (n : Fin 16) (s : Fin 192)
    (g : Fin 4) (d : Fin 64) :
    sampleWin a c (ix4 n s g d) = if h : s.val < 128 then c (ix4 n ⟨s.val, h⟩ g d)
      else a (ix2 ⟨32768 + (n.val * 64 + (s.val - 128)), by omega⟩ ⟨g.val * 64 + d.val, by omega⟩) := by
  pointwise [sampleWin]

theorem win_at (a : FVec Ideal S33792x256 .f32) (c : FVec Ideal S16x128x4x64 .f32) (n : Fin 528) (s : Fin 192)
    (g : Fin 4) (d : Fin 64) :
    win a c (ix4 n s g d) = if h : n.val < 512 then promptWin (padded a) (ix4 ⟨n.val, h⟩ s g d)
      else sampleWin a c (ix4 ⟨n.val - 512, by omega⟩ s g d) := by
  pointwise [win]

/-- What a chunk reads at a window position. -/
theorem win_eq (kv : Vec Ideal S33792x512 .f32) (a : FVec Ideal S33792x256 .f32) (c : FVec Ideal S16x128x4x64 .f32) (o : Fin 2)
    (ha : ∀ (i : Fin 33792) (j : Fin 256), a (ix2 i j) = kv (ix2 i ⟨256 * o.val + j.val, by omega⟩))
    (n : Fin 528) (s : Fin 192) (g : Fin 4) (d : Fin 64) : win a c (ix4 n s g d) = Spec.kvAt kv c o n s g d := by
  rw [win_at]
  unfold Spec.kvAt
  by_cases hn : n.val < 512
  · rw [dif_pos hn, promptWin_at, padded_at]
    by_cases hs : 64 * (n.val % 32) + s.val < 128
    · rw [dif_pos (by dsimp only; omega), if_pos ⟨hn, hs⟩]
    · rw [dif_neg (by dsimp only; omega), if_neg (by omega), dif_neg (by omega), ha]
      refine congrArg kv ?_
      congr 1 <;> exact Fin.ext (by dsimp only; omega)
  · rw [dif_neg hn, sampleWin_at, if_neg (by omega)]
    by_cases hs : s.val < 128
    · rw [dif_pos hs, dif_pos ⟨by omega, hs⟩]
    · rw [dif_neg hs, dif_neg (by omega), ha]
      refine congrArg kv ?_
      congr 1 <;> exact Fin.ext (by dsimp only; omega)

theorem cmp_seen : ∀ (k : Fin 32) (s : Fin 192),
    IntOp.cmpi .sge (IntOp.addi (IntOp.subi (IntOp.muli (BitVec.ofNat 32 k.val) 64#32) 128#32) (BitVec.ofNat 32 s.val)) 0#32
      = if 64 * k.val + s.val < 128 then 0#1 else 1#1 := by
  decide +kernel

theorem seen_at (n : Fin 528) (s : Fin 192) : seen (ix2 n s) = if Spec.Seen n s then 1#1 else 0#1 := by
  have h1 : seen (ix2 n s) = if n.val < 512 then IntOp.cmpi .sge (IntOp.addi (IntOp.subi (IntOp.muli
      (BitVec.ofNat 32 (n.val % 32)) 64#32) 128#32) (BitVec.ofNat 32 s.val)) 0#32 else 1#1 := by
    pointwise [seen]
    exact dite_eq_ite
  have hc := cmp_seen ⟨n.val % 32, by omega⟩ s
  dsimp only at hc
  rw [h1, hc]
  unfold Spec.Seen
  by_cases hn : n.val < 512 <;> by_cases hs : 64 * (n.val % 32) + s.val < 128 <;> simp [hn, hs]

/-! ## The scores -/

theorem dist_at (t : Fin 64) (s : Fin 192) : dist (ix2 t s) = Spec.dist t s := by
  pointwise [dist]
  rfl

theorem raw_at (q : FVec Ideal S33792x2048 .bf16) (k : FVec Ideal S528x192x4x64 .f32) (sl : FVec Ideal S32 .f32)
    (ds : FVec Ideal S64x192 .f32) (n : Fin 528) (g : Fin 4) (r : Fin 8) (t : Fin 64) (s : Fin 192) :
    raw q k sl ds (ix5 n g r t s) = (∑ x : Fin 64, k (ix4 n s g x)
        * q (ix2 ⟨n.val * 64 + t.val, by omega⟩ ⟨g.val * 512 + r.val * 64 + x.val, by omega⟩)) * Ideal.ofBits .f32 0x3E000000#32
      - sl (ix1 ⟨g.val * 8 + r.val, by omega⟩) * ds (ix2 t s) := by
  pointwise [raw]

theorem score_at (x : FVec Ideal S528x4x8x64x192 .f32) (sn : IVec S528x192 1) (n : Fin 528) (g : Fin 4) (r : Fin 8)
    (t : Fin 64) (s : Fin 192) : score x sn (ix5 n g r t s)
      = Scalar.select (sn (ix2 n s)) (x (ix5 n g r t s)) (Ideal.ofBits .f32 0xFF800000#32) := by
  pointwise [score]

theorem slope_eq : lit0 = Cert.KernelIdeal.Head.slopeW := by
  funext h; revert h; decide

theorem slopes_at (h : Fin 32) : slopes (ix1 h) = Ideal.ofBits .f32 (Cert.KernelIdeal.Head.slopeW h) := by
  have e : S32.rowMajor (ix1 h) = h := Fin.ext (Shape.rowMajor_val_one _)
  unfold slopes
  rw [slope_eq]
  exact congrArg (fun i => Ideal.ofBits .f32 (Cert.KernelIdeal.Head.slopeW i)) e

/-- The scores in closed form. -/
theorem score_eq (q : FVec Ideal S33792x2048 .bf16) (kv : Vec Ideal S33792x512 .f32) (ck : FVec Ideal S16x128x4x64 .f32)
    (a : FVec Ideal S33792x256 .f32)
    (ha : ∀ (i : Fin 33792) (j : Fin 256), a (ix2 i j) = kv (ix2 i ⟨256 * (0 : Fin 2).val + j.val, by omega⟩))
    (n : Fin 528) (g : Fin 4) (r : Fin 8) (t : Fin 64) (s : Fin 192) :
    score (raw q (win a ck) slopes dist) seen (ix5 n g r t s) = Spec.score q kv ck n ⟨g.val * 8 + r.val, by omega⟩ t s := by
  rw [score_at, seen_at]
  unfold Spec.score
  by_cases h : Spec.Seen n s
  · rw [if_pos h, if_pos h]
    refine Eq.trans (show _ = raw q (win a ck) slopes dist (ix5 n g r t s) from rfl) ?_
    rw [raw_at, slopes_at, dist_at]
    unfold Spec.raw
    refine congrArg (· * _ - _) (Finset.sum_congr rfl fun x _ => ?_)
    rw [win_eq kv a ck 0 ha, mul_comm]
    congr 2
    · congr 1 <;> exact Fin.ext (by dsimp only; omega)
    · exact Fin.ext (by dsimp only; omega)
  · rw [if_neg h, if_neg h]
    exact Spec.ofBits_bot

/-! ## The weights -/

theorem reduceMax {n0 n1 n2 n3 n4 : ℕ} {u : Shape} (h : (⟨5, ![n0, n1, n2, n3, n4]⟩ : Shape).ReducesTo [4] ⟨4, ![n0, n1, n2, n3]⟩)
    (x : FVec Ideal ⟨5, ![n0, n1, n2, n3, n4]⟩ .f32) (init : FVec Ideal u .f32) (hu : 0 < u.numel)
    (n : Fin n0) (g : Fin n1) (r : Fin n2) (t : Fin n3) :
    Host.reduce FloatOps.maximumf x init h hu (ix4 n g r t)
      = Finset.fold max (init (Shape.Idx.first hu)) (fun k : Fin n4 => x (ix5 n g r t k)) Finset.univ := by
  pointwise []

theorem rowMax_at (x : FVec Ideal S528x4x8x64x192 .f32) (n : Fin 528) (g : Fin 4) (r : Fin 8) (t : Fin 64) :
    rowMax x (ix4 n g r t) = Finset.fold max ⊥ (fun k : Fin 192 => x (ix5 n g r t k)) Finset.univ :=
  (reduceMax reducesTo_S528x4x8x64x192_S528x4x8x64_d4 x (constant (F := Ideal) S_ .f32 0xFF800000#32) h_S_ n g r t).trans
    (congrArg (fun b => Finset.fold max b (fun k : Fin 192 => x (ix5 n g r t k)) Finset.univ) Spec.ofBits_bot)

theorem maximumf_at {S : Shape} (a b : FVec Ideal S .f32) (i : S.Idx) : maximumf a b i = max (a i) (b i) := rfl

theorem beside_at (x : FVec Ideal S528x4x8x64 .f32) (n : Fin 528) (g : Fin 4) (r : Fin 8) (t : Fin 64) :
    broadcastInDim S528x4x8x64x1 ![0, 1, 2, 3] bcast_S528x4x8x64_S528x4x8x64x1_0_1_2_3 x (ix5 n g r t 0) = x (ix4 n g r t) := by
  pointwise []

theorem sink_at (x : FVec Ideal S1x32 .f32) (g : Fin 4) (r : Fin 8) :
    sink x (ix4 g r 0 0) = x (ix2 0 ⟨g.val * 8 + r.val, by omega⟩) := by
  pointwise [sink]

theorem sinkRow_at (s : FVec Ideal S4x8x1x1 .f32) (n : Fin 528) (g : Fin 4) (r : Fin 8) (t : Fin 64) :
    sinkRow s (ix5 n g r t 0) = s (ix4 g r 0 0) := by
  pointwise [sinkRow]

theorem top_at (x : FVec Ideal S528x4x8x64x192 .f32) (s : FVec Ideal S4x8x1x1 .f32) (n : Fin 528) (g : Fin 4) (r : Fin 8)
    (t : Fin 64) : top x s (ix5 n g r t 0) = Soft.top (fun k : Fin 192 => x (ix5 n g r t k)) (s (ix4 g r 0 0)) := by
  unfold top
  refine (maximumf_at _ _ _).trans (congrArg₂ max ((beside_at _ n g r t).trans (rowMax_at x n g r t)) (sinkRow_at s n g r t))

theorem weights_at (x : FVec Ideal S528x4x8x64x192 .f32) (u : FVec Ideal S528x4x8x64x1 .f32) (n : Fin 528) (g : Fin 4)
    (r : Fin 8) (t : Fin 64) (s : Fin 192) :
    weights x u (ix5 n g r t s) = Ideal.exp (x (ix5 n g r t s) - u (ix5 n g r t 0)) := by
  pointwise [weights]

theorem den_at (w : FVec Ideal S528x4x8x64x192 .f32) (s : FVec Ideal S4x8x1x1 .f32) (u : FVec Ideal S528x4x8x64x1 .f32)
    (n : Fin 528) (g : Fin 4) (r : Fin 8) (t : Fin 64) :
    den w s u (ix5 n g r t 0) = ∑ k : Fin 192, w (ix5 n g r t k) + Ideal.exp (s (ix4 g r 0 0) - u (ix5 n g r t 0)) := by
  pointwise [den, sinkRow]

theorem out_at (w : FVec Ideal S528x4x8x64x192 .f32) (d : FVec Ideal S528x4x8x64x1 .f32) (v : FVec Ideal S528x192x4x64 .f32)
    (n : Fin 33792) (l : Fin 2048) : out w d v (ix2 n l)
      = ∑ x : Fin 192, v (ix4 ⟨n.val / 64, by omega⟩ x ⟨l.val / 512, by omega⟩ ⟨l.val % 64, by omega⟩)
        * Ideal.div (w (ix5 ⟨n.val / 64, by omega⟩ ⟨l.val / 512, by omega⟩ ⟨l.val / 64 % 8, by omega⟩ ⟨n.val % 64, by omega⟩ x))
          (d (ix5 ⟨n.val / 64, by omega⟩ ⟨l.val / 512, by omega⟩ ⟨l.val / 64 % 8, by omega⟩ ⟨n.val % 64, by omega⟩ 0)) := by
  pointwise [out]

theorem keysOf_at (kv : FVec Ideal S33792x512 .f32) (i : Fin 33792) (j : Fin 256) :
    keysOf kv (ix2 i j) = kv (ix2 i ⟨256 * (0 : Fin 2).val + j.val, by omega⟩) := by
  pointwise [keysOf]

theorem valsOf_at (kv : FVec Ideal S33792x512 .f32) (i : Fin 33792) (j : Fin 256) :
    valsOf kv (ix2 i j) = kv (ix2 i ⟨256 * (1 : Fin 2).val + j.val, by simp; omega⟩) := by
  pointwise [valsOf]

/-- The attention in closed form. -/
theorem attn_at (q : FVec Ideal S33792x2048 .bf16) (kv : FVec Ideal S33792x512 .f32) (ck cv : FVec Ideal S16x128x4x64 .f32)
    (sinks : FVec Ideal S1x32 .f32) (n : Fin 33792) (l : Fin 2048) : attn q kv ck cv sinks (ix2 n l)
    = Spec.outEarly q kv ck cv sinks ⟨n.val / 64, by omega⟩ ⟨n.val % 64, by omega⟩ ⟨l.val / 64, by omega⟩ ⟨l.val % 64, by omega⟩ := by
  have hg : (⟨l.val / 64 / 8, by omega⟩ : Fin 4) = ⟨l.val / 512, by omega⟩ := Fin.ext (by dsimp only; omega)
  have hh : (⟨l.val / 512 * 8 + l.val / 64 % 8, by omega⟩ : Fin 32) = ⟨l.val / 64, by omega⟩ := Fin.ext (by dsimp only; omega)
  unfold attn
  rw [out_at]
  unfold Spec.outEarly Soft.early Soft.den
  simp only [weights_at, den_at, top_at, sink_at, hg, hh,
    score_eq q kv ck (keysOf kv) (keysOf_at kv), win_eq kv (valsOf kv) cv 1 (valsOf_at kv)]

end Cert.ReferenceIdeal.Ref

end
-- ==== Proof.ExpertsRun.lean ====
/- One grid point of the experts' launch. The tile's count of valid rows decides what the body does: above zero it
   leaves the two experts' weighted sum, at zero it leaves zeros. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The three tables of the tiles, as the body is handed them: its two experts and its count of valid rows. -/
abbrev tabA : Memref sig .tc .smem S156 .i32 := Memref.whole main_arg0
abbrev tabB : Memref sig .tc .smem S156 .i32 := Memref.whole main_arg1
abbrev tabN : Memref sig .tc .smem S156 .i32 := Memref.whole main_arg2

/-- What a table holds on a core, and half of the right to it. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The tile's count, as the body reads it of its table. -/
abbrev count {c : Dev nD} (i : grid0.Coords) (n : TabBuf (F := F) c tabN) : BitVec 32 :=
  tabN.view.readAt (Elt F) (Rect.unit (s := S156) (k0_off1 i) S1.size (k0_off1_inb i)).toLoadRect n (Shape.Idx.first (numel1_S1.symm ▸ Nat.one_pos))

/-- What holds the body's arguments at a point: the six blocks read, the block to be written, the three tables. -/
abbrev held (c : Dev nD) (arg4 : Memref sig .tc .vmem S256x2048 .f32) (arg5 : Memref sig .tc .vmem S256x128 .f32)
    (arg6 arg7 : Memref sig .tc .vmem S1x2048x1024 .bf16) (arg8 arg9 : Memref sig .tc .vmem S1x512x2048 .bf16)
    (x0 : Vec F S256x2048 .f32) (x1 : Vec F S256x128 .f32) (x2 x3 : Vec F S1x2048x1024 .bf16) (x4 x5 : Vec F S1x512x2048 .bf16)
    (ta : TabBuf (F := F) c tabA) (tb : TabBuf (F := F) c tabB) (tn : TabBuf (F := F) c tabN) (o : sProp 𝕄) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5
    ∗ o ∗ tabPt c tabA ta ∗ tabPt c tabB tb ∗ tabPt c tabN tn)

set_option maxHeartbeats 1000000 in
/-- A tile with valid rows. -/
noncomputable def full (c : Dev nD) (i : grid0.Coords) (arg4 : Memref sig .tc .vmem S256x2048 .f32) (harg4 : arg4.IsWhole)
    (arg5 : Memref sig .tc .vmem S256x128 .f32) (harg5 : arg5.IsWhole) (arg6 : Memref sig .tc .vmem S1x2048x1024 .bf16) (harg6 : arg6.IsWhole)
    (arg7 : Memref sig .tc .vmem S1x2048x1024 .bf16) (harg7 : arg7.IsWhole) (arg8 : Memref sig .tc .vmem S1x512x2048 .bf16) (harg8 : arg8.IsWhole)
    (arg9 : Memref sig .tc .vmem S1x512x2048 .bf16) (harg9 : arg9.IsWhole) (arg10 : Memref sig .tc .vmem S256x2048 .f32) (harg10 : arg10.IsWhole)
    (x0 : Vec F S256x2048 .f32) (x1 : Vec F S256x128 .f32) (x2 x3 : Vec F S1x2048x1024 .bf16) (x4 x5 : Vec F S1x512x2048 .bf16)
    (ta : TabBuf (F := F) c tabA) (tb : TabBuf (F := F) c tabB) (tn : TabBuf (F := F) c tabN)
    (hc0 : k0_cond1 (count i tn) = 1#1) (hc1 : ¬ k0_cond2 (count i tn) = 1#1) :
    { v : Vec F S256x2048 .f32 // ∀ (E : Set ℕ) (K : PUnit → sProp 𝕄),
        iprop(held c arg4 arg5 arg6 arg7 arg8 arg9 x0 x1 x2 x3 x4 x5 ta tb tn iprop(∃ d, owns (c : Thread nD τ) arg10 fullShare d)
            ∗ (held c arg4 arg5 arg6 arg7 arg8 arg9 x0 x1 x2 x3 x4 x5 ta tb tn iprop(owns (c : Thread nD τ) arg10 fullShare v) -∗ K ⟨⟩))
          ⊢ wp frame (wpE (defs₀ (F := F)) Variants.none c none) E (cc0_moe_experts i tabA (Memref.isWhole_whole _) tabB (Memref.isWhole_whole _)
              tabN (Memref.isWhole_whole _) arg4 harg4 arg5 harg5 arg6 harg6 arg7 harg7 arg8 harg8 arg9 harg9 arg10 harg10) K } := by
  refine ⟨?_, fun E K => ?run⟩
  case run =>
    simp only [cc0_moe_experts_eq_skeleton]; unfold cc0_moe_experts_skel
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HA, HB, HN⟩, Hk⟩
    obtain rfl := harg4.eq_unread hf0; obtain rfl := harg5.eq_unread hf1; obtain rfl := harg6.eq_unread hf2
    obtain rfl := harg7.eq_unread hf3; obtain rfl := harg8.eq_unread hf4; obtain rfl := harg9.eq_unread hf5
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr
      swap; · iexact H6
      ipureintro; exact View.read_writes_full _ _ _ _ _
    isplitl [HA]; · iexact HA
    isplitl [HB]; · iexact HB
    iexact HN

set_option maxHeartbeats 1000000 in
/-- A tile without valid rows. -/
theorem none_valid (c : Dev nD) (i : grid0.Coords) (arg4 : Memref sig .tc .vmem S256x2048 .f32) (harg4 : arg4.IsWhole)
    (arg5 : Memref sig .tc .vmem S256x128 .f32) (harg5 : arg5.IsWhole) (arg6 : Memref sig .tc .vmem S1x2048x1024 .bf16) (harg6 : arg6.IsWhole)
    (arg7 : Memref sig .tc .vmem S1x2048x1024 .bf16) (harg7 : arg7.IsWhole) (arg8 : Memref sig .tc .vmem S1x512x2048 .bf16) (harg8 : arg8.IsWhole)
    (arg9 : Memref sig .tc .vmem S1x512x2048 .bf16) (harg9 : arg9.IsWhole) (arg10 : Memref sig .tc .vmem S256x2048 .f32) (harg10 : arg10.IsWhole)
    (x0 : Vec F S256x2048 .f32) (x1 : Vec F S256x128 .f32) (x2 x3 : Vec F S1x2048x1024 .bf16) (x4 x5 : Vec F S1x512x2048 .bf16)
    (ta : TabBuf (F := F) c tabA) (tb : TabBuf (F := F) c tabB) (tn : TabBuf (F := F) c tabN)
    (hc0 : ¬ k0_cond1 (count i tn) = 1#1) (hc1 : k0_cond2 (count i tn) = 1#1) (E : Set ℕ) (K : PUnit → sProp 𝕄) :
    iprop(held c arg4 arg5 arg6 arg7 arg8 arg9 x0 x1 x2 x3 x4 x5 ta tb tn iprop(∃ d, owns (c : Thread nD τ) arg10 fullShare d)
            ∗ (held c arg4 arg5 arg6 arg7 arg8 arg9 x0 x1 x2 x3 x4 x5 ta tb tn iprop(owns (c : Thread nD τ) arg10 fullShare (k0_pay2 (F := F))) -∗ K ⟨⟩))
          ⊢ wp frame (wpE (defs₀ (F := F)) Variants.none c none) E (cc0_moe_experts i tabA (Memref.isWhole_whole _) tabB (Memref.isWhole_whole _)
              tabN (Memref.isWhole_whole _) arg4 harg4 arg5 harg5 arg6 harg6 arg7 harg7 arg8 harg8 arg9 harg9 arg10 harg10) K := by
  simp only [cc0_moe_experts_eq_skeleton]; unfold cc0_moe_experts_skel
  unfold held
  iintro ⟨⟨H0, H1, H2, H3, H4, H5, ⟨%d6, H6⟩, HA, HB, HN⟩, Hk⟩
  unfold owns
  icases H6 with ⟨%f6, -, H6⟩
  sl_exec (disch := first | sl_exact hc0 | sl_exact hc1)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact View.read_writes_full _ _ _ _ _
  isplitl [HA]; · iexact HA
  isplitl [HB]; · iexact HB
  iexact HN

end Cert.Kernel2Ideal.Experts

end
-- ==== Proof.ExpertsFrame.lean ====
/- The experts' launch: what its blocks hold point by point, and its run. The launch is the kernel's for every contents of
   the three tables whose experts exist and whose counts are not negative: a tile of negative count would be written back
   without having been computed. -/
module

public import proofs.«01_k».proof.Proof.ExpertsRun
public import Idealize.ShloMosaic.Lib.Claim
public import Idealize.ShloMosaic.Lib.Pipeline.Kit

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- The buffers when the launch begins: the two weight arrays joined and rounded. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither the joined weights nor one of the two rounded arrays is as the caller left it. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, Finset.mem_singleton]
    refine ⟨?_, ?_, ?_⟩
    all_goals exact StableHlo.devRef_ne_of_ne (by assumption)))

/-- The tables as the launch finds them; there is one device. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The tables' experts exist. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The count of a tile. -/
abbrev cnt (i : grid0.Coords) : BitVec 32 := count (F := F) (c := (0 : Dev nD)) i (tbl m 2)

/-- No tile counts below zero. -/
def Counted : Prop := ∀ i : grid0.Coords, (cnt m i).slt 0#32 = false

/-- One of the body's two cases is taken at every point. -/
theorem taken (w : BitVec 32) (h : w.slt 0#32 = false) :
    (k0_cond1 w = 1#1 ∧ ¬ k0_cond2 w = 1#1) ∨ (¬ k0_cond1 w = 1#1 ∧ k0_cond2 w = 1#1) := by
  have e1 : k0_cond1 w = if BitVec.slt 0#32 w then 1#1 else 0#1 := by
    show BitVec.ofBool (BitVec.setWidth 32 (BitVec.ofBool (BitVec.slt 0#32 w)) != 0#32) = _
    cases BitVec.slt 0#32 w <;> rfl
  have e2 : k0_cond2 w = if (w == 0#32) = true then 1#1 else 0#1 := by
    show BitVec.ofBool (BitVec.setWidth 32 (BitVec.ofBool (w == 0#32)) != 0#32) = _
    cases (w == 0#32) <;> rfl
  rw [e1, e2]
  by_cases hz : w = 0#32
  · subst hz; right; decide
  · left
    have : BitVec.slt 0#32 w = true := by
      simp only [BitVec.slt, decide_eq_true_eq, decide_eq_false_iff_not] at h ⊢
      have hne : w.toInt ≠ (0#32).toInt := fun he => hz (BitVec.eq_of_toInt_eq he)
      omega
    simp [this, hz]

/-- The tables' halves, table by table. -/
theorem tables_eq (c : Dev nD) : (Pipeline.ΦT pre0 (tbl m) c : sProp 𝕄) = iprop(tabPt c tabA (tbl m 0) ∗ tabPt c tabB (tbl m 1) ∗ tabPt c tabN (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- A window's block at a point, of its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output's block is written back at every point. -/
theorem flush6 (a : (pcfg0 (F := F)).Adm) : ∀ t : Fin (cfg0 a).N, ((cfg0 a).win 6).flush t = true :=
  (fun t => (Pipeline.Window.flushOf_reads cc0_transform_6 reads0_6 hreads0_6 0 (by decide) (by decide)
    (Pipeline.Window.sep_of_coord cc0_transform_6 0 0 (fun _ => rfl) (by decide)) (P := 1) (m := 0) (by decide) rfl t).mpr (Nat.mod_one _) :
    ∀ t : Fin grid0.N, Pipeline.Window.flushOf grid0 true cc0_transform_6 t = true)

/-- The staging buffers of a point. -/
abbrev ms0 (hO : Ok m) (t : Fin (cfgM m hO).N) : Memref sig .tc .vmem S256x2048 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S256x128 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2048x1024 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x512x2048 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x512x2048 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S256x2048 .f32 := spec0_6.stage ((cfgM m hO).slots t 6)
abbrev hs6 (hO : Ok m) (t : Fin (cfgM m hO).N) : (ms6 m hO t).IsWhole := hstage0_6 (((cfgM m hO).slots t 6).cast nbuf0_6)

/-- The body as it is called at a point. -/
abbrev bodyAt (hO : Ok m) (t : Fin (cfgM m hO).N) : Prog (TpuEff nD τ sig (Elt F) Λ₀ .tc) PUnit :=
  cc0_moe_experts (grid0.coords t) tabA (Memref.isWhole_whole _) tabB (Memref.isWhole_whole _) tabN (Memref.isWhole_whole _)
    (ms0 m hO t) (hs0 m hO t) (ms1 m hO t) (hs1 m hO t) (ms2 m hO t) (hs2 m hO t) (ms3 m hO t) (hs3 m hO t)
    (ms4 m hO t) (hs4 m hO t) (ms5 m hO t) (hs5 m hO t) (ms6 m hO t) (hs6 m hO t)

/-- What a tile with valid rows leaves. -/
def outFull (hO : Ok m) (c : Dev nD) (t : Fin (cfgM m hO).N) (h1 : k0_cond1 (cnt m (grid0.coords t)) = 1#1)
    (h2 : ¬ k0_cond2 (cnt m (grid0.coords t)) = 1#1) : Vec F S256x2048 .f32 :=
  (full c (grid0.coords t) (ms0 m hO t) (hs0 m hO t) (ms1 m hO t) (hs1 m hO t) (ms2 m hO t) (hs2 m hO t) (ms3 m hO t) (hs3 m hO t)
    (ms4 m hO t) (hs4 m hO t) (ms5 m hO t) (hs5 m hO t) (ms6 m hO t) (hs6 m hO t)
    (iblk m hO c 0 t) (iblk m hO c 1 t) (iblk m hO c 2 t) (iblk m hO c 3 t) (iblk m hO c 4 t) (iblk m hO c 5 t)
    (tbl m 0) (tbl m 1) (tbl m 2) h1 h2).1

/-- What a tile leaves. -/
def outAt (hO : Ok m) (c : Dev nD) (t : Fin (cfgM m hO).N) : Vec F S256x2048 .f32 :=
  if h : k0_cond1 (cnt m (grid0.coords t)) = 1#1 ∧ ¬ k0_cond2 (cnt m (grid0.coords t)) = 1#1 then outFull m hO c t h.1 h.2 else k0_pay2

theorem outAt_full (hO : Ok m) (c : Dev nD) (t : Fin (cfgM m hO).N) (h1 : k0_cond1 (cnt m (grid0.coords t)) = 1#1)
    (h2 : ¬ k0_cond2 (cnt m (grid0.coords t)) = 1#1) : outAt m hO c t = outFull m hO c t h1 h2 := by
  unfold outAt; exact dif_pos ⟨h1, h2⟩

theorem outAt_none (hO : Ok m) (c : Dev nD) (t : Fin (cfgM m hO).N) (h1 : ¬ k0_cond1 (cnt m (grid0.coords t)) = 1#1) :
    outAt m hO c t = k0_pay2 := by
  unfold outAt; exact dif_neg fun h => h1 h.1

/-- The launch's data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = outAt m hO c t := by dsimp only [dats]; try rfl

/-- The blocks read are in place at every point. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body at a point -/

/-- What the body is called with, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d))
    ∗ (∃ d, owns (c : Thread nD τ) (ms6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t)
    ∗ owns (c : Thread nD τ) (ms6 m hO t) fullShare ((dats m hO 0 c).after 6 t))

set_option maxHeartbeats 1600000 in
/-- A run of the body that leaves the tile's value is a run between the two. -/
theorem sound_of (hO : Ok m) (c : Dev nD) (t : Fin (cfgM m hO).N) (v : Vec F S256x2048 .f32) (hv : outAt m hO c t = v)
    (run : ∀ K : PUnit → sProp 𝕄,
      iprop(held c (ms0 m hO t) (ms1 m hO t) (ms2 m hO t) (ms3 m hO t) (ms4 m hO t) (ms5 m hO t) (iblk m hO c 0 t) (iblk m hO c 1 t)
            (iblk m hO c 2 t) (iblk m hO c 3 t) (iblk m hO c 4 t) (iblk m hO c 5 t) (tbl m 0) (tbl m 1) (tbl m 2)
            iprop(∃ d, owns (c : Thread nD τ) (ms6 m hO t) fullShare d)
          ∗ (held c (ms0 m hO t) (ms1 m hO t) (ms2 m hO t) (ms3 m hO t) (ms4 m hO t) (ms5 m hO t) (iblk m hO c 0 t) (iblk m hO c 1 t)
            (iblk m hO c 2 t) (iblk m hO c 3 t) (iblk m hO c 4 t) (iblk m hO c 5 t) (tbl m 0) (tbl m 1) (tbl m 2)
            iprop(owns (c : Thread nD τ) (ms6 m hO t) fullShare v) -∗ K ⟨⟩))
        ⊢ wp frame (wpE (defs₀ (F := F)) Variants.none c none) Set.univ (bodyAt m hO t) K) :
    bodyPre m hO c t ⊢ wp frame (wpE (defs₀ (F := F)) Variants.none c none) Set.univ (bodyAt m hO t) (fun _ => bodyPost m hO c t) := by
  unfold bodyPre bodyPost
  simp only [before0, before1, before2, before3, before4, before5]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, hv]
  rw [show (dats m hO 0 c).Φ t.castSucc = iprop(Pipeline.ΦA spec0 c ∗ Pipeline.ΦT pre0 (tbl m) c) from rfl, tables_eq]
  iintro ⟨⟨HΦ, ⟨HA, HB, HN⟩⟩, Ho, ⟨%d0, H0⟩, ⟨%d1, H1⟩, ⟨%d2, H2⟩, ⟨%d3, H3⟩, ⟨%d4, H4⟩, ⟨%d5, H5⟩, ⟨%d6, H6⟩⟩
  iapply (run _)
  unfold held
  isplitl [H0 H1 H2 H3 H4 H5 H6 HA HB HN]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HA]; · iexact HA
    isplitl [HB]; · iexact HB
    iexact HN
  iintro ⟨H0, H1, H2, H3, H4, H5, H6, HA, HB, HN⟩
  isplitl [HΦ HA HB HN]
  · isplitl [HΦ]; · iexact HΦ
    isplitl [HA]; · iexact HA
    isplitl [HB]; · iexact HB
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body between the two, at every point. -/
theorem sound (hO : Ok m) (hC : Counted m) (c : Dev nD) (t : Fin (cfgM m hO).N) :
    bodyPre m hO c t ⊢ wp frame (wpE (defs₀ (F := F)) Variants.none c none) Set.univ (bodyAt m hO t) (fun _ => bodyPost m hO c t) := by
  rcases taken _ (hC (grid0.coords t)) with ⟨h1, h2⟩ | ⟨h1, h2⟩
  · exact sound_of m hO c t _ (outAt_full m hO c t h1 h2) fun K =>
      (full c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t)
        (iblk m hO c 0 t) (iblk m hO c 1 t) (iblk m hO c 2 t) (iblk m hO c 3 t) (iblk m hO c 4 t) (iblk m hO c 5 t)
        (tbl m 0) (tbl m 1) (tbl m 2) h1 h2).2 Set.univ K
  · exact sound_of m hO c t _ (outAt_none m hO c t h1) fun K =>
      none_valid c (grid0.coords t) (ms0 m hO t) (hs0 m hO t) (ms1 m hO t) (hs1 m hO t) (ms2 m hO t) (hs2 m hO t) (ms3 m hO t) (hs3 m hO t)
        (ms4 m hO t) (hs4 m hO t) (ms5 m hO t) (hs5 m hO t) (ms6 m hO t) (hs6 m hO t)
        (iblk m hO c 0 t) (iblk m hO c 1 t) (iblk m hO c 2 t) (iblk m hO c 3 t) (iblk m hO c 4 t) (iblk m hO c 5 t)
        (tbl m 0) (tbl m 1) (tbl m 2) h1 h2 Set.univ K

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The launch's obligation of the body; the output's buffer is handed back as the body leaves it even where its point
    counts as idle, since it is written back. -/
theorem obligation (hO : Ok m) (hC : Counted m) (c : Dev nD) :
    BodyObligation (dats (F := F) m hO 0 c) (defs₀ (F := F)) Variants.none () Set.univ := fun t => by
  rw [bigSep_W0, bigSep_W0, defs₀_row m hO]
  refine triple_restated (sound m hO hC c t) rfl .rfl fun _ => ?_
  dsimp only
  split
  · split
    · rename_i h
      exact absurd ((flush6 (adm m hO) t).symm.trans h) (by decide)
    · exact .rfl
  · exact .rfl

/-! ## The run -/

set_option backward.isDefEq.respectTransparency.types false in
/-- Every run of the program ends with the launch's arrays as its data say, and with no signal left. -/
theorem run_quiet (hO : Ok m) (hC : Counted m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (obligation m hO hC c).loose) (hq := fun _ _ _ => rfl)
    (howed := fun _ _ => rfl) (V := V m) (hmain := hmain m Variants.none) (hA := A_eq m hO) (hpf := V_pre m)
    (hΦ := fun _ _ => rfl)

/-- After such a run the arguments are as they began. -/
theorem kept (hO : Ok m) (r) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have k : ∀ b : Ref sig .tc, b ∈ Pipeline.restRefs sig spec0 → b ≠ main_v0 → b ≠ main_v1 → b ≠ main_v2 →
      r.2.mem ((c : Thread nD τ).loc b) = m ((c : Thread nD τ).loc b) :=
    fun b hb h0 h1 h2 => ((h c).2 b hb).trans (V_kept m c b h0 h1 h2)
  ⟨k main_arg0 (by decide) (by decide) (by decide) (by decide), k main_arg1 (by decide) (by decide) (by decide) (by decide),
    k main_arg2 (by decide) (by decide) (by decide) (by decide),
    ((h c).1 0).trans (((dats m hO 0 c).arrAt_in 0 rfl _).trans ((A_eq m hO c 0).trans (V_kept m c main_arg3 (by decide) (by decide) (by decide)))),
    ((h c).1 1).trans (((dats m hO 0 c).arrAt_in 1 rfl _).trans ((A_eq m hO c 1).trans (V_kept m c main_arg4 (by decide) (by decide) (by decide)))),
    k main_arg5 (by decide) (by decide) (by decide) (by decide), k main_arg6 (by decide) (by decide) (by decide) (by decide),
    k main_arg7 (by decide) (by decide) (by decide) (by decide)⟩

/-- The arguments end as they began, and no signal is left. -/
theorem frame (hO : Ok m) (hC : Counted m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨kept m hO r h.1, h.2⟩) (run_quiet m ρ hO hC)

end Cert.Kernel2Ideal.Experts

end
-- ==== Proof.ExpertsSpec.lean ====
/- The experts' layer in plain mathematics: what the tile tables have to say, what one expert makes of one row, and the sum over the
   sixteen experts of which a row's two are all that is left. -/
module

public import proofs.«01_k».proof.Defs
public import Idealize.ShloMosaic.Lib.Pointwise

@[expose] public section

set_option maxRecDepth 16384

noncomputable section

namespace Cert.Experts

open Idealize.ShloMosaic Idealize.ShloMosaic.TcCoe

theorem ofBits_zero : Ideal.ofBits .f32 0x00000000#32 = 0 := by
  simp [Ideal.ofBits, Ideal.ieee]

/-! ## The tables -/

/-- The tables of a routed batch: each tile's two experts exist and differ, and no tile counts below zero. -/
structure Routed (a b n : IVec ⟨1, ![156]⟩ 32) : Prop where
  fst : ∀ t : Fin 156, (a (ix1 t)).toNat < 16
  snd : ∀ t : Fin 156, (b (ix1 t)).toNat < 16
  apart : ∀ t : Fin 156, a (ix1 t) ≠ b (ix1 t)
  counted : ∀ t : Fin 156, (n (ix1 t)).slt 0#32 = false

theorem facts : Cert.Pre_routed.Facts where
  bcast_S_S156 := by decide

theorem ofBool_one {b : Bool} (h : BitVec.ofBool b = 1#1) : b = true := by
  cases b
  · exact absurd h (by decide)
  · rfl

/-- A word from zero up to sixteen, sixteen out, as its signed comparisons say. -/
theorem lt_of_cmp (w : BitVec 32) (h0 : IntOp.cmpi .sge w 0#32 = 1#1) (h1 : IntOp.cmpi .slt w 16#32 = 1#1) : w.toNat < 16 := by
  have e0 : (0#32).sle w = true := ofBool_one h0
  have e1 : w.slt 16#32 = true := ofBool_one h1
  simp only [BitVec.sle, BitVec.slt, decide_eq_true_eq] at e0 e1
  have k0 : (0#32).toInt = 0 := by decide
  have k1 : (16#32).toInt = 16 := by decide
  rw [k0] at e0; rw [k1] at e1
  have hw := w.isLt
  rw [BitVec.toInt_eq_toNat_cond] at e0 e1
  split at e0 <;> split at e1 <;> omega

theorem not_slt_of_cmp (w : BitVec 32) (h : IntOp.cmpi .sge w 0#32 = 1#1) : w.slt 0#32 = false := by
  have e0 : (0#32).sle w = true := ofBool_one h
  simp only [BitVec.sle, BitVec.slt, decide_eq_true_eq, decide_eq_false_iff_not] at e0 ⊢
  omega

theorem ne_of_cmp (v w : BitVec 32) (h : IntOp.cmpi .ne v w = 1#1) : v ≠ w := by
  have e0 : (v != w) = true := ofBool_one h
  exact bne_iff_ne.mp e0

/-- What the precondition says of the tables. -/
theorem routed_of {F : FTy → Type} [FloatOps F] (a b n : IVec ⟨1, ![156]⟩ 32) (x : FVec F ⟨2, ![39936, 2048]⟩ .f32) (w : FVec F ⟨2, ![39936, 128]⟩ .f32)
    (g u : FVec F ⟨3, ![16, 2048, 512]⟩ .f32) (d : FVec F ⟨3, ![16, 512, 2048]⟩ .f32)
    (p : IVec ⟨1, ![156]⟩ 1 × IVec ⟨1, ![156]⟩ 1 × IVec ⟨1, ![156]⟩ 1 × IVec ⟨1, ![156]⟩ 1 × IVec ⟨1, ![156]⟩ 1 × IVec ⟨1, ![156]⟩ 1)
    (hp : haveI := facts; p = Cert.Pre_routed.fn a b n x w g u d)
    (h : p.1 = (fun _ => 1#1) ∧ p.2.1 = (fun _ => 1#1) ∧ p.2.2.1 = (fun _ => 1#1) ∧ p.2.2.2.1 = (fun _ => 1#1) ∧ p.2.2.2.2.1 = (fun _ => 1#1)
      ∧ p.2.2.2.2.2 = (fun _ => 1#1)) : Routed a b n := by
  subst hp
  obtain ⟨e0, e1, e2, e3, e4, e5⟩ := h
  exact ⟨fun t => lt_of_cmp _ (congrFun e0 (ix1 t)) (congrFun e1 (ix1 t)), fun t => lt_of_cmp _ (congrFun e2 (ix1 t)) (congrFun e3 (ix1 t)),
    fun t => ne_of_cmp _ _ (congrFun e4 (ix1 t)), fun t => not_slt_of_cmp _ (congrFun e5 (ix1 t))⟩

/-! ## The experts -/

/-- The hidden value: the gate projection through its sigmoid, times the up projection. -/
def hid (g u : EReal) : EReal := g * Ideal.div 1 (1 + Ideal.exp (-g)) * u

/-- What expert `e` makes of row `r`, at coordinate `l`. -/
def expert (x : FVec Ideal ⟨2, ![39936, 2048]⟩ .f32) (wg wu : FVec Ideal ⟨3, ![16, 2048, 512]⟩ .f32) (wd : FVec Ideal ⟨3, ![16, 512, 2048]⟩ .f32)
    (e : Fin 16) (r : Fin 39936) (l : Fin 2048) : EReal :=
  ∑ f : Fin 512, hid (∑ d : Fin 2048, x (ix2 r d) * wg (ix3 e d f)) (∑ d : Fin 2048, x (ix2 r d) * wu (ix3 e d f)) * wd (ix3 e f l)

/-- The expert a word names. -/
def named (w : BitVec 32) : Fin 16 := ⟨w.toNat % 16, Nat.mod_lt _ (by decide)⟩

/-- The tile of a row. -/
def tile (r : Fin 39936) : Fin 156 := ⟨r.val / 256, by omega⟩

/-- The result: the two experts of the row's tile by the row's two weights, and zero on a tile that counts no row. -/
def out (a b n : IVec ⟨1, ![156]⟩ 32) (x : FVec Ideal ⟨2, ![39936, 2048]⟩ .f32) (w : FVec Ideal ⟨2, ![39936, 128]⟩ .f32)
    (wg wu : FVec Ideal ⟨3, ![16, 2048, 512]⟩ .f32) (wd : FVec Ideal ⟨3, ![16, 512, 2048]⟩ .f32) (r : Fin 39936) (l : Fin 2048) : EReal :=
  if (0#32).slt (n (ix1 (tile r))) then
    w (ix2 r 0) * expert x wg wu wd (named (a (ix1 (tile r)))) r l + w (ix2 r 1) * expert x wg wu wd (named (b (ix1 (tile r)))) r l
  else 0

/-- A word below sixteen equals an expert's number when it names that expert. -/
theorem eq_ofNat_iff (w : BitVec 32) (h : w.toNat < 16) (e : Fin 16) : w = BitVec.ofNat 32 e.val ↔ e = named w := by
  have he := e.isLt
  constructor
  · rintro rfl
    refine Fin.ext ?_
    show e.val = (BitVec.ofNat 32 e.val).toNat % 16
    rw [BitVec.toNat_ofNat]; omega
  · rintro rfl
    refine BitVec.eq_of_toNat_eq ?_
    rw [BitVec.toNat_ofNat]
    show w.toNat = w.toNat % 16 % 2 ^ 32
    omega

/-- One or zero by whether a word is an expert's number. -/
theorem hot_eq (w : BitVec 32) (h : w.toNat < 16) (e : Fin 16) :
    FloatOps.uitofp (F := Ideal) .f32 (IntOp.cmpi .eq w (BitVec.ofNat 32 e.val)) = if e = named w then (1 : EReal) else 0 := by
  have k : IntOp.cmpi .eq w (BitVec.ofNat 32 e.val) = if e = named w then 1#1 else 0#1 := by
    show BitVec.ofBool (w == BitVec.ofNat 32 e.val) = _
    by_cases he : e = named w
    · rw [if_pos he, (beq_iff_eq.mpr ((eq_ofNat_iff w h e).mpr he))]; rfl
    · rw [if_neg he, (beq_eq_false_iff_ne.mpr fun k => he ((eq_ofNat_iff w h e).mp k))]; rfl
  rw [k]
  split
  · show (((1#1).toNat : ℝ) : EReal) = 1
    simp
  · show (((0#1).toNat : ℝ) : EReal) = 0
    simp

/-- Of the sixteen experts by the gates of a row, the two that differ from one another remain. -/
theorem sum_gates (a b : Fin 16) (hab : a ≠ b) (u v : EReal) (y : Fin 16 → EReal) :
    ∑ e : Fin 16, ((if e = a then (1 : EReal) else 0) * u + (if e = b then (1 : EReal) else 0) * v) * y e = u * y a + v * y b := by
  rw [Finset.sum_eq_add a b hab]
  · rw [if_pos rfl, if_neg hab, if_neg hab.symm, if_pos rfl]
    simp only [one_mul, zero_mul, add_zero, zero_add]
  · rintro e - ⟨ha, hb⟩
    rw [if_neg ha, if_neg hb]
    simp only [zero_mul, add_zero]
  · exact fun h => absurd (Finset.mem_univ _) h
  · exact fun h => absurd (Finset.mem_univ _) h

end Cert.Experts

end
-- ==== Proof.ExpertsTables.lean ====
/- The experts' tables at the launch: what the index maps read of them, and that a routed batch's blocks exist. -/
module

public import proofs.«01_k».proof.Proof.ExpertsFrame
public import proofs.«01_k».proof.Proof.ExpertsSpec
public import Idealize.ShloMosaic.Lib.Pipeline.ValueKit

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen

variable {F : FTy → Type} [FloatOps F]
variable (m : (ℓ : Loc nD τ sig) → Buf (Elt F) ℓ)

/-- The tables as the caller left them. -/
abbrev fstE : IVec S156 32 := m (((0 : Dev nD).tc : Thread nD τ).loc main_arg0)
abbrev sndE : IVec S156 32 := m (((0 : Dev nD).tc : Thread nD τ).loc main_arg1)
abbrev valid : IVec S156 32 := m (((0 : Dev nD).tc : Thread nD τ).loc main_arg2)

/-- The one word of a table at a grid point. -/
theorem emb_word (i : grid0.Coords) (h) (x : S1.Idx) :
    (Rect.unit (s := S156) ![(BitVec.ofNat 32 (i 0).val : BitVec 32).toNat] S1.size h).emb x = ix1 (i 0 : Fin 156) := by
  have hi : (i 0).val < 156 := (i 0).isLt
  have h0 : (x 0).val < 1 := (x 0).isLt
  have h1 : (x 0).val = 0 := by omega
  funext a
  match a with
  | ⟨0, _⟩ =>
    refine Fin.ext ((ValueKit.rect_emb_unit_val _ _ _ _ _).trans ?_)
    have e : (BitVec.ofNat 32 (i 0).val : BitVec 32).toNat = (i 0).val := by
      rw [BitVec.toNat_ofNat]; exact Nat.mod_eq_of_lt (by omega)
    show (BitVec.ofNat 32 (i 0).val : BitVec 32).toNat + (x 0).val = (i 0).val
    omega

theorem fst_at (i : grid0.Coords) (h) : (tbl m).at 0 (Rect.unit (s := S156) ![(BitVec.ofNat 32 (i 0).val : BitVec 32).toNat] S1.size h) numel1_S1
    = fstE m (ix1 (i 0 : Fin 156)) :=
  (congrFun (V_kept m (0 : Dev nD) main_arg0 (by decide) (by decide) (by decide)) _).trans (congrArg (fstE m) (emb_word i h _))

theorem snd_at (i : grid0.Coords) (h) : (tbl m).at 1 (Rect.unit (s := S156) ![(BitVec.ofNat 32 (i 0).val : BitVec 32).toNat] S1.size h) numel1_S1
    = sndE m (ix1 (i 0 : Fin 156)) :=
  (congrFun (V_kept m (0 : Dev nD) main_arg1 (by decide) (by decide) (by decide)) _).trans (congrArg (sndE m) (emb_word i h _))

theorem cnt_eq (i : grid0.Coords) : cnt m i = valid m (ix1 (i 0 : Fin 156)) :=
  (congrFun (V_kept m (0 : Dev nD) main_arg2 (by decide) (by decide) (by decide)) _).trans (congrArg (valid m) (emb_word i (k0_off1_inb i) _))

theorem transform_2 (i : grid0.Coords) : cc0_transform_2 k0_off1_inb numel1_S1 (tbl m) i = ![(fstE m (ix1 (i 0 : Fin 156))).toNat, 0, 0] :=
  congrArg (fun w : BitVec 32 => ![w.toNat, 0, 0]) (fst_at m i (k0_off1_inb i))
theorem transform_3 (i : grid0.Coords) : cc0_transform_3 k0_off1_inb numel1_S1 (tbl m) i = ![(sndE m (ix1 (i 0 : Fin 156))).toNat, 0, 0] :=
  congrArg (fun w : BitVec 32 => ![w.toNat, 0, 0]) (snd_at m i (k0_off1_inb i))
theorem transform_4 (i : grid0.Coords) : cc0_transform_4 k0_off1_inb numel1_S1 (tbl m) i = ![(fstE m (ix1 (i 0 : Fin 156))).toNat, 0, 0] :=
  congrArg (fun w : BitVec 32 => ![w.toNat, 0, 0]) (fst_at m i (k0_off1_inb i))
theorem transform_5 (i : grid0.Coords) : cc0_transform_5 k0_off1_inb numel1_S1 (tbl m) i = ![(sndE m (ix1 (i 0 : Fin 156))).toNat, 0, 0] :=
  congrArg (fun w : BitVec 32 => ![w.toNat, 0, 0]) (snd_at m i (k0_off1_inb i))

/-- The blocks of an expert that exists lie inside the arrays, and are whole words. -/
theorem inside_up (n : ℕ) (hn : n < 16) : ∃ h : (∀ a, ((![n, 0, 0] : Fin 3 → ℕ) a + 1) * S1x2048x1024.size a ≤ S16x2048x1024.size a),
    EltTy.bits .bf16 = 32 ∨ (Rect.block (s := S16x2048x1024) S1x2048x1024.size ![n, 0, 0] h).WholeWords (EltTy.packing .bf16) := by
  refine ⟨fun a => ?_, Or.inr (Or.inr ⟨by decide, rfl, Nat.zero_mul _, rfl⟩)⟩
  match a with
  | ⟨0, _⟩ => show (n + 1) * 1 ≤ 16; omega
  | ⟨1, _⟩ => show (0 + 1) * 2048 ≤ 2048; omega
  | ⟨2, _⟩ => show (0 + 1) * 1024 ≤ 1024; omega

theorem inside_down (n : ℕ) (hn : n < 16) : ∃ h : (∀ a, ((![n, 0, 0] : Fin 3 → ℕ) a + 1) * S1x512x2048.size a ≤ S16x512x2048.size a),
    EltTy.bits .bf16 = 32 ∨ (Rect.block (s := S16x512x2048) S1x512x2048.size ![n, 0, 0] h).WholeWords (EltTy.packing .bf16) := by
  refine ⟨fun a => ?_, Or.inr (Or.inr ⟨by decide, rfl, Nat.zero_mul _, rfl⟩)⟩
  match a with
  | ⟨0, _⟩ => show (n + 1) * 1 ≤ 16; omega
  | ⟨1, _⟩ => show (0 + 1) * 512 ≤ 512; omega
  | ⟨2, _⟩ => show (0 + 1) * 2048 ≤ 2048; omega

/-- A routed batch's tables name blocks that exist, -/
theorem ok (h : Cert.Experts.Routed (fstE m) (sndE m) (valid m)) : Ok m := by
  refine ⟨fun i => ?_, fun i => ?_, fun i => ?_, fun i => ?_⟩
  · rw [transform_2 m i]; exact inside_up _ (h.fst _)
  · rw [transform_3 m i]; exact inside_up _ (h.snd _)
  · rw [transform_4 m i]; exact inside_down _ (h.fst _)
  · rw [transform_5 m i]; exact inside_down _ (h.snd _)

/-- and no tile of it counts below zero. -/
theorem counted (h : Cert.Experts.Routed (fstE m) (sndE m) (valid m)) : Counted m := fun i => by
  rw [cnt_eq m i]; exact h.counted _

/-- The body's first condition is that the count is above zero. -/
theorem cond_eq (w : BitVec 32) : k0_cond1 w = if (0#32).slt w then 1#1 else 0#1 := by
  show BitVec.ofBool (BitVec.setWidth 32 (BitVec.ofBool (BitVec.slt 0#32 w)) != 0#32) = _
  cases BitVec.slt 0#32 w <;> rfl

theorem pos_of_cond {w : BitVec 32} (h : k0_cond1 w = 1#1) : (0#32).slt w = true := by
  rw [cond_eq] at h
  cases e : (0#32).slt w
  · rw [e] at h; exact absurd h (by decide)
  · rfl

theorem cond_of_pos {w : BitVec 32} (h : (0#32).slt w = true) : k0_cond1 w = 1#1 := by
  rw [cond_eq, h]; rfl

end Cert.Kernel2Ideal.Experts

end
-- ==== Proof.ExpertsValue.lean ====
/- What the kernel leaves in a tile, element by element: the blocks of a point, the joined weights read back apart, and the two
   experts of the tile. -/
module

public import proofs.«01_k».proof.Proof.ExpertsTables
public import Idealize.ShloMosaic.Lib.Pointwise

@[expose] public section

set_option maxRecDepth 16384

noncomputable section

namespace Cert.Kernel2Ideal.Experts

open Idealize.ShloMosaic Idealize.ShloMosaic.TcCoe Idealize.SL.Sem
open Cert.Kernel2Ideal Cert.Kernel2Ideal.Gen
open Cert.Experts (Routed hid expert named tile out)

/-! ## The body's arithmetic -/

/-- One expert's part of a tile, from the tile's rows and the expert's two blocks. -/
def part (x : Vec Ideal S256x2048 .f32) (p : Vec Ideal S1x2048x1024 .bf16) (q : Vec Ideal S1x512x2048 .bf16) (i : Fin 256) (l : Fin 2048) : EReal :=
  ∑ f : Fin 512, hid (∑ d : Fin 2048, x (ix2 i d) * p (ix3 0 d ⟨f.val, by omega⟩)) (∑ d : Fin 2048, x (ix2 i d) * p (ix3 0 d ⟨512 + f.val, by omega⟩))
    * q (ix3 0 f l)

theorem pay4_at (x : Vec Ideal S256x2048 .f32) (w : Vec Ideal S256x1 .f32) (p : Vec Ideal S1x2048x1024 .bf16) (q : Vec Ideal S1x512x2048 .bf16)
    (i : Fin 256) (l : Fin 2048) : k0_pay4 x w p q (ix2 i l) = w (ix2 i 0) * part x p q i l := by
  refine Eq.trans (b := w (ix2 i 0) * ∑ f : Fin 512, ((∑ d : Fin 2048, x (ix2 i d) * p (ix3 0 d ⟨f.val, by omega⟩))
    * Ideal.div 1 (1 + Ideal.exp (0 - ∑ d : Fin 2048, x (ix2 i d) * p (ix3 0 d ⟨f.val, by omega⟩)))
    * ∑ d : Fin 2048, x (ix2 i d) * p (ix3 0 d ⟨512 + f.val, by omega⟩)) * q (ix3 0 f l)) ?_ ?_
  · pointwise [k0_pay4, k0_pay3]
  · unfold part hid
    simp only [zero_sub]

theorem pay5_at (x : Vec Ideal S256x2048 .f32) (p : Vec Ideal S1x2048x1024 .bf16) (i : Fin 256) (k : Fin 1024) :
    k0_pay5 x p (ix2 i k) = ∑ d : Fin 2048, x (ix2 i d) * p (ix3 0 d k) := by
  pointwise [k0_pay5, k0_pay3]

theorem pay6_at (x : Vec Ideal S256x2048 .f32) (p : Vec Ideal S1x2048x1024 .bf16) (i : Fin 256) (f : Fin 512) :
    k0_pay6 x p (ix2 i f) = k0_pay5 x p (ix2 i ⟨f.val, by omega⟩) * Ideal.div 1 (1 + Ideal.exp (0 - k0_pay5 x p (ix2 i ⟨f.val, by omega⟩))) := by
  pointwise [k0_pay6]

theorem pay1_at (s : FVec Ideal S256x2048 .f32) (w : Vec Ideal S256x1 .f32) (h : FVec Ideal S256x1024 .f32) (g : FVec Ideal S256x512 .f32)
    (q : Vec Ideal S1x512x2048 .bf16) (i : Fin 256) (l : Fin 2048) :
    k0_pay1 s w h g q (ix2 i l) = s (ix2 i l) + w (ix2 i 0) * ∑ f : Fin 512, g (ix2 i f) * h (ix2 i ⟨512 + f.val, by omega⟩) * q (ix3 0 f l) := by
  pointwise [k0_pay1]

theorem pay2_at (i : Fin 256) (l : Fin 2048) : k0_pay2 (F := Ideal) (ix2 i l) = 0 := by
  pointwise [k0_pay2]

/-- The two experts' parts by the two weights. -/
theorem pay_at (x : Vec Ideal S256x2048 .f32) (w w' : Vec Ideal S256x1 .f32) (p p' : Vec Ideal S1x2048x1024 .bf16) (q q' : Vec Ideal S1x512x2048 .bf16)
    (i : Fin 256) (l : Fin 2048) : k0_pay1 (k0_pay4 x w p q) w' (k0_pay5 x p') (k0_pay6 x p') q' (ix2 i l)
      = w (ix2 i 0) * part x p q i l + w' (ix2 i 0) * part x p' q' i l := by
  rw [pay1_at, pay4_at]
  refine congrArg (w (ix2 i 0) * part x p q i l + w' (ix2 i 0) * ·) ?_
  unfold part hid
  refine Finset.sum_congr rfl fun f _ => ?_
  rw [pay6_at, pay5_at, pay5_at, zero_sub]

/-! ## The arrays -/

variable (m : (ℓ : Loc nD τ sig) → Buf (Elt Ideal) ℓ)

/-- Two up-going weight arrays beside each other, and the down-going one, as the launch reads them. -/
def joined (a b : FVec Ideal S16x2048x512 .f32) : FVec Ideal S16x2048x1024 .bf16 :=
  truncf .bf16 (concatenate S16x2048x1024 2 [⟨S16x2048x512, a⟩, ⟨S16x2048x512, b⟩] concatenates_S16x2048x512_S16x2048x512_S16x2048x1024_d2) bitsLt_bf16_f32
def lowered (a : FVec Ideal S16x512x2048 .f32) : FVec Ideal S16x512x2048 .bf16 := truncf .bf16 a bitsLt_bf16_f32

theorem V_up (c : Dev nD) : V m c main_v1 = joined (m ((c.tc : Thread nD τ).loc main_arg5)) (m ((c.tc : Thread nD τ).loc main_arg6)) := by
  dsimp only [V, hostOps0, List.flatten_cons, List.flatten_nil, List.append_nil, List.cons_append, List.nil_append]
  after_results_simp
  all_goals rfl

theorem V_down (c : Dev nD) : V m c main_v2 = lowered (m ((c.tc : Thread nD τ).loc main_arg7)) := by
  dsimp only [V, hostOps0, List.flatten_cons, List.flatten_nil, List.append_nil, List.cons_append, List.nil_append]
  after_results_simp
  all_goals rfl

theorem join_gate (a b : FVec Ideal S16x2048x512 .f32) (e : Fin 16) (d : Fin 2048) (f : Fin 512) :
    joined a b (ix3 e d ⟨f.val, by omega⟩) = a (ix3 e d f) := by
  have hf : f.val < 512 := f.isLt
  pointwise [joined]

theorem join_up (a b : FVec Ideal S16x2048x512 .f32) (e : Fin 16) (d : Fin 2048) (f : Fin 512) :
    joined a b (ix3 e d ⟨512 + f.val, by omega⟩) = b (ix3 e d f) := by
  have hf : ¬ 512 + f.val < 512 := by omega
  pointwise [joined]

theorem lowered_at (a : FVec Ideal S16x512x2048 .f32) (e : Fin 16) (f : Fin 512) (l : Fin 2048) : lowered a (ix3 e f l) = a (ix3 e f l) := by
  pointwise [lowered]

/-! ## The blocks -/

variable (hO : Ok m)

theorem pt_val : ∀ t : Fin grid0.N, (grid0.coords t 0).val = t.val := by
  decide +kernel

theorem blk0 (c : Dev nD) (t : Fin (cfgM m hO).N) (i : Fin 256) (d : Fin 2048) (r : Fin 39936) (hr : r.val = 256 * t.val + i.val) :
    (show Vec Ideal S256x2048 .f32 from iblk m hO c 0 t) (ix2 i d) = (m ((c.tc : Thread nD τ).loc main_arg3) : Vec Ideal S39936x2048 .f32) (ix2 r d) := by
  have ht := pt_val t
  refine Eq.trans ?_ (congrFun (V_kept m c main_arg3 (by decide) (by decide) (by decide)) _)
  blk_simp [iblk]
  refine congrArg (V m c main_arg3) (funext fun a => Fin.ext ?_)
  match a with
  | ⟨0, _⟩ =>
    refine (ValueKit.view_emb_slice_whole_unit_val _ _ _ _ _ _).trans ?_
    show (BitVec.ofNat 32 (grid0.coords t 0).val : BitVec 32).toNat * 256 + i.val = r.val
    rw [BitVec.toNat_ofNat, ht]; omega
  | ⟨1, _⟩ => exact (ValueKit.view_emb_slice_whole_unit_val _ _ _ _ _ _).trans (Nat.zero_add _)

theorem blk1 (c : Dev nD) (t : Fin (cfgM m hO).N) (i : Fin 256) (d : Fin 128) (r : Fin 39936) (hr : r.val = 256 * t.val + i.val) :
    (show Vec Ideal S256x128 .f32 from iblk m hO c 1 t) (ix2 i d) = (m ((c.tc : Thread nD τ).loc main_arg4) : Vec Ideal S39936x128 .f32) (ix2 r d) := by
  have ht := pt_val t
  refine Eq.trans ?_ (congrFun (V_kept m c main_arg4 (by decide) (by decide) (by decide)) _)
  blk_simp [iblk]
  refine congrArg (V m c main_arg4) (funext fun a => Fin.ext ?_)
  match a with
  | ⟨0, _⟩ =>
    refine (ValueKit.view_emb_slice_whole_unit_val _ _ _ _ _ _).trans ?_
    show (BitVec.ofNat 32 (grid0.coords t 0).val : BitVec 32).toNat * 256 + i.val = r.val
    rw [BitVec.toNat_ofNat, ht]; omega
  | ⟨1, _⟩ => exact (ValueKit.view_emb_slice_whole_unit_val _ _ _ _ _ _).trans (Nat.zero_add _)

theorem blk2 (c : Dev nD) (t : Fin (cfgM m hO).N) (e : Fin 16) (he : (fstE m (ix1 (grid0.coords t 0 : Fin 156))).toNat = e.val) (d : Fin 2048) (k : Fin 1024) :
    (show Vec Ideal S1x2048x1024 .bf16 from iblk m hO c 2 t) (ix3 0 d k) = V m c main_v1 (ix3 e d k) := by
  have h := transform_2 m (grid0.coords t)
  blk_simp [iblk]
  refine congrArg (V m c main_v1) (funext fun a => Fin.ext ?_)
  match a with
  | ⟨0, _⟩ =>
    refine (ValueKit.view_emb_slice_whole_unit_val _ _ _ _ _ _).trans ?_
    exact (congrArg (fun f : Fin 3 → ℕ => f 0 * 1 + 0) h).trans ((Nat.mul_one _).trans he)
  | ⟨1, _⟩ =>
    refine (ValueKit.view_emb_slice_whole_unit_val _ _ _ _ _ _).trans ?_
    exact (congrArg (fun f : Fin 3 → ℕ => f 1 * 2048 + d.val) h).trans (by show 0 * 2048 + d.val = d.val; omega)
  | ⟨2, _⟩ =>
    refine (ValueKit.view_emb_slice_whole_unit_val _ _ _ _ _ _).trans ?_
    exact (congrArg (fun f : Fin 3 → ℕ => f 2 * 1024 + k.val) h).trans (by show 0 * 1024 + k.val = k.val; omega)

theorem blk3 (c : Dev nD) (t : Fin (cfgM m hO).N) (e : Fin 16) (he : (sndE m (ix1 (grid0.coords t 0 : Fin 156))).toNat = e.val) (d : Fin 2048) (k : Fin 1024) :
    (show Vec Ideal S1x2048x1024 .bf16 from iblk m hO c 3 t) (ix3 0 d k) = V m c main_v1 (ix3 e d k) := by
  have h := transform_3 m (grid0.coords t)
  blk_simp [iblk]
  refine congrArg (V m c main_v1) (funext fun a => Fin.ext ?_)
  match a with
  | ⟨0, _⟩ =>
    refine (ValueKit.view_emb_slice_whole_unit_val _ _ _ _ _ _).trans ?_
    exact (congrArg (fun f : Fin 3 → ℕ => f 0 * 1 + 0) h).trans ((Nat.mul_one _).trans he)
  | ⟨1, _⟩ =>
    refine (ValueKit.view_emb_slice_whole_unit_val _ _ _ _ _ _).trans ?_
    exact (congrArg (fun f : Fin 3 → ℕ => f 1 * 2048 + d.val) h).trans (by show 0 * 2048 + d.val = d.val; omega)
  | ⟨2, _⟩ =>
    refine (ValueKit.view_emb_slice_whole_unit_val _ _ _ _ _ _).trans ?_
    exact (congrArg (fun f : Fin 3 → ℕ => f 2 * 1024 + k.val) h).trans (by show 0 * 1024 + k.val = k.val; omega)

theorem blk4 (c : Dev nD) (t : Fin (cfgM m hO).N) (e : Fin 16) (he : (fstE m (ix1 (grid0.coords t 0 : Fin 156))).toNat = e.val) (f : Fin 512) (l : Fin 2048) :
    (show Vec Ideal S1x512x2048 .bf16 from iblk m hO c 4 t) (ix3 0 f l) = V m c main_v2 (ix3 e f l) := by
  have h := transform_4 m (grid0.coords t)
  blk_simp [iblk]
  refine congrArg (V m c main_v2) (funext fun a => Fin.ext ?_)
  match a with
  | ⟨0, _⟩ =>
    refine (ValueKit.view_emb_slice_whole_unit_val _ _ _ _ _ _).trans ?_
    exact (congrArg (fun f : Fin 3 → ℕ => f 0 * 1 + 0) h).trans ((Nat.mul_one _).trans he)
  | ⟨1, _⟩ =>
    refine (ValueKit.view_emb_slice_whole_unit_val _ _ _ _ _ _).trans ?_
    exact (congrArg (fun g : Fin 3 → ℕ => g 1 * 512 + f.val) h).trans (by show 0 * 512 + f.val = f.val; omega)
  | ⟨2, _⟩ =>
    refine (ValueKit.view_emb_slice_whole_unit_val _ _ _ _ _ _).trans ?_
    exact (congrArg (fun g : Fin 3 → ℕ => g 2 * 2048 + l.val) h).trans (by show 0 * 2048 + l.val = l.val; omega)

theorem blk5 (c : Dev nD) (t : Fin (cfgM m hO).N) (e : Fin 16) (he : (sndE m (ix1 (grid0.coords t 0 : Fin 156))).toNat = e.val) (f : Fin 512) (l : Fin 2048) :
    (show Vec Ideal S1x512x2048 .bf16 from iblk m hO c 5 t) (ix3 0 f l) = V m c main_v2 (ix3 e f l) := by
  have h := transform_5 m (grid0.coords t)
  blk_simp [iblk]
  refine congrArg (V m c main_v2) (funext fun a => Fin.ext ?_)
  match a with
  | ⟨0, _⟩ =>
    refine (ValueKit.view_emb_slice_whole_unit_val _ _ _ _ _ _).trans ?_
    exact (congrArg (fun f : Fin 3 → ℕ => f 0 * 1 + 0) h).trans ((Nat.mul_one _).trans he)
  | ⟨1, _⟩ =>
    refine (ValueKit.view_emb_slice_whole_unit_val _ _ _ _ _ _).trans ?_
    exact (congrArg (fun g : Fin 3 → ℕ => g 1 * 512 + f.val) h).trans (by show 0 * 512 + f.val = f.val; omega)
  | ⟨2, _⟩ =>
    refine (ValueKit.view_emb_slice_whole_unit_val _ _ _ _ _ _).trans ?_
    exact (congrArg (fun g : Fin 3 → ℕ => g 2 * 2048 + l.val) h).trans (by show 0 * 2048 + l.val = l.val; omega)

end Cert.Kernel2Ideal.Experts

end
-- ==== Proof.ExpertsBody.lean ====
/- The value the experts' body leaves in a tile with valid rows, for any floats. -/
module

public import proofs.«01_k».proof.Proof.ExpertsRun

@[expose] public section

set_option maxRecDepth 16384

noncomputable section

namespace Cert.Kernel2Ideal.Experts

open Idealize.ShloMosaic Idealize.ShloMosaic.TcCoe Idealize.ShloMosaic.Tactic Idealize.SL.Sem
open Cert.Kernel2Ideal Cert.Kernel2Ideal.Gen

variable {F : FTy → Type} [FloatOps F]

/-- A whole block as the body loads it: the rows, an expert's joined up-going weights, its down-going ones. -/
def rows (M : Memref sig .tc .vmem S256x2048 .f32) (h : M.IsWhole) (x : Vec F S256x2048 .f32) : Vec F S256x2048 .f32 :=
  M.view.readAt (Elt F) (Rect.unit (s := S256x2048) ![0, 0] S256x2048.size inb_S256x2048_S256x2048_0_0).toLoadRect (h.unread x)
def upward (M : Memref sig .tc .vmem S1x2048x1024 .bf16) (h : M.IsWhole) (x : Vec F S1x2048x1024 .bf16) : Vec F S1x2048x1024 .bf16 :=
  M.view.readAt (Elt F) (Rect.unit (s := S1x2048x1024) ![0, 0, 0] S1x2048x1024.size inb_S1x2048x1024_S1x2048x1024_0_0_0).toLoadRect (h.unread x)
def downward (M : Memref sig .tc .vmem S1x512x2048 .bf16) (h : M.IsWhole) (x : Vec F S1x512x2048 .bf16) : Vec F S1x512x2048 .bf16 :=
  M.view.readAt (Elt F) (Rect.unit (s := S1x512x2048) ![0, 0, 0] S1x512x2048.size inb_S1x512x2048_S1x512x2048_0_0_0).toLoadRect (h.unread x)

theorem rows_eq (M : Memref sig .tc .vmem S256x2048 .f32) (h : M.IsWhole) (x : Vec F S256x2048 .f32) : rows M h x = x :=
  (View.readAt_full _ _ _).trans (h.read_unread x)
theorem upward_eq (M : Memref sig .tc .vmem S1x2048x1024 .bf16) (h : M.IsWhole) (x : Vec F S1x2048x1024 .bf16) : upward M h x = x :=
  (View.readAt_full _ _ _).trans (h.read_unread x)
theorem downward_eq (M : Memref sig .tc .vmem S1x512x2048 .bf16) (h : M.IsWhole) (x : Vec F S1x512x2048 .bf16) : downward M h x = x :=
  (View.readAt_full _ _ _).trans (h.read_unread x)

set_option maxHeartbeats 4000000 in
/-- What the body's run leaves in a full tile's block. -/
theorem full_loads (c : Dev nD) (i : grid0.Coords) (arg4 : Memref sig .tc .vmem S256x2048 .f32) (harg4 : arg4.IsWhole)
    (arg5 : Memref sig .tc .vmem S256x128 .f32) (harg5 : arg5.IsWhole) (arg6 : Memref sig .tc .vmem S1x2048x1024 .bf16) (harg6 : arg6.IsWhole)
    (arg7 : Memref sig .tc .vmem S1x2048x1024 .bf16) (harg7 : arg7.IsWhole) (arg8 : Memref sig .tc .vmem S1x512x2048 .bf16) (harg8 : arg8.IsWhole)
    (arg9 : Memref sig .tc .vmem S1x512x2048 .bf16) (harg9 : arg9.IsWhole) (arg10 : Memref sig .tc .vmem S256x2048 .f32) (harg10 : arg10.IsWhole)
    (x0 : Vec F S256x2048 .f32) (x1 : Vec F S256x128 .f32) (x2 x3 : Vec F S1x2048x1024 .bf16) (x4 x5 : Vec F S1x512x2048 .bf16)
    (ta : TabBuf (F := F) c tabA) (tb : TabBuf (F := F) c tabB) (tn : TabBuf (F := F) c tabN)
    (hc0 : k0_cond1 (count i tn) = 1#1) (hc1 : ¬ k0_cond2 (count i tn) = 1#1) :
    (full c i arg4 harg4 arg5 harg5 arg6 harg6 arg7 harg7 arg8 harg8 arg9 harg9 arg10 harg10 x0 x1 x2 x3 x4 x5 ta tb tn hc0 hc1).1
      = k0_pay1 (k0_pay4 (rows arg4 harg4 x0) (arg5.view.readAt (Elt F) (Rect.unit (s := S256x128) ![0, 0] S256x1.size inb_S256x128_S256x1_0_0).toLoadRect (harg5.unread x1))
          (upward arg6 harg6 x2) (downward arg8 harg8 x4))
        (arg5.view.readAt (Elt F) (Rect.unit (s := S256x128) ![0, 1] S256x1.size inb_S256x128_S256x1_0_1).toLoadRect (harg5.unread x1))
        (k0_pay5 (rows arg4 harg4 x0) (upward arg7 harg7 x3)) (k0_pay6 (rows arg4 harg4 x0) (upward arg7 harg7 x3)) (downward arg9 harg9 x5) := by
  sl_kernel_rfl

/-- The same of the blocks themselves. -/
theorem full_eq (c : Dev nD) (i : grid0.Coords) (arg4 : Memref sig .tc .vmem S256x2048 .f32) (harg4 : arg4.IsWhole)
    (arg5 : Memref sig .tc .vmem S256x128 .f32) (harg5 : arg5.IsWhole) (arg6 : Memref sig .tc .vmem S1x2048x1024 .bf16) (harg6 : arg6.IsWhole)
    (arg7 : Memref sig .tc .vmem S1x2048x1024 .bf16) (harg7 : arg7.IsWhole) (arg8 : Memref sig .tc .vmem S1x512x2048 .bf16) (harg8 : arg8.IsWhole)
    (arg9 : Memref sig .tc .vmem S1x512x2048 .bf16) (harg9 : arg9.IsWhole) (arg10 : Memref sig .tc .vmem S256x2048 .f32) (harg10 : arg10.IsWhole)
    (x0 : Vec F S256x2048 .f32) (x1 : Vec F S256x128 .f32) (x2 x3 : Vec F S1x2048x1024 .bf16) (x4 x5 : Vec F S1x512x2048 .bf16)
    (ta : TabBuf (F := F) c tabA) (tb : TabBuf (F := F) c tabB) (tn : TabBuf (F := F) c tabN)
    (hc0 : k0_cond1 (count i tn) = 1#1) (hc1 : ¬ k0_cond2 (count i tn) = 1#1) :
    (full c i arg4 harg4 arg5 harg5 arg6 harg6 arg7 harg7 arg8 harg8 arg9 harg9 arg10 harg10 x0 x1 x2 x3 x4 x5 ta tb tn hc0 hc1).1
      = k0_pay1 (k0_pay4 x0 (View.ld x1 (Rect.unit (s := S256x128) ![0, 0] S256x1.size inb_S256x128_S256x1_0_0)) x2 x4)
        (View.ld x1 (Rect.unit (s := S256x128) ![0, 1] S256x1.size inb_S256x128_S256x1_0_1)) (k0_pay5 x0 x3) (k0_pay6 x0 x3) x5 := by
  rw [full_loads, rows_eq, upward_eq, upward_eq, downward_eq, downward_eq, View.readAt_eq_ld, View.readAt_eq_ld, harg5.read_unread]

end Cert.Kernel2Ideal.Experts

end
-- ==== Proof.ExpertsFinal.lean ====
/- The experts' result: each tile's block in closed form, the blocks put together, and the run that ends with them. -/
module

public import proofs.«01_k».proof.Proof.ExpertsValue
public import proofs.«01_k».proof.Proof.ExpertsBody

@[expose] public section

set_option maxRecDepth 16384

noncomputable section

namespace Cert.Kernel2Ideal.Experts

open Idealize.ShloMosaic Idealize.ShloMosaic.TcCoe Idealize.ShloMosaic.Tactic Idealize.SL.Sem
open Idealize.ShloMosaic.Pipeline (Dat)
open Cert.Kernel2Ideal Cert.Kernel2Ideal.Gen
open Cert.Experts (Routed hid expert named tile out)

variable (m : (ℓ : Loc nD τ sig) → Buf (Elt Ideal) ℓ) (hO : Ok m)

/-- One expert's part of a tile is what the expert makes of the tile's rows. -/
theorem part_eq (c : Dev nD) (x : Vec Ideal S256x2048 .f32) (p : Vec Ideal S1x2048x1024 .bf16) (q : Vec Ideal S1x512x2048 .bf16) (e : Fin 16)
    (i : Fin 256) (r : Fin 39936) (l : Fin 2048)
    (hx : ∀ d, x (ix2 i d) = (m ((c.tc : Thread nD τ).loc main_arg3) : Vec Ideal S39936x2048 .f32) (ix2 r d))
    (hp : ∀ d k, p (ix3 0 d k) = V m c main_v1 (ix3 e d k)) (hq : ∀ f l, q (ix3 0 f l) = V m c main_v2 (ix3 e f l)) :
    part x p q i l = expert (m ((c.tc : Thread nD τ).loc main_arg3)) (m ((c.tc : Thread nD τ).loc main_arg5))
      (m ((c.tc : Thread nD τ).loc main_arg6)) (m ((c.tc : Thread nD τ).loc main_arg7)) e r l := by
  have hg : ∀ (d : Fin 2048) (f : Fin 512), p (ix3 0 d ⟨f.val, by omega⟩)
      = (m ((c.tc : Thread nD τ).loc main_arg5) : Vec Ideal S16x2048x512 .f32) (ix3 e d f) := fun d f =>
    (hp d _).trans ((congrFun (V_up m c) _).trans (join_gate _ _ e d f))
  have hu : ∀ (d : Fin 2048) (f : Fin 512), p (ix3 0 d ⟨512 + f.val, by omega⟩)
      = (m ((c.tc : Thread nD τ).loc main_arg6) : Vec Ideal S16x2048x512 .f32) (ix3 e d f) := fun d f =>
    (hp d _).trans ((congrFun (V_up m c) _).trans (join_up _ _ e d f))
  have hd : ∀ f : Fin 512, q (ix3 0 f l) = (m ((c.tc : Thread nD τ).loc main_arg7) : Vec Ideal S16x512x2048 .f32) (ix3 e f l) := fun f =>
    (hq f l).trans ((congrFun (V_down m c) _).trans (lowered_at _ e f l))
  unfold part expert
  refine Finset.sum_congr rfl fun f _ => congrArg₂ (· * ·) (congrArg₂ hid ?_ ?_) (hd f)
  · exact Finset.sum_congr rfl fun d _ => congrArg₂ (· * ·) (hx d) (hg d f)
  · exact Finset.sum_congr rfl fun d _ => congrArg₂ (· * ·) (hx d) (hu d f)

/-- The block that a full tile leaves, at an element. -/
theorem outFull_at (c : Dev nD) (t : Fin (cfgM m hO).N) (h1 : k0_cond1 (cnt m (grid0.coords t)) = 1#1)
    (h2 : ¬ k0_cond2 (cnt m (grid0.coords t)) = 1#1) (i : Fin 256) (l : Fin 2048) :
    outFull m hO c t h1 h2 (ix2 i l)
      = (show Vec Ideal S256x128 .f32 from iblk m hO c 1 t) (ix2 i 0) * part (iblk m hO c 0 t) (iblk m hO c 2 t) (iblk m hO c 4 t) i l
        + (show Vec Ideal S256x128 .f32 from iblk m hO c 1 t) (ix2 i 1) * part (iblk m hO c 0 t) (iblk m hO c 3 t) (iblk m hO c 5 t) i l := by
  have e := full_eq c (grid0.coords t) (ms0 m hO t) (hs0 m hO t) (ms1 m hO t) (hs1 m hO t) (ms2 m hO t) (hs2 m hO t) (ms3 m hO t) (hs3 m hO t)
    (ms4 m hO t) (hs4 m hO t) (ms5 m hO t) (hs5 m hO t) (ms6 m hO t) (hs6 m hO t)
    (iblk m hO c 0 t) (iblk m hO c 1 t) (iblk m hO c 2 t) (iblk m hO c 3 t) (iblk m hO c 4 t) (iblk m hO c 5 t)
    (tbl m 0) (tbl m 1) (tbl m 2) h1 h2
  unfold outFull
  refine (congrFun e _).trans ((pay_at _ _ _ _ _ _ _ i l).trans ?_)
  refine congrArg₂ (· + ·) (congrArg (· * _) ?_) (congrArg (· * _) ?_)
  · refine congrArg (iblk m hO c 1 t) (funext fun a => Fin.ext ?_)
    match a with
    | ⟨0, _⟩ => exact (ValueKit.rect_emb_unit_val _ _ _ _ _).trans (Nat.zero_add _)
    | ⟨1, _⟩ => exact (ValueKit.rect_emb_unit_val _ _ _ _ _).trans rfl
  · refine congrArg (iblk m hO c 1 t) (funext fun a => Fin.ext ?_)
    match a with
    | ⟨0, _⟩ => exact (ValueKit.rect_emb_unit_val _ _ _ _ _).trans (Nat.zero_add _)
    | ⟨1, _⟩ => exact (ValueKit.rect_emb_unit_val _ _ _ _ _).trans rfl

/-- The result in closed form. -/
def res (c : Dev nD) : Buf (Elt Ideal) ((c.tc : Thread nD τ).loc main_v3) := fun y : S39936x2048.Idx =>
  (out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (show Fin 39936 from y 0) (show Fin 2048 from y 1) : EReal)

/-- The block that a tile leaves, at an element. -/
theorem outAt_at (hR : Routed (fstE m) (sndE m) (valid m)) (c : Dev nD) (t : Fin (cfgM m hO).N) (i : Fin 256) (l : Fin 2048) (r : Fin 39936)
    (hr : r.val = 256 * t.val + i.val) : outAt m hO c t (ix2 i l) = res m c (ix2 r l) := by
  obtain rfl : c = 0 := Subsingleton.elim _ _
  have hp : (grid0.coords t 0 : Fin 156) = tile r := Fin.ext ((pt_val t).trans (by show t.val = r.val / 256; omega))
  have hn : cnt m (grid0.coords t) = valid m (ix1 (tile r)) := (cnt_eq m _).trans (by rw [hp])
  show _ = out (fstE m) (sndE m) (valid m) _ _ _ _ _ r l
  unfold out
  rcases taken _ (counted m hR (grid0.coords t)) with ⟨h1, h2⟩ | ⟨h1, h2⟩
  · have hpos : (0#32).slt (valid m (ix1 (tile r))) = true := by
      rw [← hn]; exact pos_of_cond h1
    have ha : (fstE m (ix1 (grid0.coords t 0 : Fin 156))).toNat = (named (fstE m (ix1 (tile r)))).val := by
      rw [hp]; exact (Nat.mod_eq_of_lt (hR.fst _)).symm
    have hb : (sndE m (ix1 (grid0.coords t 0 : Fin 156))).toNat = (named (sndE m (ix1 (tile r)))).val := by
      rw [hp]; exact (Nat.mod_eq_of_lt (hR.snd _)).symm
    rw [if_pos hpos, outAt_full m hO 0 t h1 h2]
    refine (outFull_at m hO 0 t h1 h2 i l).trans (congrArg₂ (· + ·) (congrArg₂ (· * ·) (blk1 m hO 0 t i 0 r hr) ?_)
      (congrArg₂ (· * ·) (blk1 m hO 0 t i 1 r hr) ?_))
    · exact part_eq m 0 _ _ _ _ i r l (fun d => blk0 m hO 0 t i d r hr) (fun d k => blk2 m hO 0 t _ ha d k) fun f l => blk4 m hO 0 t _ ha f l
    · exact part_eq m 0 _ _ _ _ i r l (fun d => blk0 m hO 0 t i d r hr) (fun d k => blk3 m hO 0 t _ hb d k) fun f l => blk5 m hO 0 t _ hb f l
  · have hneg : ¬ (0#32).slt (valid m (ix1 (tile r))) = true := by
      rw [← hn]; exact fun h => h1 (cond_of_pos h)
    rw [if_neg hneg, outAt_none m hO 0 t h1]
    exact pay2_at i l

/-- The blocks that are written back cover the result. -/
theorem covers : ((cfgM m hO).win 6).Covers := by
  refine ⟨fun a => ?_, fun β => ?_⟩
  · match a with
    | ⟨0, _⟩ => exact (by decide : 0 < 256)
    | ⟨1, _⟩ => exact (by decide : 0 < 2048)
  · have h0 : (β (0 : Fin 2)).val < 156 := lt_of_lt_of_eq (β (0 : Fin 2)).isLt (show (39936 + 256 - 1) / 256 = 156 by decide)
    have h1 : (β (1 : Fin 2)).val < 1 := lt_of_lt_of_eq (β (1 : Fin 2)).isLt (show (2048 + 2048 - 1) / 2048 = 1 by decide)
    have hN : grid0.N = 156 := by decide
    refine ⟨⟨(β (0 : Fin 2)).val, by show _ < grid0.N; omega⟩, flush6 _ _, fun a => ?_⟩
    have hp := pt_val ⟨(β (0 : Fin 2)).val, by omega⟩
    match a with
    | ⟨0, _⟩ =>
      refine ⟨?_, Or.inl rfl⟩
      show (BitVec.ofNat 32 (grid0.coords ⟨(β (0 : Fin 2)).val, _⟩ 0).val : BitVec 32).toNat = (β (0 : Fin 2)).val
      rw [BitVec.toNat_ofNat, hp]; exact Nat.mod_eq_of_lt (by dsimp only; omega)
    | ⟨1, _⟩ =>
      refine ⟨?_, Or.inl rfl⟩
      show 0 = (β (1 : Fin 2)).val
      omega

attribute [local irreducible] outAt in
theorem final (hR : Routed (fstE m) (sndE m) (valid m)) (c : Dev nD) : (dats m hO 0 c).arrAt 6 (cfgM m hO).N = res m c := by
  refine (dats m hO 0 c).arrAt_eq_of_covers 6 _ (covers m hO) fun t _ y => ?_
  have hN : grid0.N = 156 := by decide
  have ht : t.val < 156 := lt_of_lt_of_eq t.isLt hN
  have hp := pt_val t
  obtain ⟨i, l, rfl⟩ : ∃ (i : Fin 256) (l : Fin 2048), y = ix2 i l :=
    ⟨(show Fin 256 from y (0 : Fin 2)), (show Fin 2048 from y (1 : Fin 2)), by funext a; match a with | ⟨0, _⟩ => rfl | ⟨1, _⟩ => rfl⟩
  have e0 : ((((cfgM m hO).win 6).blk t).view.emb (ix2 i l) (0 : Fin 2)).val = 256 * t.val + i.val := by
    refine (ValueKit.view_emb_slice_whole_unit_val _ _ _ _ _ _).trans ?_
    show (BitVec.ofNat 32 (grid0.coords t 0).val : BitVec 32).toNat * 256 + i.val = _
    rw [BitVec.toNat_ofNat, hp]; omega
  have e1 : ((((cfgM m hO).win 6).blk t).view.emb (ix2 i l) (1 : Fin 2)).val = l.val :=
    (ValueKit.view_emb_slice_whole_unit_val _ _ _ _ _ _).trans (Nat.zero_add _)
  have ho := outAt_at m hO hR c t i l ⟨256 * t.val + i.val, by omega⟩ rfl
  rw [after6]
  refine Eq.trans ?_ (ho.trans ?_)
  · rfl
  · unfold res
    congr 1
    · exact Fin.ext e0.symm
    · exact Fin.ext e1.symm

/-- The kernel ends with the closed form in its result and its arguments unchanged. -/
theorem run (hR : Routed (fstE m) (sndE m) (valid m)) (ρ : Dev nD → PrngReg) :
    θ_run defs (onTc (τ := τ) (main (F := Ideal))) ⟨m, fun _ => 0, ρ⟩ (fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 6).trans (final m (ok m hR) hR c), kept m (ok m hR) r h.1 c⟩) (run_quiet m ρ (ok m hR) (counted m hR))

end Cert.Kernel2Ideal.Experts

end
-- ==== Proof.ExpertsKernel.lean ====
/- The kernel as it is printed for its own floats is the same program as the one read over the extended reals: the tables of bodies
   agree entry by entry, and so its frame is the other's. -/
module

public import proofs.«01_k».proof.Proof.ExpertsTables
public import proofs.«01_k».proof.Proof.Gen.Kernel2.Launch

@[expose] public section

set_option maxRecDepth 16384

noncomputable section

namespace Cert.Kernel2.Experts

open Idealize.ShloMosaic Idealize.ShloMosaic.TcCoe Idealize.SL.Sem

variable {F : FTy → Type} [FloatOps F]

set_option maxHeartbeats 1000000 in
theorem bodies_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg (Defs.onTc (τ := Cert.Kernel2Ideal.τ) (Λ := Cert.Kernel2Ideal.Λ₀)) (funext fun l => funext fun x => ?_)
  match l, x with
  | 0, (t, s) => rfl
  | ⟨n + 1, h⟩, _ => exact absurd h (Nat.not_lt.2 (Nat.le_add_left _ _))

set_option maxHeartbeats 1000000 in
theorem defs_eq : @Cert.Kernel2.defs F _ Cert.Kernel2.Gen.facts = @Cert.Kernel2Ideal.defs F _ Cert.Kernel2Ideal.Gen.facts :=
  congrArg (Pipeline.defs (@Cert.Kernel2Ideal.pcfgs F _ Cert.Kernel2Ideal.Gen.facts)) bodies_eq

set_option maxHeartbeats 1000000 in
theorem main_eq : @Cert.Kernel2.main F _ Cert.Kernel2.Gen.facts = @Cert.Kernel2Ideal.main F _ Cert.Kernel2Ideal.Gen.facts := rfl

open Cert.Kernel2 Cert.Kernel2.Gen

set_option maxHeartbeats 1000000 in
/-- The kernel's frame. -/
theorem frame (m : (ℓ : Loc nD τ sig) → Buf (Elt F) ℓ) (ρ : Dev nD → PrngReg)
    (hR : Cert.Experts.Routed (m (((0 : Dev nD).tc : Thread nD τ).loc main_arg0)) (m (((0 : Dev nD).tc : Thread nD τ).loc main_arg1))
      (m (((0 : Dev nD).tc : Thread nD τ).loc main_arg2))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact Cert.Kernel2Ideal.Experts.frame m ρ (Cert.Kernel2Ideal.Experts.ok m hR) (Cert.Kernel2Ideal.Experts.counted m hR)

end Cert.Kernel2.Experts

end
-- ==== Proof.ExpertsRef.lean ====
/- The reference's result for the experts, in stages read element by element: each row's gates over the sixteen experts,
   the experts' hidden values and their outputs, and the gated sum. -/
module

public import proofs.«01_k».proof.Proof.Gen.Reference2Ideal.Run
public import proofs.«01_k».proof.Proof.ExpertsSpec
public import Idealize.ShloMosaic.Lib.Pointwise

@[expose] public section

set_option maxRecDepth 16384

noncomputable section

namespace Cert.Reference2Ideal.Ref

open Idealize.ShloMosaic Idealize.ShloMosaic.TcCoe Idealize.SL.Sem
open Cert.Reference2Ideal Cert.Reference2Ideal.Gen

/-- A tile's word, for each of its 256 rows. -/
def rows (v : IVec S156 32) : IVec S39936 32 :=
  shapeCast _ (broadcastInDim S156x256 ![0, 1] bcast_S156x1_S156x256_0_1 (broadcastInDim S156x1 ![0] bcast_S156_S156x1_0 v)) shapeCasts_S156x256_S39936

/-- The two experts of each row. -/
def pairs (a b : IVec S39936 32) : IVec S39936x2 32 :=
  concatenate S39936x2 1 [⟨S39936x1, broadcastInDim S39936x1 ![0] bcast_S39936_S39936x1_0 a⟩,
    ⟨S39936x1, broadcastInDim S39936x1 ![0] bcast_S39936_S39936x1_0 b⟩] concatenates_S39936x1_S39936x1_S39936x2_d1

/-- Which expert each of them is. -/
def hot (p : IVec S39936x2 32) : FVec Ideal S39936x2x16 .f32 :=
  uitofp .f32 (cmpi .eq (broadcastInDim S39936x2x16 ![0, 1, 2] bcast_S39936x2x1_S39936x2x16_0_1_2 (broadcastInDim S39936x2x1 ![0, 1] bcast_S39936x2_S39936x2x1_0_1 p))
    (broadcastInDim S39936x2x16 ![0, 1, 2] bcast_S1x1x16_S39936x2x16_0_1_2 (iotaInDim S1x1x16 32 2)))

/-- The gates. -/
def gates (h : FVec Ideal S39936x2x16 .f32) (w : FVec Ideal S39936x128 .f32) : FVec Ideal S39936x16 .f32 :=
  Host.reduceAdd (mulf h (broadcastInDim S39936x2x16 ![0, 1, 2] bcast_S39936x2x1_S39936x2x16_0_1_2
      (broadcastInDim S39936x2x1 ![0, 1] bcast_S39936x2_S39936x2x1_0_1 (extractStridedSlice S39936x2 ![0, 0] w slices_S39936x128_S39936x2_0_0))))
    (constant S_ .f32 0x00000000#32) reducesTo_S39936x2x16_S39936x16_d1 h_S_

/-- A projection of every row by every expert. -/
def proj (x : FVec Ideal S39936x2048 .f32) (w : FVec Ideal S16x2048x512 .f32) : FVec Ideal S39936x16x512 .f32 :=
  Host.dotGeneral dot_S39936x2048_S16x2048x512_S39936x16x512_1_1_0_02_n_n none x w

/-- The hidden values. -/
def hidden (g u : FVec Ideal S39936x16x512 .f32) : FVec Ideal S39936x16x512 .f32 :=
  mulf (mulf g (Host.divf (broadcastInDim S39936x16x512 ![] bcast_S_S39936x16x512 (constant S_ .f32 0x3F800000#32))
    (addf (broadcastInDim S39936x16x512 ![] bcast_S_S39936x16x512 (constant S_ .f32 0x3F800000#32)) (Host.exp (Host.negf g))))) u

/-- The experts' outputs. -/
def outs (wd : FVec Ideal S16x512x2048 .f32) (h : FVec Ideal S39936x16x512 .f32) : FVec Ideal S39936x16x2048 .f32 :=
  transpose S39936x16x2048 [2, 0, 1] (Host.dotGeneral dot_S16x512x2048_S39936x16x512_S16x2048x39936_1_2_2_0_0_1 none wd h)
    transposes_S16x2048x39936_S39936x16x2048_2_0_1

/-- The gated sum. -/
def mix (g : FVec Ideal S39936x16 .f32) (y : FVec Ideal S39936x16x2048 .f32) : FVec Ideal S39936x2048 .f32 :=
  Host.reduceAdd (mulf (broadcastInDim S39936x16x2048 ![0, 1, 2] bcast_S39936x16x1_S39936x16x2048_0_1_2
      (broadcastInDim S39936x16x1 ![0, 1] bcast_S39936x16_S39936x16x1_0_1 g)) y)
    (constant S_ .f32 0x00000000#32) reducesTo_S39936x16x2048_S39936x2048_d1 h_S_

/-- The result: zero on the rows of a tile that counts none. -/
def masked (n : IVec S39936 32) (y : FVec Ideal S39936x2048 .f32) : FVec Ideal S39936x2048 .f32 :=
  select (broadcastInDim S39936x2048 ![0, 1] bcast_S39936x1_S39936x2048_0_1 (broadcastInDim S39936x1 ![0] bcast_S39936_S39936x1_0
      (cmpi .sgt n (broadcastInDim S39936 ![] bcast_S_S39936 (constantI S_ 32 0#32))))) y
    (broadcastInDim S39936x2048 ![] bcast_S_S39936x2048 (id (constant S_ .f32 0x00000000#32)))

theorem rows_at (v : IVec S156 32) (r : Fin 39936) : rows v (ix1 r) = v (ix1 ⟨r.val / 256, by omega⟩) := by
  pointwise [rows]

theorem pairs_at (a b : IVec S39936 32) (r : Fin 39936) (k : Fin 2) : pairs a b (ix2 r k) = if k.val < 1 then a (ix1 r) else b (ix1 r) := by
  pointwise [pairs]
  exact dite_eq_ite

theorem hot_at (p : IVec S39936x2 32) (r : Fin 39936) (k : Fin 2) (e : Fin 16) :
    hot p (ix3 r k e) = FloatOps.uitofp (F := Ideal) .f32 (IntOp.cmpi .eq (p (ix2 r k)) (BitVec.ofNat 32 e.val)) := by
  pointwise [hot]

theorem gates_at (h : FVec Ideal S39936x2x16 .f32) (w : FVec Ideal S39936x128 .f32) (r : Fin 39936) (e : Fin 16) :
    gates h w (ix2 r e) = ∑ k : Fin 2, h (ix3 r k e) * w (ix2 r ⟨k.val, by omega⟩) := by
  pointwise [gates]

theorem proj_at (x : FVec Ideal S39936x2048 .f32) (w : FVec Ideal S16x2048x512 .f32) (r : Fin 39936) (e : Fin 16) (f : Fin 512) :
    proj x w (ix3 r e f) = ∑ d : Fin 2048, x (ix2 r d) * w (ix3 e d f) := by
  pointwise [proj]

theorem hidden_at (g u : FVec Ideal S39936x16x512 .f32) (r : Fin 39936) (e : Fin 16) (f : Fin 512) :
    hidden g u (ix3 r e f) = g (ix3 r e f) * Ideal.div 1 (1 + Ideal.exp (-g (ix3 r e f))) * u (ix3 r e f) := by
  pointwise [hidden]

theorem outs_at (wd : FVec Ideal S16x512x2048 .f32) (h : FVec Ideal S39936x16x512 .f32) (r : Fin 39936) (e : Fin 16) (l : Fin 2048) :
    outs wd h (ix3 r e l) = ∑ f : Fin 512, wd (ix3 e f l) * h (ix3 r e f) := by
  pointwise [outs]

theorem mix_at (g : FVec Ideal S39936x16 .f32) (y : FVec Ideal S39936x16x2048 .f32) (r : Fin 39936) (l : Fin 2048) :
    mix g y (ix2 r l) = ∑ e : Fin 16, g (ix2 r e) * y (ix3 r e l) := by
  pointwise [mix]

theorem masked_at (n : IVec S39936 32) (y : FVec Ideal S39936x2048 .f32) (r : Fin 39936) (l : Fin 2048) :
    masked n y (ix2 r l) = Scalar.select (IntOp.cmpi .sgt (n (ix1 r)) 0#32) (y (ix2 r l)) 0 := by
  pointwise [masked]
  exact congrArg (Scalar.select _ _) Experts.ofBits_zero

/-- The reference, in these stages. -/
def moe (a b n : IVec S156 32) (x : FVec Ideal S39936x2048 .f32) (w : FVec Ideal S39936x128 .f32) (wg wu : FVec Ideal S16x2048x512 .f32)
    (wd : FVec Ideal S16x512x2048 .f32) : FVec Ideal S39936x2048 .f32 :=
  masked (rows n) (mix (gates (hot (pairs (rows a) (rows b))) w) (outs wd (hidden (proj x wg) (proj x wu))))

/-- On a routed batch it is the two experts of each row. -/
theorem moe_at (a b n : IVec S156 32) (h : Experts.Routed a b n) (x : FVec Ideal S39936x2048 .f32) (w : FVec Ideal S39936x128 .f32)
    (wg wu : FVec Ideal S16x2048x512 .f32) (wd : FVec Ideal S16x512x2048 .f32) (r : Fin 39936) (l : Fin 2048) :
    moe a b n x w wg wu wd (ix2 r l) = Experts.out a b n x w wg wu wd r l := by
  have gate : ∀ e : Fin 16, gates (hot (pairs (rows a) (rows b))) w (ix2 r e)
      = (if e = Experts.named (a (ix1 (Experts.tile r))) then (1 : EReal) else 0) * w (ix2 r 0)
        + (if e = Experts.named (b (ix1 (Experts.tile r))) then (1 : EReal) else 0) * w (ix2 r 1) := fun e => by
    rw [gates_at, Fin.sum_univ_two, hot_at, hot_at, pairs_at, pairs_at, if_pos (by decide), if_neg (by decide), rows_at, rows_at]
    exact congrArg₂ (· + ·) (congrArg₂ (· * ·) (Experts.hot_eq _ (h.fst _) e) rfl) (congrArg₂ (· * ·) (Experts.hot_eq _ (h.snd _) e) rfl)
  have made : ∀ e : Fin 16, outs wd (hidden (proj x wg) (proj x wu)) (ix3 r e l) = Experts.expert x wg wu wd e r l := fun e => by
    rw [outs_at]
    refine Finset.sum_congr rfl fun f _ => ?_
    rw [hidden_at, proj_at, proj_at, mul_comm]
    rfl
  have total : mix (gates (hot (pairs (rows a) (rows b))) w) (outs wd (hidden (proj x wg) (proj x wu))) (ix2 r l)
      = w (ix2 r 0) * Experts.expert x wg wu wd (Experts.named (a (ix1 (Experts.tile r)))) r l
        + w (ix2 r 1) * Experts.expert x wg wu wd (Experts.named (b (ix1 (Experts.tile r)))) r l := by
    rw [mix_at]
    refine (Finset.sum_congr rfl fun e _ => congrArg₂ (· * ·) (gate e) (made e)).trans ?_
    refine Experts.sum_gates _ _ (fun k => h.apart (Experts.tile r) ?_) _ _ fun e => Experts.expert x wg wu wd e r l
    exact ((Experts.eq_ofNat_iff _ (h.fst _) _).mpr rfl).trans (((Experts.eq_ofNat_iff _ (h.snd _) _).mpr k).symm)
  unfold moe Experts.out
  rw [masked_at, total, rows_at]
  show Scalar.select (BitVec.ofBool ((0#32).slt (n (ix1 (Experts.tile r))))) _ _ = _
  cases (0#32).slt (n (ix1 (Experts.tile r))) <;> rfl

set_option maxHeartbeats 1000000 in
/-- Every run of the reference ends with its result and its arguments so. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = moe (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1, (h c).2⟩) (Value.run (F := Ideal) m ρ)

end Cert.Reference2Ideal.Ref

end
-- ==== Proof.ResidualRun.lean ====
/- One grid point of the output projection's launch: the product of the tile's rows and the weights into the scratch
   block, then the sixteen blocks of rows one by one, each with the gate its word names. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel3Ideal.Residual

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- The table of the blocks' gates, as the body is handed it, what it holds on a core, and half of the right to it. -/
abbrev tab : Memref sig .tc .smem S528 .i32 := Memref.whole main_c
abbrev TabBuf (F : FTy → Type) (c : Dev nD) : Type := Buf (Elt F) (tab.view.loc (c : Thread nD τ))
abbrev tabPt (c : Dev nD) (f : TabBuf F c) : sProp 𝕄 := tab.view.loc (c : Thread nD τ) ↦{fullShare.right} f

/-- The word that trip `k` reads of it. -/
abbrev word {c : Dev nD} (i : grid0.Coords) (n : TabBuf F c) (k : Fin k0_t1_loop.trips) : BitVec 32 :=
  tab.view.readAt (Elt F) (Rect.unit (s := S528) (k0_off1 i k) S1.size (k0_off1_inb i k)).toLoadRect n (Shape.Idx.first (numel1_S1.symm ▸ Nat.one_pos))

theorem trips_eq : k0_t1_loop.trips = 16 := by decide

/-- The trip that writes a row. -/
def tripOf (y : S1024x512.Idx) : Fin k0_t1_loop.trips :=
  ⟨(y 0).val / 64, by rw [trips_eq]; have : (y 0).val < 1024 := (y 0).isLt; omega⟩

/-- The rows of trip `k`: the stream plus the gate times the product. -/
def rows (x2 : Vec F S1024x512 .f32) (x3 : Vec F S32x1x512 .f32) (g : Vec F S1024x512 .f32) (w : BitVec 32) (hw : k0_chk1 w)
    (k : Fin k0_t1_loop.trips) : Vec F S64x512 .f32 :=
  k0_pay2 (View.ld (Val := Elt F) x2 (Rect.unit (s := S1024x512) (k0_off2 k) S64x512.size (k0_off2_inb k)))
    (View.ld (Val := Elt F) x3 (Rect.unit (s := S32x1x512) (k0_off3 w) S1x1x512.size (k0_off3_inb w hw)))
    (View.ld (Val := Elt F) g (Rect.unit (s := S1024x512) (k0_off4 k) S64x512.size (k0_off4_inb k)))

/-- The same as the trip loads it of the buffers. -/
def loaded (arg5 : Memref sig .tc .vmem S1024x512 .f32) (harg5 : arg5.IsWhole) (arg6 : Memref sig .tc .vmem S32x1x512 .f32) (harg6 : arg6.IsWhole)
    (arg8 : Memref sig .tc .vmem S1024x512 .f32) (harg8 : arg8.IsWhole)
    (x2 : Vec F S1024x512 .f32) (x3 : Vec F S32x1x512 .f32) (g : Vec F S1024x512 .f32) (w : BitVec 32) (hw : k0_chk1 w)
    (k : Fin k0_t1_loop.trips) : Vec F S64x512 .f32 :=
  k0_pay2 (arg5.view.readAt (Elt F) (Rect.unit (s := S1024x512) (k0_off2 k) S64x512.size (k0_off2_inb k)).toLoadRect (harg5.unread x2))
    (arg6.view.readAt (Elt F) (Rect.unit (s := S32x1x512) (k0_off3 w) S1x1x512.size (k0_off3_inb w hw)).toLoadRect (harg6.unread x3))
    (arg8.view.readAt (Elt F) (Rect.unit (s := S1024x512) (k0_off4 k) S64x512.size (k0_off4_inb k)).toLoadRect (harg8.unread g))

theorem loaded_eq (arg5 : Memref sig .tc .vmem S1024x512 .f32) (harg5 : arg5.IsWhole) (arg6 : Memref sig .tc .vmem S32x1x512 .f32) (harg6 : arg6.IsWhole)
    (arg8 : Memref sig .tc .vmem S1024x512 .f32) (harg8 : arg8.IsWhole)
    (x2 : Vec F S1024x512 .f32) (x3 : Vec F S32x1x512 .f32) (g : Vec F S1024x512 .f32) (w : BitVec 32) (hw : k0_chk1 w)
    (k : Fin k0_t1_loop.trips) : loaded arg5 harg5 arg6 harg6 arg8 harg8 x2 x3 g w hw k = rows x2 x3 g w hw k := by
  unfold loaded rows
  rw [View.readAt_eq_ld, View.readAt_eq_ld, View.readAt_eq_ld, harg5.read_unread, harg6.read_unread, harg8.read_unread]

/-- The block that the sixteen trips leave. -/
def left (x2 : Vec F S1024x512 .f32) (x3 : Vec F S32x1x512 .f32) (g : Vec F S1024x512 .f32) (w : Fin k0_t1_loop.trips → BitVec 32)
    (hw : ∀ k, k0_chk1 (w k)) : Vec F S1024x512 .f32 := fun y =>
  rows x2 x3 g (w (tripOf y)) (hw _) (tripOf y) (ix2 (⟨(y 0).val % 64, Nat.mod_lt _ (by decide)⟩ : Fin 64) (show Fin 512 from y 1))

section Trip

variable (c : Dev nD) (i : grid0.Coords) (arg3 : Memref sig .tc .vmem S1024x4096 .bf16) (harg3 : arg3.IsWhole)
    (arg4 : Memref sig .tc .vmem S4096x512 .bf16) (harg4 : arg4.IsWhole) (arg5 : Memref sig .tc .vmem S1024x512 .f32) (harg5 : arg5.IsWhole)
    (arg6 : Memref sig .tc .vmem S32x1x512 .f32) (harg6 : arg6.IsWhole) (arg7 : Memref sig .tc .vmem S1024x512 .f32) (harg7 : arg7.IsWhole)
    (arg8 : Memref sig .tc .vmem S1024x512 .f32) (harg8 : arg8.IsWhole)
    (x2 : Vec F S1024x512 .f32) (x3 : Vec F S32x1x512 .f32) (g : Vec F S1024x512 .f32) (n : TabBuf F c)

/-- What a trip finds: the stream's block, the gates, the product, the table, and the output's block. -/
def resAt (fo : Buf (Elt F) (arg7.view.loc (c : Thread nD τ))) : sProp 𝕄 :=
  iprop(owns (c : Thread nD τ) arg5 fullShare x2 ∗ owns (c : Thread nD τ) arg6 fullShare x3 ∗ owns (c : Thread nD τ) arg8 fullShare g
    ∗ tabPt c n ∗ arg7.view.loc (c : Thread nD τ) ↦[arg7.view.set]{fullShare} fo)

set_option maxHeartbeats 600000 in
/-- One trip: its rows into the output's block. -/
theorem tripRun (hw : ∀ k, k0_chk1 (word i n k)) (k : Fin k0_t1_loop.trips) (fo : Buf (Elt F) (arg7.view.loc (c : Thread nD τ))) :
    resAt c arg5 arg6 arg7 arg8 x2 x3 g n fo ⊢ wp frame (wpE (defs₀ (F := F)) Variants.none c none) Set.univ
      (k0_t1_body (F := F) i tab (Memref.isWhole_whole _) arg3 harg3 arg4 harg4 arg5 harg5 arg6 harg6 arg7 harg7 arg8 harg8 k ())
      (fun _ => resAt c arg5 arg6 arg7 arg8 x2 x3 g n (arg7.view.writes (Elt F) fo
        [⟨Rect.unit (s := S1024x512) (k0_off4 k) S64x512.size (k0_off4_inb k), loaded arg5 harg5 arg6 harg6 arg8 harg8 x2 x3 g (word i n k) (hw k) k⟩])) := by
  have hwk := hw k
  unfold resAt owns
  iintro ⟨⟨%f2, %hf2, H2⟩, ⟨%f3, %hf3, H3⟩, ⟨%f8, %hf8, H8⟩, HN, H7⟩
  obtain rfl := harg5.eq_unread hf2; obtain rfl := harg6.eq_unread hf3; obtain rfl := harg8.eq_unread hf8
  sl_unfold [k0_t1_body]
  sl_exec (disch := sl_exact hwk)
  sl_step
  isplitl [H2]
  · iexists _; isplitr; · ipureintro; exact harg5.read_unread _
    iexact H2
  isplitl [H3]
  · iexists _; isplitr; · ipureintro; exact harg6.read_unread _
    iexact H3
  isplitl [H8]
  · iexists _; isplitr; · ipureintro; exact harg8.read_unread _
    iexact H8
  isplitl [HN]; · iexact HN
  unfold loaded
  iexact H7

/-- Before trip `k`: the rows of the trips before it are written. -/
def invAt (hw : ∀ k, k0_chk1 (word i n k)) (k : ℕ) (_ : Unit) : sProp 𝕄 :=
  iprop(∃ fo, ⌜∀ y : S1024x512.Idx, (y (0 : Fin 2)).val < 64 * k → arg7.view.read (Elt F) fo y = left x2 x3 g (word i n) hw y⌝
    ∗ resAt c arg5 arg6 arg7 arg8 x2 x3 g n fo)

theorem off4_eq (k : Fin k0_t1_loop.trips) : k0_off4 k = ![64 * k.val, 0] := by
  revert k; decide +kernel

/-- One trip more of the rows. -/
theorem rows_next (hw : ∀ k, k0_chk1 (word i n k)) (k : Fin k0_t1_loop.trips) (fo : Buf (Elt F) (arg7.view.loc (c : Thread nD τ)))
    (h : ∀ y : S1024x512.Idx, (y (0 : Fin 2)).val < 64 * k.val → arg7.view.read (Elt F) fo y = left x2 x3 g (word i n) hw y)
    (y : S1024x512.Idx) (hy : (y (0 : Fin 2)).val < 64 * (k.val + 1)) :
    arg7.view.read (Elt F) (arg7.view.writes (Elt F) fo
      [⟨Rect.unit (s := S1024x512) (k0_off4 k) S64x512.size (k0_off4_inb k), rows x2 x3 g (word i n k) (hw k) k⟩]) y
      = left x2 x3 g (word i n) hw y := by
  by_cases hk : (y (0 : Fin 2)).val < 64 * k.val
  · exact (View.read_writes_cons_rows_of_not_mem (o := 64 * k.val) (W := 64) arg7.view fo (k0_off4_inb k) _ [] y (off4_eq k) rfl (Or.inl hk)).trans (h y hk)
  · have e : tripOf y = k := Fin.ext (by show (y (0 : Fin 2)).val / 64 = k.val; omega)
    refine (View.read_writes_cons_rows_of_mem (o := 64 * k.val) arg7.view fo (k0_off4_inb k) _ [] y
      (ix2 (⟨(y (0 : Fin 2)).val % 64, Nat.mod_lt _ (by decide)⟩ : Fin 64) (show Fin 512 from y (1 : Fin 2))) (off4_eq k) ?_ rfl).trans ?_
    · show (y (0 : Fin 2)).val = 64 * k.val + (y (0 : Fin 2)).val % 64
      omega
    · unfold left
      subst e
      rfl

/-- The rows of every trip are the whole block. -/
theorem rows_all (hw : ∀ k, k0_chk1 (word i n k)) (fo : Buf (Elt F) (arg7.view.loc (c : Thread nD τ)))
    (h : ∀ y : S1024x512.Idx, (y (0 : Fin 2)).val < 64 * k0_t1_loop.trips → arg7.view.read (Elt F) fo y = left x2 x3 g (word i n) hw y) :
    arg7.view.read (Elt F) fo = left x2 x3 g (word i n) hw :=
  funext fun y => h y (by rw [trips_eq]; exact (y (0 : Fin 2)).isLt)

theorem step (hw : ∀ k, k0_chk1 (word i n k)) (k : Fin k0_t1_loop.trips) (a : Unit) :
    invAt c i arg5 arg6 arg7 arg8 x2 x3 g n hw k.val a ⊢ wp frame (wpE (defs₀ (F := F)) Variants.none c none) Set.univ
      (k0_t1_body (F := F) i tab (Memref.isWhole_whole _) arg3 harg3 arg4 harg4 arg5 harg5 arg6 harg6 arg7 harg7 arg8 harg8 k a)
      (invAt c i arg5 arg6 arg7 arg8 x2 x3 g n hw (k.val + 1)) := by
  unfold invAt
  iintro ⟨%fo, %h, H⟩
  iapply (wp_wand_r Idealize.ShloMosaic.frame (wpE (defs₀ (F := F)) Variants.none (c : Thread nD τ) none) Set.univ)
  isplitl [H]
  · iapply (tripRun c i arg3 harg3 arg4 harg4 arg5 harg5 arg6 harg6 arg7 harg7 arg8 harg8 x2 x3 g n hw k fo); iexact H
  · rw [loaded_eq]
    iintro %_ H'
    iexists _
    isplitr
    swap; · iexact H'
    ipureintro
    exact rows_next c i arg7 x2 x3 g n hw k fo h

end Trip

/-- What holds the body's arguments at a point: the four blocks read, the block to be written, the scratch block, the
    table. -/
abbrev held (c : Dev nD) (arg3 : Memref sig .tc .vmem S1024x4096 .bf16) (arg4 : Memref sig .tc .vmem S4096x512 .bf16)
    (arg5 : Memref sig .tc .vmem S1024x512 .f32) (arg6 : Memref sig .tc .vmem S32x1x512 .f32) (arg8 : Memref sig .tc .vmem S1024x512 .f32)
    (x0 : Vec F S1024x4096 .bf16) (x1 : Vec F S4096x512 .bf16) (x2 : Vec F S1024x512 .f32) (x3 : Vec F S32x1x512 .f32) (n : TabBuf F c)
    (o : sProp 𝕄) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ o ∗ (∃ d, owns (c : Thread nD τ) arg8 fullShare d) ∗ tabPt c n)

set_option maxHeartbeats 1000000 in
/-- The body at a point. -/
theorem body (c : Dev nD) (i : grid0.Coords) (arg3 : Memref sig .tc .vmem S1024x4096 .bf16) (harg3 : arg3.IsWhole)
    (arg4 : Memref sig .tc .vmem S4096x512 .bf16) (harg4 : arg4.IsWhole) (arg5 : Memref sig .tc .vmem S1024x512 .f32) (harg5 : arg5.IsWhole)
    (arg6 : Memref sig .tc .vmem S32x1x512 .f32) (harg6 : arg6.IsWhole) (arg7 : Memref sig .tc .vmem S1024x512 .f32) (harg7 : arg7.IsWhole)
    (arg8 : Memref sig .tc .vmem S1024x512 .f32) (harg8 : arg8.IsWhole)
    (x0 : Vec F S1024x4096 .bf16) (x1 : Vec F S4096x512 .bf16) (x2 : Vec F S1024x512 .f32) (x3 : Vec F S32x1x512 .f32) (n : TabBuf F c)
    (hw : ∀ k, k0_chk1 (word i n k)) (K : PUnit → sProp 𝕄) :
    iprop(held c arg3 arg4 arg5 arg6 arg8 x0 x1 x2 x3 n iprop(∃ d, owns (c : Thread nD τ) arg7 fullShare d)
        ∗ (held c arg3 arg4 arg5 arg6 arg8 x0 x1 x2 x3 n iprop(owns (c : Thread nD τ) arg7 fullShare (left x2 x3 (k0_pay1 x0 x1) (word i n) hw)) -∗ K ⟨⟩))
      ⊢ wp frame (wpE (defs₀ (F := F)) Variants.none c none) Set.univ (cc0_matmul_residual i tab (Memref.isWhole_whole _) arg3 harg3 arg4 harg4
          arg5 harg5 arg6 harg6 arg7 harg7 arg8 harg8) K := by
  simp only [cc0_matmul_residual_eq_skeleton]; unfold cc0_matmul_residual_skel
  unfold held
  iintro ⟨⟨H0, H1, H2, H3, ⟨%d7, H7⟩, ⟨%d8, H8⟩, HN⟩, Hk⟩
  unfold owns
  icases H0 with ⟨%f0, %hf0, H0⟩
  icases H1 with ⟨%f1, %hf1, H1⟩
  icases H7 with ⟨%f7, -, H7⟩
  icases H8 with ⟨%f8, -, H8⟩
  obtain rfl := harg3.eq_unread hf0; obtain rfl := harg4.eq_unread hf1
  sl_exec
  ihave HC := (Scf.wp_for_bind Idealize.ShloMosaic.frame (wpE (defs₀ (F := F)) Variants.none (c : Thread nD τ) none) Set.univ
    k0_t1_loop.lb k0_t1_loop.ub k0_t1_loop.st k0_t1_ok ⟨⟩ _ (invAt c i arg5 arg6 arg7 arg8 x2 x3 (k0_pay1 x0 x1) n hw)
    (step c i arg3 harg3 arg4 harg4 arg5 harg5 arg6 harg6 arg7 harg7 arg8 harg8 x2 x3 (k0_pay1 x0 x1) n hw)) $$ [H2 H3 H7 H8 HN]
  · unfold invAt resAt owns
    iexists f7
    isplitr; · ipureintro; intro y hy; exact absurd hy (Nat.not_lt_zero _)
    isplitl [H2]; · iexact H2
    isplitl [H3]; · iexact H3
    isplitl [H8]
    · iexists _; isplitr
      swap; · iexact H8
      ipureintro
      exact (View.read_writes_full _ _ _ _ _).trans (congrArg₂ k0_pay1 ((View.readAt_full _ _ _).trans hf0) ((View.readAt_full _ _ _).trans hf1))
    isplitl [HN]; · iexact HN
    iexact H7
  iapply HC
  iintro %a HI
  unfold invAt resAt
  icases HI with ⟨%fo, %hfo, H2, H3, H8, HN, H7⟩
  sl_step
  iapply Hk
  isplitl [H0]
  · iexists _; isplitr; · ipureintro; exact hf0
    iexact H0
  isplitl [H1]
  · iexists _; isplitr; · ipureintro; exact hf1
    iexact H1
  unfold owns
  isplitl [H2]; · iexact H2
  isplitl [H3]; · iexact H3
  isplitl [H7]
  · iexists fo; isplitr
    swap; · iexact H7
    ipureintro
    exact rows_all c i arg7 x2 x3 (k0_pay1 x0 x1) n hw fo hfo
  isplitl [H8]; · iexists _; iexact H8
  iexact HN

end Cert.Kernel3Ideal.Residual

end
-- ==== Proof.ResidualFrame.lean ====
/- The output projection's launch: the table it finds, what its blocks hold point by point, and its run. -/
module

public import proofs.«01_k».proof.Proof.ResidualRun
public import Idealize.ShloMosaic.Lib.Claim
public import Idealize.ShloMosaic.Lib.Pipeline.Kit

@[expose] public section

set_option maxRecDepth 16384

noncomputable section

namespace Cert.Kernel3Ideal.Residual

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- The buffers when the launch begins: the table written, the weights rounded. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither the table nor one of the weights' copies is as the caller left it. -/
theorem V_kept (c : Dev nD) (b : Ref sig .tc) (h0 : b ≠ main_c) (h1 : b ≠ main_v0) (h2 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nullary_writes, StableHlo.reshape_writes, Finset.mem_singleton]
    refine ⟨?_, ?_, ?_⟩
    all_goals exact StableHlo.devRef_ne_of_ne (by assumption)))

/-- The launch finds the table at its literal. -/
theorem V_tab (c : Dev nD) : V m c main_c = (fun i => lit0 (S528.rowMajor i) : Vec F S528 .i32) := by
  dsimp only [V, hostOps0, List.flatten_cons, List.flatten_nil, List.append_nil, List.cons_append, List.nil_append]
  after_results_simp
  all_goals rfl

/-- The table as the launch finds it; there is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, and so every table is admitted. -/
abbrev adm : (pcfg0 (F := F)).Adm := ⟨tbl m, trivial⟩
abbrev cfgM : Pipeline.Cfg sig Λ₀ := cfg0 (adm m)

/-- The table's half. -/
theorem tables_eq (c : Dev nD) : (Pipeline.ΦT pre0 (tbl m) c : sProp 𝕄) = tabPt c (tbl m 0) := by
  unfold Pipeline.ΦT Pipeline.prefHeld
  rw [show (Finset.univ : Finset (Fin 1)) = {(0 : Fin 1)} from by decide, bigSep_singleton]
  rfl

/-! ## The words of the table -/

theorem rowMajor_528 (i : S528.Idx) : S528.rowMajor i = (i 0 : Fin 528) :=
  Fin.ext (Shape.rowMajor_val_one i)

/-- The gate that the table names for a block of sixty-four rows: that of the prompt's sequence, or of the sample's. -/
def gateOf (k : ℕ) : ℕ := if k < 512 then k / 32 else 16 + (k - 512)

theorem lit0_gate : ∀ k : Fin 528, lit0 k = BitVec.ofNat 32 (gateOf k) := by
  decide +kernel

theorem gateOf_lt (k : ℕ) (h : k < 528) : gateOf k < 32 := by
  unfold gateOf; split <;> omega

theorem off1_nat : ∀ (a : Fin 33) (k : Fin k0_t1_loop.trips),
    (Scalar.indexCast (Scalar.addi (Scalar.muli (BitVec.ofNat 32 a.val) 16#32) (Scf.iv 0#32 1#32 k)) : BitVec 32).toNat = 16 * a.val + k.val := by
  decide +kernel

theorem off1_lt (a : Fin 33) (k : Fin k0_t1_loop.trips) : 16 * a.val + k.val < 528 := by
  have hk : k.val < 16 := lt_of_lt_of_eq k.isLt trips_eq
  have ha := a.isLt
  omega

/-- The word of a trip is its block's gate. -/
theorem word_eq (i : grid0.Coords) (k : Fin k0_t1_loop.trips) :
    word (F := F) (c := (0 : Dev nD)) i (tbl m 0) k = BitVec.ofNat 32 (gateOf (16 * (i 0 : Fin 33).val + k.val)) := by
  have e := V_tab m (0 : Dev nD)
  refine (congrFun e _).trans (Eq.trans (congrArg lit0 ?_) (lit0_gate ⟨16 * (i 0 : Fin 33).val + k.val, off1_lt (i 0) k⟩))
  refine (rowMajor_528 _).trans (Fin.ext ((ValueKit.rect_emb_unit_val _ _ _ _ _).trans ?_))
  exact (Nat.add_zero _).trans (off1_nat (i 0) k)

theorem chk_of (n : ℕ) (h : n < 32) : k0_chk1 (BitVec.ofNat 32 n) := by
  have e : (BitVec.ofNat 32 n).toNat = n := by rw [BitVec.toNat_ofNat]; exact Nat.mod_eq_of_lt (by omega)
  intro a
  match a with
  | ⟨0, _⟩ => show (BitVec.ofNat 32 n).toNat + 1 ≤ 32; omega
  | ⟨1, _⟩ => show 0 + 1 ≤ 1; omega
  | ⟨2, _⟩ => show 0 + 512 ≤ 512; omega

/-- Every word names a gate that exists. -/
theorem chk (i : grid0.Coords) (k : Fin k0_t1_loop.trips) : k0_chk1 (word (F := F) (c := (0 : Dev nD)) i (tbl m 0) k) := by
  rw [word_eq]; exact chk_of _ (gateOf_lt _ (off1_lt _ _))

/-! ## The blocks -/

/-- A window's block at a point, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The output's block is written back at every point. -/
theorem flush4 (a : (pcfg0 (F := F)).Adm) : ∀ t : Fin (cfg0 a).N, ((cfg0 a).win 4).flush t = true :=
  (fun t => (Pipeline.Window.flushOf_reads cc0_transform_4 reads0_4 hreads0_4 1 (by decide) (by decide)
    (Pipeline.Window.sep_of_coord cc0_transform_4 1 1 (fun _ => rfl) (by decide)) (P := 1) (m := 0) (by decide) rfl t).mpr (Nat.mod_one _) :
    ∀ t : Fin grid0.N, Pipeline.Window.flushOf grid0 true cc0_transform_4 t = true)

/-- The staging buffers of a point. -/
abbrev ms0 (t : Fin (cfgM m).N) : Memref sig .tc .vmem S1024x4096 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4096x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1024x512 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x1x512 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1024x512 .f32 := spec0_4.stage ((cfgM m).slots t 4)
abbrev hs4 (t : Fin (cfgM m).N) : (ms4 m t).IsWhole := hstage0_4 (((cfgM m).slots t 4).cast nbuf0_4)
/-- The block that holds the product. -/
abbrev scr : Memref sig .tc .vmem S1024x512 .f32 := Memref.whole cc0_scratch0

/-- The body as it is called at a point. -/
abbrev bodyAt (t : Fin (cfgM m).N) : Prog (TpuEff nD τ sig (Elt F) Λ₀ .tc) PUnit :=
  cc0_matmul_residual (grid0.coords t) tab (Memref.isWhole_whole _) (ms0 m t) (hs0 m t) (ms1 m t) (hs1 m t) (ms2 m t) (hs2 m t) (ms3 m t) (hs3 m t)
    (ms4 m t) (hs4 m t) scr (Memref.isWhole_whole _)

/-- What a point leaves. -/
def outAt (c : Dev nD) (t : Fin (cfgM m).N) : Vec F S1024x512 .f32 :=
  left (iblk m c 2 t) (iblk m c 3 t) (k0_pay1 (iblk m c 0 t) (iblk m c 1 t))
    (word (F := F) (c := (0 : Dev nD)) (grid0.coords t) (tbl m 0)) (chk m (grid0.coords t))

/-- The launch's data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outAt m c t := by dsimp only [dats]; try rfl

/-- The blocks read are in place at every point. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body at a point -/

/-- What the body is called with, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t))

/-- What a point's invariant holds: the scratch block at some contents, the core's register, the table's half. -/
theorem phi_eq (c : Dev nD) : (iprop(Pipeline.ΦA spec0 c ∗ Pipeline.ΦT pre0 (tbl m) c) : sProp 𝕄)
    = iprop(((∃ f : Buf (Elt F) ((c : Thread nD τ).loc cc0_scratch0), owns (c : Thread nD τ) scr fullShare f) ∗ ∃ r, prngReg c r) ∗ tabPt c (tbl m 0)) := by
  rw [tables_eq]
  unfold Pipeline.ΦA
  rw [scopedRest0_eq]
  simp only [owns_whole]

set_option maxHeartbeats 1600000 in
/-- The body between the two, at every point. -/
theorem sound (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  unfold bodyPre bodyPost
  simp only [before0, before1, before2, before3]
  rw [show (dats m 0 0).Φ t.succ = (dats m 0 0).Φ t.castSucc from rfl,
    show (dats m 0 0).owesAt () t.succ = (dats m 0 0).owesAt () t.castSucc from rfl,
    after0, after1, after2, after3, after4]
  rw [show (dats m 0 0).Φ t.castSucc = iprop(Pipeline.ΦA spec0 0 ∗ Pipeline.ΦT pre0 (tbl m) 0) from rfl, phi_eq]
  iintro ⟨⟨⟨HS, Hr⟩, HN⟩, Ho, ⟨%d0, H0⟩, ⟨%d1, H1⟩, ⟨%d2, H2⟩, ⟨%d3, H3⟩, ⟨%d4, H4⟩⟩
  iapply (body (0 : Dev nD) (grid0.coords t) (ms0 m t) (hs0 m t) (ms1 m t) (hs1 m t) (ms2 m t) (hs2 m t) (ms3 m t) (hs3 m t)
    (ms4 m t) (hs4 m t) scr (Memref.isWhole_whole _) (iblk m 0 0 t) (iblk m 0 1 t) (iblk m 0 2 t) (iblk m 0 3 t) (tbl m 0) (chk m (grid0.coords t)) _)
  unfold held
  isplitl [H0 H1 H2 H3 H4 HS HN]
  · isplitl [H0]; · iexact H0
    isplitl [H1]; · iexact H1
    isplitl [H2]; · iexact H2
    isplitl [H3]; · iexact H3
    isplitl [H4]; · iexists _; iexact H4
    isplitl [HS]; · iexact HS
    iexact HN
  iintro ⟨H0, H1, H2, H3, H4, HS, HN⟩
  isplitl [HS Hr HN]
  · isplitl [HS Hr]
    · isplitl [HS]; · iexact HS
      iexact Hr
    iexact HN
  isplitl [Ho]; · iexact Ho
  isplitl [H0]; · iexact H0
  isplitl [H1]; · iexact H1
  isplitl [H2]; · iexact H2
  isplitl [H3]; · iexact H3
  unfold outAt
  iexact H4

theorem defs₀_row (t : Fin (cfgM m).N) :
    defs₀ (F := F) .tc (cfgM m).body ((cfgM m).bodyArgs t ((cfgM m).slots t)) = bodyAt m t := by
  unfold defs₀; rw [Defs.onTc_tc]

/-- The launch's obligation of the body. -/
theorem obligation (c : Dev nD) : BodyObligation (dats (F := F) m 0 c) (defs₀ (F := F)) Variants.none () Set.univ := fun t => by
  rw [bigSep_W0, bigSep_W0, defs₀_row m]
  exact triple_restated (sound m c t) rfl .rfl fun _ => .rfl

/-! ## The run -/

set_option backward.isDefEq.respectTransparency.types false in
/-- Every run of the program ends with the launch's arrays as its data say, and with no signal left. -/
theorem run_quiet : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_shared (Q' := _) pcfgs (fun _ => adm m) (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hpf := V_pre m)
    (hΦ := fun _ _ => rfl)

/-- After such a run the arguments are as they began. -/
theorem kept (r) (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have k : ∀ b : Ref sig .tc, b ∈ Pipeline.restRefs sig spec0 → b ≠ main_c → b ≠ main_v0 → b ≠ main_v1 →
      r.2.mem ((c : Thread nD τ).loc b) = m ((c : Thread nD τ).loc b) :=
    fun b hb h0 h1 h2 => ((h c).2 b hb).trans (V_kept m c b h0 h1 h2)
  ⟨((h c).1 0).trans (((dats m 0 c).arrAt_in 0 rfl _).trans ((A_eq m c 0).trans (V_kept m c main_arg0 (by decide) (by decide) (by decide)))),
    k main_arg1 (by decide) (by decide) (by decide) (by decide),
    ((h c).1 2).trans (((dats m 0 c).arrAt_in 2 rfl _).trans ((A_eq m c 2).trans (V_kept m c main_arg2 (by decide) (by decide) (by decide)))),
    ((h c).1 3).trans (((dats m 0 c).arrAt_in 3 rfl _).trans ((A_eq m c 3).trans (V_kept m c main_arg3 (by decide) (by decide) (by decide))))⟩

/-- The arguments end as they began, and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m r h.1, h.2⟩) (run_quiet m ρ)

end Cert.Kernel3Ideal.Residual

end
-- ==== Proof.ResidualValue.lean ====
/- What the kernel leaves in a tile of the output projection, element by element: the body's arithmetic, and the blocks of a
   point. -/
module

public import proofs.«01_k».proof.Proof.ResidualFrame
public import Idealize.ShloMosaic.Lib.Pointwise

@[expose] public section

set_option maxRecDepth 16384

noncomputable section

namespace Cert.Kernel3Ideal.Residual

open Idealize.ShloMosaic Idealize.ShloMosaic.TcCoe Idealize.SL.Sem
open Cert.Kernel3Ideal Cert.Kernel3Ideal.Gen

/-! ## The body's arithmetic -/

theorem pay1_at (x : Vec Ideal S1024x4096 .bf16) (w : Vec Ideal S4096x512 .bf16) (i : Fin 1024) (l : Fin 512) :
    k0_pay1 x w (ix2 i l) = ∑ d : Fin 4096, x (ix2 i d) * w (ix2 d l) := by
  pointwise [k0_pay1]

theorem pay2_at (x : Vec Ideal S64x512 .f32) (u : Vec Ideal S1x1x512 .f32) (g : Vec Ideal S64x512 .f32) (i : Fin 64) (l : Fin 512) :
    k0_pay2 x u g (ix2 i l) = x (ix2 i l) + u (ix3 0 0 l) * g (ix2 i l) := by
  pointwise [k0_pay2]

theorem off2_eq (k : Fin k0_t1_loop.trips) : k0_off2 k = ![64 * k.val, 0] := by
  revert k; decide +kernel

/-- A row of the block that the trips leave: the stream plus the gate times the product. -/
theorem left_at (x2 : Vec Ideal S1024x512 .f32) (x3 : Vec Ideal S32x1x512 .f32) (g : Vec Ideal S1024x512 .f32)
    (w : Fin k0_t1_loop.trips → BitVec 32) (hw : ∀ k, k0_chk1 (w k)) (i : Fin 1024) (l : Fin 512) (q : Fin 32)
    (hq : (w (tripOf (ix2 i l))).toNat = q.val) :
    left x2 x3 g w hw (ix2 i l) = x2 (ix2 i l) + x3 (ix3 q 0 l) * g (ix2 i l) := by
  have hi : 64 * (tripOf (ix2 i l)).val + i.val % 64 = i.val := by
    show 64 * (i.val / 64) + i.val % 64 = i.val
    omega
  unfold left rows
  refine (pay2_at _ _ _ _ _).trans (congrArg₂ (· + ·) (congrArg x2 ?_) (congrArg₂ (· * ·) (congrArg x3 ?_) (congrArg g ?_)))
  · funext a
    match a with
    | ⟨0, _⟩ => exact Fin.ext ((ValueKit.rect_emb_unit_val _ _ _ _ _).trans ((congrArg (fun f : Fin 2 → ℕ => f 0 + i.val % 64) (off2_eq _)).trans hi))
    | ⟨1, _⟩ => exact Fin.ext ((ValueKit.rect_emb_unit_val _ _ _ _ _).trans (Nat.zero_add _))
  · funext a
    match a with
    | ⟨0, _⟩ => exact Fin.ext ((ValueKit.rect_emb_unit_val _ _ _ _ _).trans hq)
    | ⟨1, _⟩ => exact Fin.ext ((ValueKit.rect_emb_unit_val _ _ _ _ _).trans rfl)
    | ⟨2, _⟩ => exact Fin.ext ((ValueKit.rect_emb_unit_val _ _ _ _ _).trans (Nat.zero_add _))
  · funext a
    match a with
    | ⟨0, _⟩ => exact Fin.ext ((ValueKit.rect_emb_unit_val _ _ _ _ _).trans ((congrArg (fun f : Fin 2 → ℕ => f 0 + i.val % 64) (off4_eq _)).trans hi))
    | ⟨1, _⟩ => exact Fin.ext ((ValueKit.rect_emb_unit_val _ _ _ _ _).trans (Nat.zero_add _))

/-! ## The arrays -/

variable (m : (ℓ : Loc nD τ sig) → Buf (Elt Ideal) ℓ)

/-- The projection's weights as the launch reads them. -/
def rounded (a : FVec Ideal S1x4096x2048 .f32) : FVec Ideal S4096x2048 .bf16 :=
  truncf .bf16 (shapeCast S4096x2048 a shapeCasts_S1x4096x2048_S4096x2048) bitsLt_bf16_f32

theorem V_w (c : Dev nD) : V m c main_v1 = rounded (m ((c.tc : Thread nD τ).loc main_arg1)) := by
  dsimp only [V, hostOps0, List.flatten_cons, List.flatten_nil, List.append_nil, List.cons_append, List.nil_append]
  after_results_simp
  all_goals rfl

theorem rounded_at (a : FVec Ideal S1x4096x2048 .f32) (d : Fin 4096) (l : Fin 2048) : rounded a (ix2 d l) = a (ix3 0 d l) := by
  pointwise [rounded]

/-! ## The blocks -/

theorem pt_val : ∀ t : Fin grid0.N, (grid0.coords t 0).val = t.val / 4 ∧ (grid0.coords t 1).val = t.val % 4 := by
  decide +kernel

theorem pt_lt (t : Fin grid0.N) : t.val < 132 := lt_of_lt_of_eq t.isLt (by decide)

theorem blk0 (c : Dev nD) (t : Fin (cfgM m).N) (i : Fin 1024) (d : Fin 4096) (r : Fin 33792) (hr : r.val = 1024 * (t.val / 4) + i.val) :
    (show Vec Ideal S1024x4096 .bf16 from iblk m c 0 t) (ix2 i d) = (m ((c.tc : Thread nD τ).loc main_arg0) : Vec Ideal S33792x4096 .bf16) (ix2 r d) := by
  have ht := pt_lt t
  have hp := (pt_val t).1
  refine Eq.trans ?_ (congrFun (V_kept m c main_arg0 (by decide) (by decide) (by decide)) _)
  blk_simp [iblk]
  refine congrArg (V m c main_arg0) (funext fun a => Fin.ext ?_)
  match a with
  | ⟨0, _⟩ =>
    refine (ValueKit.view_emb_slice_whole_unit_val _ _ _ _ _ _).trans ?_
    show (BitVec.ofNat 32 (grid0.coords t 0).val : BitVec 32).toNat * 1024 + i.val = r.val
    rw [BitVec.toNat_ofNat, hp]; omega
  | ⟨1, _⟩ => exact (ValueKit.view_emb_slice_whole_unit_val _ _ _ _ _ _).trans (Nat.zero_add _)

theorem blk1 (c : Dev nD) (t : Fin (cfgM m).N) (d : Fin 4096) (l : Fin 512) (k : Fin 2048) (hk : k.val = 512 * (t.val % 4) + l.val) :
    (show Vec Ideal S4096x512 .bf16 from iblk m c 1 t) (ix2 d l) = (m ((c.tc : Thread nD τ).loc main_arg1) : Vec Ideal S1x4096x2048 .f32) (ix3 0 d k) := by
  have ht := pt_lt t
  have hp := (pt_val t).2
  refine Eq.trans ?_ ((congrFun (V_w m c) (ix2 d k)).trans (rounded_at _ d k))
  blk_simp [iblk]
  refine congrArg (V m c main_v1) (funext fun a => Fin.ext ?_)
  match a with
  | ⟨0, _⟩ => exact (ValueKit.view_emb_slice_whole_unit_val _ _ _ _ _ _).trans (Nat.zero_add _)
  | ⟨1, _⟩ =>
    refine (ValueKit.view_emb_slice_whole_unit_val _ _ _ _ _ _).trans ?_
    show (BitVec.ofNat 32 (grid0.coords t 1).val : BitVec 32).toNat * 512 + l.val = k.val
    rw [BitVec.toNat_ofNat, hp]; omega

theorem blk2 (c : Dev nD) (t : Fin (cfgM m).N) (i : Fin 1024) (l : Fin 512) (r : Fin 33792) (hr : r.val = 1024 * (t.val / 4) + i.val)
    (k : Fin 2048) (hk : k.val = 512 * (t.val % 4) + l.val) :
    (show Vec Ideal S1024x512 .f32 from iblk m c 2 t) (ix2 i l) = (m ((c.tc : Thread nD τ).loc main_arg2) : Vec Ideal S33792x2048 .f32) (ix2 r k) := by
  have ht := pt_lt t
  have hp := pt_val t
  refine Eq.trans ?_ (congrFun (V_kept m c main_arg2 (by decide) (by decide) (by decide)) _)
  blk_simp [iblk]
  refine congrArg (V m c main_arg2) (funext fun a => Fin.ext ?_)
  match a with
  | ⟨0, _⟩ =>
    refine (ValueKit.view_emb_slice_whole_unit_val _ _ _ _ _ _).trans ?_
    show (BitVec.ofNat 32 (grid0.coords t 0).val : BitVec 32).toNat * 1024 + i.val = r.val
    rw [BitVec.toNat_ofNat, hp.1]; omega
  | ⟨1, _⟩ =>
    refine (ValueKit.view_emb_slice_whole_unit_val _ _ _ _ _ _).trans ?_
    show (BitVec.ofNat 32 (grid0.coords t 1).val : BitVec 32).toNat * 512 + l.val = k.val
    rw [BitVec.toNat_ofNat, hp.2]; omega

theorem blk3 (c : Dev nD) (t : Fin (cfgM m).N) (q : Fin 32) (l : Fin 512) (k : Fin 2048) (hk : k.val = 512 * (t.val % 4) + l.val) :
    (show Vec Ideal S32x1x512 .f32 from iblk m c 3 t) (ix3 q 0 l) = (m ((c.tc : Thread nD τ).loc main_arg3) : Vec Ideal S32x1x2048 .f32) (ix3 q 0 k) := by
  have ht := pt_lt t
  have hp := (pt_val t).2
  refine Eq.trans ?_ (congrFun (V_kept m c main_arg3 (by decide) (by decide) (by decide)) _)
  blk_simp [iblk]
  refine congrArg (V m c main_arg3) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ =>
    refine (ValueKit.view_emb_slice_whole_unit_val _ _ _ _ _ _).trans ?_
    show (BitVec.ofNat 32 (grid0.coords t 1).val : BitVec 32).toNat * 512 + l.val = k.val
    rw [BitVec.toNat_ofNat, hp]; omega

/-! ## The result -/

/-- The gate of a row. -/
def gateRow (r : Fin 33792) : Fin 32 := ⟨gateOf (r.val / 64), gateOf_lt _ (by omega)⟩

/-- The stream plus the gate times the mixer's output through the weights. -/
def out (y : Vec Ideal S33792x4096 .bf16) (w : Vec Ideal S1x4096x2048 .f32) (x : Vec Ideal S33792x2048 .f32) (g : Vec Ideal S32x1x2048 .f32)
    (r : Fin 33792) (k : Fin 2048) : EReal := x (ix2 r k) + g (ix3 (gateRow r) 0 k) * ∑ d : Fin 4096, y (ix2 r d) * w (ix3 0 d k)

/-- The result in closed form. -/
def res (c : Dev nD) : Buf (Elt Ideal) ((c.tc : Thread nD τ).loc main_v2) := fun y : S33792x2048.Idx =>
  (out (m ((c.tc : Thread nD τ).loc main_arg0)) (m ((c.tc : Thread nD τ).loc main_arg1)) (m ((c.tc : Thread nD τ).loc main_arg2))
    (m ((c.tc : Thread nD τ).loc main_arg3)) (show Fin 33792 from y 0) (show Fin 2048 from y 1) : EReal)

/-- The block that a point leaves, at an element. -/
theorem outAt_at (c : Dev nD) (t : Fin (cfgM m).N) (i : Fin 1024) (l : Fin 512) (r : Fin 33792) (hr : r.val = 1024 * (t.val / 4) + i.val)
    (k : Fin 2048) (hk : k.val = 512 * (t.val % 4) + l.val) : outAt m c t (ix2 i l) = res m c (ix2 r k) := by
  have ht := pt_lt t
  have hp := (pt_val t).1
  have hq : (word (F := Ideal) (c := (0 : Dev nD)) (grid0.coords t) (tbl m 0) (tripOf (ix2 i l))).toNat = (gateRow r).val := by
    have e : 16 * (grid0.coords t 0 : Fin 33).val + (tripOf (ix2 i l)).val = r.val / 64 := by
      show 16 * (grid0.coords t 0).val + i.val / 64 = r.val / 64
      rw [hp]; omega
    rw [word_eq, e, BitVec.toNat_ofNat]
    exact Nat.mod_eq_of_lt (lt_of_lt_of_le (gateRow r).isLt (by decide))
  show _ = out _ _ _ _ r k
  unfold outAt out
  refine (left_at _ _ _ _ _ i l (gateRow r) hq).trans (congrArg₂ (· + ·) (blk2 m c t i l r hr k hk) (congrArg₂ (· * ·) (blk3 m c t (gateRow r) l k hk) ?_))
  refine (pay1_at _ _ i l).trans (Finset.sum_congr rfl fun d _ => congrArg₂ (· * ·) (blk0 m c t i d r hr) (blk1 m c t d l k hk))

end Cert.Kernel3Ideal.Residual

end
-- ==== Proof.ResidualFinal.lean ====
/- The output projection's result: its blocks put together, and the run that ends with them. -/
module

public import proofs.«01_k».proof.Proof.ResidualValue

@[expose] public section

set_option maxRecDepth 16384

noncomputable section

namespace Cert.Kernel3Ideal.Residual

open Idealize.ShloMosaic Idealize.ShloMosaic.TcCoe Idealize.ShloMosaic.Tactic Idealize.SL.Sem
open Idealize.ShloMosaic.Pipeline (Dat)
open Cert.Kernel3Ideal Cert.Kernel3Ideal.Gen

variable (m : (ℓ : Loc nD τ sig) → Buf (Elt Ideal) ℓ)

/-- The blocks that are written back cover the result. -/
theorem covers : ((cfgM m).win 4).Covers := by
  refine ⟨fun a => ?_, fun β => ?_⟩
  · match a with
    | ⟨0, _⟩ => exact (by decide : 0 < 1024)
    | ⟨1, _⟩ => exact (by decide : 0 < 512)
  · have h0 : (β (0 : Fin 2)).val < 33 := lt_of_lt_of_eq (β (0 : Fin 2)).isLt (show (33792 + 1024 - 1) / 1024 = 33 by decide)
    have h1 : (β (1 : Fin 2)).val < 4 := lt_of_lt_of_eq (β (1 : Fin 2)).isLt (show (2048 + 512 - 1) / 512 = 4 by decide)
    have hN : grid0.N = 132 := by decide
    have ht : 4 * (β (0 : Fin 2)).val + (β (1 : Fin 2)).val < grid0.N := by omega
    refine ⟨⟨4 * (β (0 : Fin 2)).val + (β (1 : Fin 2)).val, ht⟩, flush4 _ _, fun a => ?_⟩
    have hp := pt_val ⟨4 * (β (0 : Fin 2)).val + (β (1 : Fin 2)).val, ht⟩
    match a with
    | ⟨0, _⟩ =>
      refine ⟨?_, Or.inl rfl⟩
      show (BitVec.ofNat 32 (grid0.coords ⟨4 * (β (0 : Fin 2)).val + (β (1 : Fin 2)).val, _⟩ 0).val : BitVec 32).toNat = (β (0 : Fin 2)).val
      rw [BitVec.toNat_ofNat, hp.1]; dsimp only; omega
    | ⟨1, _⟩ =>
      refine ⟨?_, Or.inl rfl⟩
      show (BitVec.ofNat 32 (grid0.coords ⟨4 * (β (0 : Fin 2)).val + (β (1 : Fin 2)).val, _⟩ 1).val : BitVec 32).toNat = (β (1 : Fin 2)).val
      rw [BitVec.toNat_ofNat, hp.2]; dsimp only; omega

attribute [local irreducible] outAt in
theorem final (c : Dev nD) : (dats m 0 c).arrAt 4 (cfgM m).N = res m c := by
  refine (dats m 0 c).arrAt_eq_of_covers 4 _ (covers m) fun t _ y => ?_
  have ht := pt_lt t
  have hp := pt_val t
  obtain ⟨i, l, rfl⟩ : ∃ (i : Fin 1024) (l : Fin 512), y = ix2 i l :=
    ⟨(show Fin 1024 from y (0 : Fin 2)), (show Fin 512 from y (1 : Fin 2)), by funext a; match a with | ⟨0, _⟩ => rfl | ⟨1, _⟩ => rfl⟩
  have e0 : ((((cfgM m).win 4).blk t).view.emb (ix2 i l) (0 : Fin 2)).val = 1024 * (t.val / 4) + i.val := by
    refine (ValueKit.view_emb_slice_whole_unit_val _ _ _ _ _ _).trans ?_
    show (BitVec.ofNat 32 (grid0.coords t 0).val : BitVec 32).toNat * 1024 + i.val = _
    rw [BitVec.toNat_ofNat, hp.1]; omega
  have e1 : ((((cfgM m).win 4).blk t).view.emb (ix2 i l) (1 : Fin 2)).val = 512 * (t.val % 4) + l.val := by
    refine (ValueKit.view_emb_slice_whole_unit_val _ _ _ _ _ _).trans ?_
    show (BitVec.ofNat 32 (grid0.coords t 1).val : BitVec 32).toNat * 512 + l.val = _
    rw [BitVec.toNat_ofNat, hp.2]; omega
  have ho := outAt_at m c t i l ⟨1024 * (t.val / 4) + i.val, by omega⟩ rfl ⟨512 * (t.val % 4) + l.val, by omega⟩ rfl
  rw [after4]
  refine Eq.trans ?_ (ho.trans ?_)
  · rfl
  · unfold res
    congr 1
    · exact Fin.ext e0.symm
    · exact Fin.ext e1.symm

/-- The kernel ends with the closed form in its result and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m c), kept m r h.1 c⟩) (run_quiet m ρ)

end Cert.Kernel3Ideal.Residual

end
-- ==== Proof.ResidualKernel.lean ====
/- The kernel as it is printed for its own floats is the same program as the one read over the extended reals: the tables of bodies
   agree entry by entry, and so its frame is the other's. -/
module

public import proofs.«01_k».proof.Proof.ResidualFrame
public import proofs.«01_k».proof.Proof.Gen.Kernel3.Launch

@[expose] public section

set_option maxRecDepth 16384

noncomputable section

namespace Cert.Kernel3.Residual

open Idealize.ShloMosaic Idealize.ShloMosaic.TcCoe Idealize.SL.Sem

variable {F : FTy → Type} [FloatOps F]

set_option maxHeartbeats 1000000 in
theorem bodies_eq : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg (Defs.onTc (τ := Cert.Kernel3Ideal.τ) (Λ := Cert.Kernel3Ideal.Λ₀)) (funext fun l => funext fun x => ?_)
  match l, x with
  | 0, (t, s) => rfl
  | ⟨n + 1, h⟩, _ => exact absurd h (Nat.not_lt.2 (Nat.le_add_left _ _))

set_option maxHeartbeats 1000000 in
theorem defs_eq : @Cert.Kernel3.defs F _ Cert.Kernel3.Gen.facts = @Cert.Kernel3Ideal.defs F _ Cert.Kernel3Ideal.Gen.facts :=
  congrArg (Pipeline.defs (@Cert.Kernel3Ideal.pcfgs F _ Cert.Kernel3Ideal.Gen.facts)) bodies_eq

set_option maxHeartbeats 1000000 in
theorem main_eq : @Cert.Kernel3.main F _ Cert.Kernel3.Gen.facts = @Cert.Kernel3Ideal.main F _ Cert.Kernel3Ideal.Gen.facts := rfl

open Cert.Kernel3 Cert.Kernel3.Gen

set_option maxHeartbeats 1000000 in
/-- The kernel's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.Kernel3Ideal.Residual.frame m ρ

end Cert.Kernel3.Residual

end
-- ==== Proof.ResidualRef.lean ====
/- The reference's result for the output projection, element by element: the prompt rows and the decode rows are computed
   apart, each as the stream plus the sequence's gate times the projection, and put one after the other. -/
module

public import proofs.«01_k».proof.Proof.Gen.Reference3Ideal.Run
public import proofs.«01_k».proof.Proof.ResidualValue
public import Idealize.ShloMosaic.Lib.Pointwise

@[expose] public section

set_option maxRecDepth 16384

noncomputable section

namespace Cert.Reference3Ideal.Ref

open Idealize.ShloMosaic Idealize.ShloMosaic.TcCoe Idealize.SL.Sem
open Cert.Reference3Ideal Cert.Reference3Ideal.Gen
open Cert.Kernel3Ideal.Residual (out gateOf gateRow)

/-- The prompt rows' projection. -/
def projP (y : FVec Ideal S33792x4096 .bf16) (w : FVec Ideal S1x4096x2048 .f32) : FVec Ideal S16x2048x2048 .f32 :=
  Host.dotGeneral dot_S16x2048x4096_S4096x2048_S16x2048x2048_2_0_01_1_n_n none
    (extf .f32 (shapeCast S16x2048x4096 (extractStridedSlice S32768x4096 ![0, 0] y slices_S33792x4096_S32768x4096_0_0) shapeCasts_S32768x4096_S16x2048x4096) bitsLt_bf16_f32)
    (shapeCast S4096x2048 w shapeCasts_S1x4096x2048_S4096x2048)

/-- The decode rows' projection. -/
def projD (y : FVec Ideal S33792x4096 .bf16) (w : FVec Ideal S1x4096x2048 .f32) : FVec Ideal S16x64x2048 .f32 :=
  Host.dotGeneral dot_S16x64x4096_S4096x2048_S16x64x2048_2_0_01_1_n_n none
    (extf .f32 (shapeCast S16x64x4096 (extractStridedSlice S1024x4096 ![32768, 0] y slices_S33792x4096_S1024x4096_32768_0) shapeCasts_S1024x4096_S16x64x4096) bitsLt_bf16_f32)
    (shapeCast S4096x2048 w shapeCasts_S1x4096x2048_S4096x2048)

/-- The prompt rows, gated and added to the stream. -/
def prompt (p : FVec Ideal S16x2048x2048 .f32) (x : FVec Ideal S33792x2048 .f32) (g : FVec Ideal S32x1x2048 .f32) : FVec Ideal S16x2048x2048 .f32 :=
  addf (shapeCast S16x2048x2048 (extractStridedSlice S32768x2048 ![0, 0] x slices_S33792x2048_S32768x2048_0_0) shapeCasts_S32768x2048_S16x2048x2048)
    (mulf (broadcastInDim S16x2048x2048 ![0, 1, 2] bcast_S16x1x2048_S16x2048x2048_0_1_2
      (extractStridedSlice S16x1x2048 ![0, 0, 0] g slices_S32x1x2048_S16x1x2048_0_0_0)) p)

/-- The decode rows, gated and added to the stream. -/
def decode (p : FVec Ideal S16x64x2048 .f32) (x : FVec Ideal S33792x2048 .f32) (g : FVec Ideal S32x1x2048 .f32) : FVec Ideal S16x64x2048 .f32 :=
  addf (shapeCast S16x64x2048 (extractStridedSlice S1024x2048 ![32768, 0] x slices_S33792x2048_S1024x2048_32768_0) shapeCasts_S1024x2048_S16x64x2048)
    (mulf (broadcastInDim S16x64x2048 ![0, 1, 2] bcast_S16x1x2048_S16x64x2048_0_1_2
      (extractStridedSlice S16x1x2048 ![16, 0, 0] g slices_S32x1x2048_S16x1x2048_16_0_0)) p)

/-- The two put one after the other. -/
def joined (p : FVec Ideal S16x2048x2048 .f32) (d : FVec Ideal S16x64x2048 .f32) : FVec Ideal S33792x2048 .f32 :=
  concatenate S33792x2048 0 [⟨S32768x2048, shapeCast S32768x2048 p shapeCasts_S16x2048x2048_S32768x2048⟩,
    ⟨S1024x2048, shapeCast S1024x2048 d shapeCasts_S16x64x2048_S1024x2048⟩] concatenates_S32768x2048_S1024x2048_S33792x2048_d0

theorem projP_at (y : FVec Ideal S33792x4096 .bf16) (w : FVec Ideal S1x4096x2048 .f32) (s : Fin 16) (i k : Fin 2048) :
    projP y w (ix3 s i k) = ∑ d : Fin 4096, (y (ix2 ⟨s.val * 2048 + i.val, by omega⟩ d) : EReal) * w (ix3 0 d k) := by
  pointwise [projP]

theorem projD_at (y : FVec Ideal S33792x4096 .bf16) (w : FVec Ideal S1x4096x2048 .f32) (s : Fin 16) (i : Fin 64) (k : Fin 2048) :
    projD y w (ix3 s i k) = ∑ d : Fin 4096, (y (ix2 ⟨32768 + (s.val * 64 + i.val), by omega⟩ d) : EReal) * w (ix3 0 d k) := by
  pointwise [projD]

theorem prompt_at (p : FVec Ideal S16x2048x2048 .f32) (x : FVec Ideal S33792x2048 .f32) (g : FVec Ideal S32x1x2048 .f32) (s : Fin 16) (i k : Fin 2048) :
    prompt p x g (ix3 s i k) = x (ix2 ⟨s.val * 2048 + i.val, by omega⟩ k) + g (ix3 ⟨s.val, by omega⟩ 0 k) * p (ix3 s i k) := by
  pointwise [prompt]

theorem decode_at (p : FVec Ideal S16x64x2048 .f32) (x : FVec Ideal S33792x2048 .f32) (g : FVec Ideal S32x1x2048 .f32) (s : Fin 16) (i : Fin 64) (k : Fin 2048) :
    decode p x g (ix3 s i k) = x (ix2 ⟨32768 + (s.val * 64 + i.val), by omega⟩ k) + g (ix3 ⟨16 + s.val, by omega⟩ 0 k) * p (ix3 s i k) := by
  pointwise [decode]

theorem joined_prompt (p : FVec Ideal S16x2048x2048 .f32) (d : FVec Ideal S16x64x2048 .f32) (r : Fin 33792) (k : Fin 2048) (h : r.val < 32768) :
    joined p d (ix2 r k) = p (ix3 ⟨r.val / 2048, by omega⟩ ⟨r.val % 2048, by omega⟩ k) := by
  pointwise [joined]
  exact dif_pos h

theorem joined_decode (p : FVec Ideal S16x2048x2048 .f32) (d : FVec Ideal S16x64x2048 .f32) (r : Fin 33792) (k : Fin 2048) (h : ¬ r.val < 32768) :
    joined p d (ix2 r k) = d (ix3 ⟨(r.val - 32768) / 64, by omega⟩ ⟨(r.val - 32768) % 64, by omega⟩ k) := by
  pointwise [joined]
  exact dif_neg h

/-- The reference, in these stages. -/
def residual (y : FVec Ideal S33792x4096 .bf16) (w : FVec Ideal S1x4096x2048 .f32) (x : FVec Ideal S33792x2048 .f32) (g : FVec Ideal S32x1x2048 .f32) :
    FVec Ideal S33792x2048 .f32 :=
  joined (prompt (projP y w) x g) (decode (projD y w) x g)

/-- It is the kernel's closed form. -/
theorem residual_at (y : FVec Ideal S33792x4096 .bf16) (w : FVec Ideal S1x4096x2048 .f32) (x : FVec Ideal S33792x2048 .f32)
    (g : FVec Ideal S32x1x2048 .f32) (r : Fin 33792) (k : Fin 2048) : residual y w x g (ix2 r k) = out y w x g r k := by
  unfold residual out
  by_cases h : r.val < 32768
  · have hr : (⟨r.val / 2048 * 2048 + r.val % 2048, by omega⟩ : Fin 33792) = r := Fin.ext (by dsimp only; omega)
    have hg : (⟨r.val / 2048, by omega⟩ : Fin 32) = gateRow r := Fin.ext (by
      show r.val / 2048 = if r.val / 64 < 512 then r.val / 64 / 32 else 16 + (r.val / 64 - 512)
      rw [if_pos (by omega)]; omega)
    rw [joined_prompt _ _ r k h, prompt_at, projP_at]
    dsimp only
    rw [hr, hg]
  · have hr : (⟨32768 + ((r.val - 32768) / 64 * 64 + (r.val - 32768) % 64), by omega⟩ : Fin 33792) = r := Fin.ext (by dsimp only; omega)
    have hg : (⟨16 + (r.val - 32768) / 64, by omega⟩ : Fin 32) = gateRow r := Fin.ext (by
      show 16 + (r.val - 32768) / 64 = if r.val / 64 < 512 then r.val / 64 / 32 else 16 + (r.val / 64 - 512)
      rw [if_neg (by omega)]; omega)
    rw [joined_decode _ _ r k h, decode_at, projD_at]
    dsimp only
    rw [hr, hg]

set_option maxHeartbeats 1000000 in
/-- Every run of the reference ends with its result and its arguments so. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = residual (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2⟩) (Value.run (F := Ideal) m ρ)

end Cert.Reference3Ideal.Ref

end
-- ==== Proof.NormRun.lean ====
/- One grid point of the input projection's launch: on a tile's first point the sixteen blocks of rows are normalised one by
   one into the scratch block, on every point the scratch block is multiplied by the weights. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel4Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- The table of the blocks' sequences, as the body is handed it, what it holds on a core, and half of the right to it. -/
abbrev tab : Memref sig .tc .smem S528 .i32 := Memref.whole main_c
abbrev TabBuf (F : FTy → Type) (c : Dev nD) : Type := Buf (Elt F) (tab.view.loc (c : Thread nD τ))
abbrev tabPt (c : Dev nD) (f : TabBuf F c) : sProp 𝕄 := tab.view.loc (c : Thread nD τ) ↦{fullShare.right} f

/-- The word that trip `k` reads of it. -/
abbrev word {c : Dev nD} (i : grid0.Coords) (h1 : k0_cond1 i = 1#1) (n : TabBuf F c) (k : Fin k0_t1_loop.trips) : BitVec 32 :=
  tab.view.readAt (Elt F) (Rect.unit (s := S528) (k0_off1 i k) S1.size (k0_off1_inb i k h1)).toLoadRect n (Shape.Idx.first (numel1_S1.symm ▸ Nat.one_pos))

theorem trips_eq : k0_t1_loop.trips = 16 := by decide

/-- A word names a sequence that exists. -/
abbrev Named (w : BitVec 32) : Prop := ∀ a, (k0_off3 w) a + S1x1x2048.size a ≤ S32x1x2048.size a

theorem off2_eq (k : Fin k0_t1_loop.trips) : k0_off2 k = ![64 * k.val, 0] := by
  revert k; decide +kernel

theorem off4_eq (k : Fin k0_t1_loop.trips) : k0_off4 k = ![64 * k.val, 0] := by
  revert k; decide +kernel

theorem off2_inb (k : Fin k0_t1_loop.trips) : ∀ a, (k0_off2 k) a + S64x2048.size a ≤ S1024x2048.size a := by
  revert k; decide +kernel

/-- The trip that writes a row. -/
def tripOf (y : S1024x2048.Idx) : Fin k0_t1_loop.trips :=
  ⟨(y 0).val / 64, by rw [trips_eq]; have : (y 0).val < 1024 := (y 0).isLt; omega⟩

/-- The rows of trip `k`: normalised, then scaled and shifted by their sequence's. -/
def rows (x0 : Vec F S1024x2048 .f32) (x1 x2 : Vec F S32x1x2048 .f32) (x3 : Vec F S1x2048 .f32) (w : BitVec 32) (hw : Named w)
    (k : Fin k0_t1_loop.trips) : Vec F S64x2048 .bf16 :=
  k0_pay1 (View.ld (Val := Elt F) x0 (Rect.unit (s := S1024x2048) (k0_off2 k) S64x2048.size (off2_inb k))) x3
    (View.ld (Val := Elt F) x1 (Rect.unit (s := S32x1x2048) (k0_off3 w) S1x1x2048.size hw))
    (View.ld (Val := Elt F) x2 (Rect.unit (s := S32x1x2048) (k0_off3 w) S1x1x2048.size hw))

/-- The same as the trip loads it of the buffers. -/
def loaded (arg3 : Memref sig .tc .vmem S1024x2048 .f32) (harg3 : arg3.IsWhole) (arg4 : Memref sig .tc .vmem S32x1x2048 .f32) (harg4 : arg4.IsWhole)
    (arg5 : Memref sig .tc .vmem S32x1x2048 .f32) (harg5 : arg5.IsWhole) (arg6 : Memref sig .tc .vmem S1x2048 .f32) (harg6 : arg6.IsWhole)
    (x0 : Vec F S1024x2048 .f32) (x1 x2 : Vec F S32x1x2048 .f32) (x3 : Vec F S1x2048 .f32) (w : BitVec 32) (hw : Named w)
    (k : Fin k0_t1_loop.trips) : Vec F S64x2048 .bf16 :=
  k0_pay1 (arg3.view.readAt (Elt F) (Rect.unit (s := S1024x2048) (k0_off2 k) S64x2048.size (off2_inb k)).toLoadRect (harg3.unread x0))
    (arg6.view.readAt (Elt F) (Rect.unit (s := S1x2048) ![0, 0] S1x2048.size inb_S1x2048_S1x2048_0_0).toLoadRect (harg6.unread x3))
    (arg4.view.readAt (Elt F) (Rect.unit (s := S32x1x2048) (k0_off3 w) S1x1x2048.size hw).toLoadRect (harg4.unread x1))
    (arg5.view.readAt (Elt F) (Rect.unit (s := S32x1x2048) (k0_off3 w) S1x1x2048.size hw).toLoadRect (harg5.unread x2))

theorem loaded_eq (arg3 : Memref sig .tc .vmem S1024x2048 .f32) (harg3 : arg3.IsWhole) (arg4 : Memref sig .tc .vmem S32x1x2048 .f32) (harg4 : arg4.IsWhole)
    (arg5 : Memref sig .tc .vmem S32x1x2048 .f32) (harg5 : arg5.IsWhole) (arg6 : Memref sig .tc .vmem S1x2048 .f32) (harg6 : arg6.IsWhole)
    (x0 : Vec F S1024x2048 .f32) (x1 x2 : Vec F S32x1x2048 .f32) (x3 : Vec F S1x2048 .f32) (w : BitVec 32) (hw : Named w)
    (k : Fin k0_t1_loop.trips) : loaded arg3 harg3 arg4 harg4 arg5 harg5 arg6 harg6 x0 x1 x2 x3 w hw k = rows x0 x1 x2 x3 w hw k := by
  have e : arg6.view.readAt (Elt F) (Rect.unit (s := S1x2048) ![0, 0] S1x2048.size inb_S1x2048_S1x2048_0_0).toLoadRect (harg6.unread x3) = x3 :=
    (View.readAt_full _ _ _).trans (harg6.read_unread _)
  unfold loaded rows
  rw [e, View.readAt_eq_ld, View.readAt_eq_ld, View.readAt_eq_ld, harg3.read_unread, harg4.read_unread, harg5.read_unread]

/-- The block that the sixteen trips leave. -/
def filled (x0 : Vec F S1024x2048 .f32) (x1 x2 : Vec F S32x1x2048 .f32) (x3 : Vec F S1x2048 .f32) (w : Fin k0_t1_loop.trips → BitVec 32)
    (hw : ∀ k, Named (w k)) : Vec F S1024x2048 .bf16 := fun y =>
  rows x0 x1 x2 x3 (w (tripOf y)) (hw _) (tripOf y) (ix2 (⟨(y 0).val % 64, Nat.mod_lt _ (by decide)⟩ : Fin 64) (show Fin 2048 from y 1))

section Trip

variable (c : Dev nD) (i : grid0.Coords) (h1 : k0_cond1 i = 1#1) (arg3 : Memref sig .tc .vmem S1024x2048 .f32) (harg3 : arg3.IsWhole)
    (arg4 : Memref sig .tc .vmem S32x1x2048 .f32) (harg4 : arg4.IsWhole) (arg5 : Memref sig .tc .vmem S32x1x2048 .f32) (harg5 : arg5.IsWhole)
    (arg6 : Memref sig .tc .vmem S1x2048 .f32) (harg6 : arg6.IsWhole) (arg7 : Memref sig .tc .vmem S2048x1152 .bf16) (harg7 : arg7.IsWhole)
    (arg8 : Memref sig .tc .vmem S1024x1152 .bf16) (harg8 : arg8.IsWhole) (arg9 : Memref sig .tc .vmem S1024x2048 .bf16) (harg9 : arg9.IsWhole)
    (x0 : Vec F S1024x2048 .f32) (x1 x2 : Vec F S32x1x2048 .f32) (x3 : Vec F S1x2048 .f32) (n : TabBuf F c)

/-- What a trip finds: the stream's block, the shifts, the scales, the norm's weights, the table, and the scratch block. -/
def resAt (fo : Buf (Elt F) (arg9.view.loc (c : Thread nD τ))) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ tabPt c n ∗ arg9.view.loc (c : Thread nD τ) ↦[arg9.view.set]{fullShare} fo)

set_option maxHeartbeats 600000 in
/-- One trip: its rows into the scratch block. -/
theorem tripRun (hw : ∀ k, Named (word i h1 n k)) (k : Fin k0_t1_loop.trips) (fo : Buf (Elt F) (arg9.view.loc (c : Thread nD τ))) :
    resAt c arg3 arg4 arg5 arg6 arg9 x0 x1 x2 x3 n fo ⊢ wp frame (wpE (defs₀ (F := F)) Variants.none c none) Set.univ
      (k0_t1_body (F := F) i tab (Memref.isWhole_whole _) arg3 harg3 arg4 harg4 arg5 harg5 arg6 harg6 arg7 harg7 arg8 harg8 arg9 harg9 h1 k ())
      (fun _ => resAt c arg3 arg4 arg5 arg6 arg9 x0 x1 x2 x3 n (arg9.view.writes (Elt F) fo
        [⟨Rect.unit (s := S1024x2048) (k0_off4 k) S64x2048.size (k0_off4_inb i k h1),
          loaded arg3 harg3 arg4 harg4 arg5 harg5 arg6 harg6 x0 x1 x2 x3 (word i h1 n k) (hw k) k⟩])) := by
  have hwk : k0_chk1 i (word i h1 n k) := fun _ => hw k
  unfold resAt owns
  iintro ⟨⟨%f3, %hf3, H3⟩, ⟨%f4, %hf4, H4⟩, ⟨%f5, %hf5, H5⟩, ⟨%f6, %hf6, H6⟩, HN, H9⟩
  obtain rfl := harg3.eq_unread hf3; obtain rfl := harg4.eq_unread hf4; obtain rfl := harg5.eq_unread hf5; obtain rfl := harg6.eq_unread hf6
  sl_unfold [k0_t1_body]
  sl_exec (disch := sl_exact hwk)
  sl_step
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [HN]; · iexact HN
  unfold loaded
  iexact H9

/-- Before trip `k`: the rows of the trips before it are written. -/
def invAt (hw : ∀ k, Named (word i h1 n k)) (k : ℕ) (_ : Unit) : sProp 𝕄 :=
  iprop(∃ fo, ⌜∀ y : S1024x2048.Idx, (y (0 : Fin 2)).val < 64 * k → arg9.view.read (Elt F) fo y = filled x0 x1 x2 x3 (word i h1 n) hw y⌝
    ∗ resAt c arg3 arg4 arg5 arg6 arg9 x0 x1 x2 x3 n fo)

/-- One trip more of the rows. -/
theorem rows_next (hw : ∀ k, Named (word i h1 n k)) (k : Fin k0_t1_loop.trips) (fo : Buf (Elt F) (arg9.view.loc (c : Thread nD τ)))
    (h : ∀ y : S1024x2048.Idx, (y (0 : Fin 2)).val < 64 * k.val → arg9.view.read (Elt F) fo y = filled x0 x1 x2 x3 (word i h1 n) hw y)
    (y : S1024x2048.Idx) (hy : (y (0 : Fin 2)).val < 64 * (k.val + 1)) :
    arg9.view.read (Elt F) (arg9.view.writes (Elt F) fo
      [⟨Rect.unit (s := S1024x2048) (k0_off4 k) S64x2048.size (k0_off4_inb i k h1), rows x0 x1 x2 x3 (word i h1 n k) (hw k) k⟩]) y
      = filled x0 x1 x2 x3 (word i h1 n) hw y := by
  by_cases hk : (y (0 : Fin 2)).val < 64 * k.val
  · exact (View.read_writes_cons_rows_of_not_mem (o := 64 * k.val) (W := 64) arg9.view fo (k0_off4_inb i k h1) _ [] y (off4_eq k) rfl (Or.inl hk)).trans (h y hk)
  · have e : tripOf y = k := Fin.ext (by show (y (0 : Fin 2)).val / 64 = k.val; omega)
    refine (View.read_writes_cons_rows_of_mem (o := 64 * k.val) arg9.view fo (k0_off4_inb i k h1) _ [] y
      (ix2 (⟨(y (0 : Fin 2)).val % 64, Nat.mod_lt _ (by decide)⟩ : Fin 64) (show Fin 2048 from y (1 : Fin 2))) (off4_eq k) ?_ rfl).trans ?_
    · show (y (0 : Fin 2)).val = 64 * k.val + (y (0 : Fin 2)).val % 64
      omega
    · unfold filled
      subst e
      rfl

/-- The rows of every trip are the whole block. -/
theorem rows_all (hw : ∀ k, Named (word i h1 n k)) (fo : Buf (Elt F) (arg9.view.loc (c : Thread nD τ)))
    (h : ∀ y : S1024x2048.Idx, (y (0 : Fin 2)).val < 64 * k0_t1_loop.trips → arg9.view.read (Elt F) fo y = filled x0 x1 x2 x3 (word i h1 n) hw y) :
    arg9.view.read (Elt F) fo = filled x0 x1 x2 x3 (word i h1 n) hw :=
  funext fun y => h y (by rw [trips_eq]; exact (y (0 : Fin 2)).isLt)

theorem step (hw : ∀ k, Named (word i h1 n k)) (k : Fin k0_t1_loop.trips) (a : Unit) :
    invAt c i h1 arg3 arg4 arg5 arg6 arg9 x0 x1 x2 x3 n hw k.val a ⊢ wp frame (wpE (defs₀ (F := F)) Variants.none c none) Set.univ
      (k0_t1_body (F := F) i tab (Memref.isWhole_whole _) arg3 harg3 arg4 harg4 arg5 harg5 arg6 harg6 arg7 harg7 arg8 harg8 arg9 harg9 h1 k a)
      (invAt c i h1 arg3 arg4 arg5 arg6 arg9 x0 x1 x2 x3 n hw (k.val + 1)) := by
  unfold invAt
  iintro ⟨%fo, %h, H⟩
  iapply (wp_wand_r Idealize.ShloMosaic.frame (wpE (defs₀ (F := F)) Variants.none (c : Thread nD τ) none) Set.univ)
  isplitl [H]
  · iapply (tripRun c i h1 arg3 harg3 arg4 harg4 arg5 harg5 arg6 harg6 arg7 harg7 arg8 harg8 arg9 harg9 x0 x1 x2 x3 n hw k fo); iexact H
  · rw [loaded_eq]
    iintro %_ H'
    iexists _
    isplitr
    swap; · iexact H'
    ipureintro
    exact rows_next c i h1 arg9 x0 x1 x2 x3 n hw k fo h

end Trip

/-- What holds the body's arguments at a point: the five blocks read, the block to be written, the scratch block, the
    table. -/
abbrev held (c : Dev nD) (arg3 : Memref sig .tc .vmem S1024x2048 .f32) (arg4 arg5 : Memref sig .tc .vmem S32x1x2048 .f32)
    (arg6 : Memref sig .tc .vmem S1x2048 .f32) (arg7 : Memref sig .tc .vmem S2048x1152 .bf16)
    (x0 : Vec F S1024x2048 .f32) (x1 x2 : Vec F S32x1x2048 .f32) (x3 : Vec F S1x2048 .f32) (x4 : Vec F S2048x1152 .bf16) (n : TabBuf F c)
    (o s : sProp 𝕄) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ o ∗ s ∗ tabPt c n)

section Body

variable (c : Dev nD) (i : grid0.Coords) (arg3 : Memref sig .tc .vmem S1024x2048 .f32) (harg3 : arg3.IsWhole)
    (arg4 : Memref sig .tc .vmem S32x1x2048 .f32) (harg4 : arg4.IsWhole) (arg5 : Memref sig .tc .vmem S32x1x2048 .f32) (harg5 : arg5.IsWhole)
    (arg6 : Memref sig .tc .vmem S1x2048 .f32) (harg6 : arg6.IsWhole) (arg7 : Memref sig .tc .vmem S2048x1152 .bf16) (harg7 : arg7.IsWhole)
    (arg8 : Memref sig .tc .vmem S1024x1152 .bf16) (harg8 : arg8.IsWhole) (arg9 : Memref sig .tc .vmem S1024x2048 .bf16) (harg9 : arg9.IsWhole)
    (x0 : Vec F S1024x2048 .f32) (x1 x2 : Vec F S32x1x2048 .f32) (x3 : Vec F S1x2048 .f32) (x4 : Vec F S2048x1152 .bf16) (n : TabBuf F c)

set_option maxHeartbeats 1000000 in
/-- A point that is not a tile's first: the scratch block is read and stays. -/
theorem later (h1 : ¬ k0_cond1 i = 1#1) (s : Vec F S1024x2048 .bf16) (K : PUnit → sProp 𝕄) :
    iprop(held c arg3 arg4 arg5 arg6 arg7 x0 x1 x2 x3 x4 n iprop(∃ d, owns (c : Thread nD τ) arg8 fullShare d) iprop(owns (c : Thread nD τ) arg9 fullShare s)
        ∗ (held c arg3 arg4 arg5 arg6 arg7 x0 x1 x2 x3 x4 n iprop(owns (c : Thread nD τ) arg8 fullShare (k0_pay2 s x4)) iprop(owns (c : Thread nD τ) arg9 fullShare s) -∗ K ⟨⟩))
      ⊢ wp frame (wpE (defs₀ (F := F)) Variants.none c none) Set.univ (cc0_norm_matmul i tab (Memref.isWhole_whole _) arg3 harg3 arg4 harg4
          arg5 harg5 arg6 harg6 arg7 harg7 arg8 harg8 arg9 harg9) K := by
  simp only [cc0_norm_matmul_eq_skeleton]; unfold cc0_norm_matmul_skel
  unfold held
  iintro ⟨⟨H3, H4, H5, H6, H7, ⟨%d8, H8⟩, H9, HN⟩, Hk⟩
  unfold owns
  icases H7 with ⟨%f7, %hf7, H7⟩
  icases H8 with ⟨%f8, -, H8⟩
  icases H9 with ⟨%f9, %hf9, H9⟩
  sl_exec (disch := sl_exact h1)
  sl_step
  iapply Hk
  isplitl [H3]; · iexact H3
  isplitl [H4]; · iexact H4
  isplitl [H5]; · iexact H5
  isplitl [H6]; · iexact H6
  isplitl [H7]
  · iexists _; isplitr; · ipureintro; exact hf7
    iexact H7
  isplitl [H8]
  · iexists _; isplitr
    swap; · iexact H8
    ipureintro
    exact (View.read_writes_full _ _ _ _ _).trans (congrArg₂ k0_pay2 ((View.readAt_full _ _ _).trans hf9) ((View.readAt_full _ _ _).trans hf7))
  isplitl [H9]
  · iexists _; isplitr; · ipureintro; exact hf9
    iexact H9
  iexact HN

set_option maxHeartbeats 1000000 in
/-- A tile's first point: the scratch block is filled, then read. -/
theorem first (h1 : k0_cond1 i = 1#1) (hw : ∀ k, Named (word i h1 n k)) (K : PUnit → sProp 𝕄) :
    iprop(held c arg3 arg4 arg5 arg6 arg7 x0 x1 x2 x3 x4 n iprop(∃ d, owns (c : Thread nD τ) arg8 fullShare d) iprop(∃ d, owns (c : Thread nD τ) arg9 fullShare d)
        ∗ (held c arg3 arg4 arg5 arg6 arg7 x0 x1 x2 x3 x4 n iprop(owns (c : Thread nD τ) arg8 fullShare (k0_pay2 (filled x0 x1 x2 x3 (word i h1 n) hw) x4))
            iprop(owns (c : Thread nD τ) arg9 fullShare (filled x0 x1 x2 x3 (word i h1 n) hw)) -∗ K ⟨⟩))
      ⊢ wp frame (wpE (defs₀ (F := F)) Variants.none c none) Set.univ (cc0_norm_matmul i tab (Memref.isWhole_whole _) arg3 harg3 arg4 harg4
          arg5 harg5 arg6 harg6 arg7 harg7 arg8 harg8 arg9 harg9) K := by
  simp only [cc0_norm_matmul_eq_skeleton]; unfold cc0_norm_matmul_skel
  unfold held
  iintro ⟨⟨H3, H4, H5, H6, H7, ⟨%d8, H8⟩, ⟨%d9, H9⟩, HN⟩, Hk⟩
  unfold owns
  icases H7 with ⟨%f7, %hf7, H7⟩
  icases H8 with ⟨%f8, -, H8⟩
  icases H9 with ⟨%f9, -, H9⟩
  sl_exec (disch := sl_exact h1)
  ihave HC := (Scf.wp_for_bind Idealize.ShloMosaic.frame (wpE (defs₀ (F := F)) Variants.none (c : Thread nD τ) none) Set.univ
    k0_t1_loop.lb k0_t1_loop.ub k0_t1_loop.st (k0_t1_ok i h1) ⟨⟩ _ (invAt c i h1 arg3 arg4 arg5 arg6 arg9 x0 x1 x2 x3 n hw)
    (step c i h1 arg3 harg3 arg4 harg4 arg5 harg5 arg6 harg6 arg7 harg7 arg8 harg8 arg9 harg9 x0 x1 x2 x3 n hw)) $$ [H3 H4 H5 H6 H9 HN]
  · unfold invAt resAt owns
    iexists f9
    isplitr; · ipureintro; intro y hy; exact absurd hy (Nat.not_lt_zero _)
    isplitl [H3]; · iexact H3
    isplitl [H4]; · iexact H4
    isplitl [H5]; · iexact H5
    isplitl [H6]; · iexact H6
    isplitl [HN]; · iexact HN
    iexact H9
  iapply HC
  iintro %a HI
  unfold invAt resAt
  icases HI with ⟨%fo, %hfo, H3, H4, H5, H6, HN, H9⟩
  have hr := rows_all c i h1 arg9 x0 x1 x2 x3 n hw fo hfo
  sl_exec
  sl_step
  iapply Hk
  unfold owns
  isplitl [H3]; · iexact H3
  isplitl [H4]; · iexact H4
  isplitl [H5]; · iexact H5
  isplitl [H6]; · iexact H6
  isplitl [H7]
  · iexists _; isplitr; · ipureintro; exact hf7
    iexact H7
  isplitl [H8]
  · iexists _; isplitr
    swap; · iexact H8
    ipureintro
    exact (View.read_writes_full _ _ _ _ _).trans (congrArg₂ k0_pay2 ((View.readAt_full _ _ _).trans hr) ((View.readAt_full _ _ _).trans hf7))
  isplitl [H9]
  · iexists _; isplitr; · ipureintro; exact hr
    iexact H9
  iexact HN

end Body

end Cert.Kernel4Ideal.Norm

end
-- ==== Proof.NormFrame.lean ====
/- The input projection's launch: the table it finds, what its blocks and its scratch block hold point by point, and its run. -/
module

public import proofs.«01_k».proof.Proof.NormRun
public import Idealize.ShloMosaic.Lib.Claim
public import Idealize.ShloMosaic.Lib.Pipeline.Kit

@[expose] public section

set_option maxRecDepth 16384

noncomputable section

namespace Cert.Kernel4Ideal.Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- The buffers when the launch begins: the table written, the weights padded and rounded, the norm's weights taken out. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A buffer that no operation before the launch writes is as the caller left it. -/
theorem V_kept (c : Dev nD) (b : Ref sig .tc)
    (h : b ≠ main_c ∧ b ≠ main_v0 ∧ b ≠ main_c_0 ∧ b ≠ main_call0_v0 ∧ b ≠ main_v1 ∧ b ≠ main_v2 ∧ b ≠ main_v3 ∧ b ≠ main_v4 ∧ b ≠ main_v5) :
    V m c b = m ((c : Thread nD τ).loc b) := by
  obtain ⟨h0, h1, h2, h3, h4, h5, h6, h7, h8⟩ := h
  exact StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.unary_writes, StableHlo.binary_writes, StableHlo.nullary_writes, StableHlo.reshape_writes, Finset.mem_singleton]
    repeat' apply And.intro
    all_goals exact StableHlo.devRef_ne_of_ne (by assumption)))

/-- The launch finds the table at its literal. -/
theorem V_tab (c : Dev nD) : V m c main_c = (fun i => lit0 (S528.rowMajor i) : Vec F S528 .i32) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

/-- The table as the launch finds it; there is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, and so every table is admitted. -/
abbrev adm : (pcfg0 (F := F)).Adm := ⟨tbl m, trivial⟩
abbrev cfgM : Pipeline.Cfg sig Λ₀ := cfg0 (adm m)

/-- The table's half. -/
theorem tables_eq (c : Dev nD) : (Pipeline.ΦT pre0 (tbl m) c : sProp 𝕄) = tabPt c (tbl m 0) := by
  unfold Pipeline.ΦT Pipeline.prefHeld
  rw [show (Finset.univ : Finset (Fin 1)) = {(0 : Fin 1)} from by decide, bigSep_singleton]
  rfl

/-! ## The words of the table -/

theorem rowMajor_528 (i : S528.Idx) : S528.rowMajor i = (i 0 : Fin 528) :=
  Fin.ext (Shape.rowMajor_val_one i)

/-- The sequence that the table names for a block of sixty-four rows: the prompt's, or the sample's. -/
def gateOf (k : ℕ) : ℕ := if k < 512 then k / 32 else 16 + (k - 512)

theorem lit0_gate : ∀ k : Fin 528, lit0 k = BitVec.ofNat 32 (gateOf k) := by
  decide +kernel

theorem gateOf_lt (k : ℕ) (h : k < 528) : gateOf k < 32 := by
  unfold gateOf; split <;> omega

theorem off1_nat : ∀ (a : Fin 33) (k : Fin k0_t1_loop.trips),
    (Scalar.indexCast (Scalar.addi (Scalar.muli (BitVec.ofNat 32 a.val) 16#32) (Scf.iv 0#32 1#32 k)) : BitVec 32).toNat = 16 * a.val + k.val := by
  decide +kernel

theorem off1_lt (a : Fin 33) (k : Fin k0_t1_loop.trips) : 16 * a.val + k.val < 528 := by
  have hk : k.val < 16 := lt_of_lt_of_eq k.isLt trips_eq
  have ha := a.isLt
  omega

/-- The word of a trip is its block's sequence. -/
theorem word_eq (i : grid0.Coords) (h1 : k0_cond1 i = 1#1) (k : Fin k0_t1_loop.trips) :
    word (F := F) (c := (0 : Dev nD)) i h1 (tbl m 0) k = BitVec.ofNat 32 (gateOf (16 * (i 0 : Fin 33).val + k.val)) := by
  have e := V_tab m (0 : Dev nD)
  refine (congrFun e _).trans (Eq.trans (congrArg lit0 ?_) (lit0_gate ⟨16 * (i 0 : Fin 33).val + k.val, off1_lt (i 0) k⟩))
  refine (rowMajor_528 _).trans (Fin.ext ((ValueKit.rect_emb_unit_val _ _ _ _ _).trans ?_))
  exact (Nat.add_zero _).trans (off1_nat (i 0) k)

theorem named_of (n : ℕ) (h : n < 32) : Named (BitVec.ofNat 32 n) := by
  have e : (BitVec.ofNat 32 n).toNat = n := by rw [BitVec.toNat_ofNat]; exact Nat.mod_eq_of_lt (by omega)
  intro a
  match a with
  | ⟨0, _⟩ => show (BitVec.ofNat 32 n).toNat + 1 ≤ 32; omega
  | ⟨1, _⟩ => show 0 + 1 ≤ 1; omega
  | ⟨2, _⟩ => show 0 + 2048 ≤ 2048; omega

/-- A tile's words. -/
abbrev words (i : grid0.Coords) (k : Fin k0_t1_loop.trips) : BitVec 32 := BitVec.ofNat 32 (gateOf (16 * (i 0 : Fin 33).val + k.val))

/-- Every word names a sequence that exists. -/
theorem named (i : grid0.Coords) (k : Fin k0_t1_loop.trips) : Named (words i k) := named_of _ (gateOf_lt _ (off1_lt _ _))

theorem word_named (i : grid0.Coords) (h1 : k0_cond1 i = 1#1) (k : Fin k0_t1_loop.trips) : Named (word (F := F) (c := (0 : Dev nD)) i h1 (tbl m 0) k) := by
  rw [word_eq]; exact named i k

theorem filled_congr (x0 : Vec F S1024x2048 .f32) (x1 x2 : Vec F S32x1x2048 .f32) (x3 : Vec F S1x2048 .f32)
    (w w' : Fin k0_t1_loop.trips → BitVec 32) (hw : ∀ k, Named (w k)) (hw' : ∀ k, Named (w' k)) (h : w = w') :
    filled x0 x1 x2 x3 w hw = filled x0 x1 x2 x3 w' hw' := by
  subst h; rfl

/-! ## The tiles -/

theorem pts : grid0.N = 297 := by decide

/-- The first point of a point's tile. -/
def firstOf (t : Fin grid0.N) : Fin grid0.N := ⟨9 * (t.val / 9), lt_of_le_of_lt (Nat.mul_div_le _ _) t.isLt⟩

theorem firstOf_self (t : Fin grid0.N) (h : t.val % 9 = 0) : firstOf t = t := Fin.ext (by show 9 * (t.val / 9) = t.val; omega)

theorem firstOf_next (s t : Fin grid0.N) (hs : s.val = t.val + 1) (h : s.val % 9 ≠ 0) : firstOf s = firstOf t :=
  Fin.ext (by show 9 * (s.val / 9) = 9 * (t.val / 9); omega)

/-- The body fills the scratch block on a tile's first point and on no other. -/
theorem cond_iff : ∀ t : Fin grid0.N, k0_cond1 (grid0.coords t) = 1#1 ↔ t.val % 9 = 0 := by
  decide +kernel

/-! ## The blocks -/

/-- A window's block at a point, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The output's block is written back at every point. -/
theorem flush5 (a : (pcfg0 (F := F)).Adm) : ∀ t : Fin (cfg0 a).N, ((cfg0 a).win 5).flush t = true :=
  (fun t => (Pipeline.Window.flushOf_reads cc0_transform_5 reads0_5 hreads0_5 1 (by decide) (by decide)
    (Pipeline.Window.sep_of_coord cc0_transform_5 1 1 (fun _ => rfl) (by decide)) (P := 1) (m := 0) (by decide) rfl t).mpr (Nat.mod_one _) :
    ∀ t : Fin grid0.N, Pipeline.Window.flushOf grid0 true cc0_transform_5 t = true)

/-- The staging buffers of a point. -/
abbrev ms0 (t : Fin (cfgM m).N) : Memref sig .tc .vmem S1024x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S32x1x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S32x1x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x2048 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S2048x1152 .bf16 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1024x1152 .bf16 := spec0_5.stage ((cfgM m).slots t 5)
abbrev hs5 (t : Fin (cfgM m).N) : (ms5 m t).IsWhole := hstage0_5 (((cfgM m).slots t 5).cast nbuf0_5)
/-- The block that holds a tile's normalised rows. -/
abbrev scr : Memref sig .tc .vmem S1024x2048 .bf16 := Memref.whole cc0_scratch0

/-- The body as it is called at a point. -/
abbrev bodyAt (t : Fin (cfgM m).N) : Prog (TpuEff nD τ sig (Elt F) Λ₀ .tc) PUnit :=
  cc0_norm_matmul (grid0.coords t) tab (Memref.isWhole_whole _) (ms0 m t) (hs0 m t) (ms1 m t) (hs1 m t) (ms2 m t) (hs2 m t) (ms3 m t) (hs3 m t) (ms4 m t) (hs4 m t) (ms5 m t) (hs5 m t) scr (Memref.isWhole_whole _)

/-- What the scratch block holds once point `t` has filled it. -/
def filledAt (c : Dev nD) (t : Fin (cfgM m).N) : Vec F S1024x2048 .bf16 :=
  filled (iblk m c 0 t) (iblk m c 1 t) (iblk m c 2 t) (iblk m c 3 t) (words (grid0.coords t)) (named (grid0.coords t))

/-- What it holds after a point: what the tile's first point put there. -/
def scrAt (c : Dev nD) (t : Fin (cfgM m).N) : Vec F S1024x2048 .bf16 := filledAt m c (firstOf t)

/-- What a point leaves. -/
def outAt (c : Dev nD) (t : Fin (cfgM m).N) : Vec F S1024x1152 .bf16 := k0_pay2 (scrAt m c t) (iblk m c 4 t)

/-- Before a point: inside a tile the scratch block holds the tile's rows, at its start anything. -/
def inv (c : Dev nD) (t : Fin ((cfgM m).N + 1)) : sProp 𝕄 :=
  iprop(((∃ f : Vec F S1024x2048 .bf16, ⌜∀ s : Fin (cfgM m).N, s.val = t.val → s.val % 9 ≠ 0 → f = scrAt m c s⌝ ∗ owns (c : Thread nD τ) scr fullShare f)
    ∗ ∃ r, prngReg c r) ∗ tabPt c (tbl m 0))

/-- The launch's data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ := inv m c
  q w := Pipeline.shareOf spec0 w
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = outAt m c t := by dsimp only [dats]; try rfl

/-- The blocks read are in place at every point. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body at a point -/

/-- What the body is called with, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t))

/-- What the launch hands over at its start: the scratch block at some contents, the core's register. -/
theorem start_eq (c : Dev nD) : (Pipeline.ΦA spec0 c : sProp 𝕄)
    = iprop((∃ f : Buf (Elt F) ((c : Thread nD τ).loc cc0_scratch0), owns (c : Thread nD τ) scr fullShare f) ∗ ∃ r, prngReg c r) := by
  unfold Pipeline.ΦA
  rw [scopedRest0_eq]
  simp only [owns_whole]

theorem inv_start (c : Dev nD) : iprop(Pipeline.ΦA spec0 c ∗ Pipeline.ΦT pre0 (tbl m) c) ⊢ inv m c 0 := by
  rw [start_eq, tables_eq]
  unfold inv
  iintro ⟨⟨⟨%f, HS⟩, Hr⟩, HN⟩
  isplitl [HS Hr]
  · isplitl [HS]
    · iexists f
      isplitr; · ipureintro; intro s hs h; exact absurd (by rw [hs]; rfl) h
      iexact HS
    iexact Hr
  iexact HN

theorem inv_end (c : Dev nD) (t) : inv m c t ⊢ Pipeline.ΦA spec0 c := by
  rw [start_eq]
  unfold inv
  iintro ⟨⟨⟨%f, -, HS⟩, Hr⟩, -⟩
  isplitl [HS]
  · iexists f; iexact HS
  iexact Hr

/-- Inside a tile the scratch block of the point before is the point's. -/
theorem scrAt_next (c : Dev nD) (t : Fin (cfgM m).N) (s : Fin (cfgM m).N) (hs : s.val = t.succ.val) (h : s.val % 9 ≠ 0) : scrAt m c t = scrAt m c s :=
  congrArg (filledAt m c) (firstOf_next s t hs h).symm

/-- On a tile's first point the words that the body reads fill the scratch block as said. -/
theorem scrAt_first (t : Fin (cfgM m).N) (h1 : k0_cond1 (grid0.coords t) = 1#1) :
    filled (iblk m 0 0 t) (iblk m 0 1 t) (iblk m 0 2 t) (iblk m 0 3 t) (word (F := F) (c := (0 : Dev nD)) (grid0.coords t) h1 (tbl m 0))
      (word_named m (grid0.coords t) h1) = scrAt m 0 t := by
  refine (filled_congr _ _ _ _ _ (words (grid0.coords t)) _ (named (grid0.coords t)) (funext fun k => word_eq m _ h1 k)).trans ?_
  exact congrArg (filledAt m 0) (firstOf_self t ((cond_iff t).mp h1)).symm

set_option maxHeartbeats 1600000 in
/-- The body between the two, at every point. -/
theorem sound (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  unfold bodyPre bodyPost
  simp only [before0, before1, before2, before3, before4]
  rw [show (dats m 0 0).owesAt () t.succ = (dats m 0 0).owesAt () t.castSucc from rfl,
    after0, after1, after2, after3, after4, after5]
  rw [show (dats m 0 0).Φ t.succ = inv m 0 t.succ from rfl, show (dats m 0 0).Φ t.castSucc = inv m 0 t.castSucc from rfl]
  unfold inv outAt
  iintro ⟨⟨⟨⟨%f, %hf, HS⟩, Hr⟩, HN⟩, Ho, ⟨%d0, H0⟩, ⟨%d1, H1⟩, ⟨%d2, H2⟩, ⟨%d3, H3⟩, ⟨%d4, H4⟩, ⟨%d5, H5⟩⟩
  by_cases h1 : k0_cond1 (grid0.coords t) = 1#1
  · rw [← scrAt_first m t h1]
    iapply (first (0 : Dev nD) (grid0.coords t) (ms0 m t) (hs0 m t) (ms1 m t) (hs1 m t) (ms2 m t) (hs2 m t) (ms3 m t) (hs3 m t) (ms4 m t) (hs4 m t) (ms5 m t) (hs5 m t) scr (Memref.isWhole_whole _)
      (iblk m 0 0 t) (iblk m 0 1 t) (iblk m 0 2 t) (iblk m 0 3 t) (iblk m 0 4 t) (tbl m 0) h1 (word_named m (grid0.coords t) h1) _)
    unfold held
    isplitl [H0 H1 H2 H3 H4 H5 HS HN]
    · isplitl [H0]; · iexact H0
      isplitl [H1]; · iexact H1
      isplitl [H2]; · iexact H2
      isplitl [H3]; · iexact H3
      isplitl [H4]; · iexact H4
      isplitl [H5]; · iexists _; iexact H5
      isplitl [HS]; · iexists _; iexact HS
      iexact HN
    iintro ⟨H0, H1, H2, H3, H4, H5, HS, HN⟩
    isplitl [HS Hr HN]
    · isplitl [HS Hr]
      · isplitl [HS]
        · iexists _
          isplitr
          swap; · iexact HS
          ipureintro
          exact fun s hs h => (scrAt_first m t h1).trans (scrAt_next m 0 t s hs h)
        iexact Hr
      iexact HN
    isplitl [Ho]; · iexact Ho
    isplitl [H0]; · iexact H0
    isplitl [H1]; · iexact H1
    isplitl [H2]; · iexact H2
    isplitl [H3]; · iexact H3
    isplitl [H4]; · iexact H4
    iexact H5
  · obtain rfl : f = scrAt m 0 t := hf t rfl (fun h => h1 ((cond_iff t).mpr h))
    iapply (later (0 : Dev nD) (grid0.coords t) (ms0 m t) (hs0 m t) (ms1 m t) (hs1 m t) (ms2 m t) (hs2 m t) (ms3 m t) (hs3 m t) (ms4 m t) (hs4 m t) (ms5 m t) (hs5 m t) scr (Memref.isWhole_whole _)
      (iblk m 0 0 t) (iblk m 0 1 t) (iblk m 0 2 t) (iblk m 0 3 t) (iblk m 0 4 t) (tbl m 0) h1 (scrAt m 0 t) _)
    unfold held
    isplitl [H0 H1 H2 H3 H4 H5 HS HN]
    · isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iexact HN
    iintro ⟨H0, H1, H2, H3, H4, H5, HS, HN⟩
    isplitl [HS Hr HN]
    · isplitl [HS Hr]
      · isplitl [HS]
        · iexists _
          isplitr
          swap; · iexact HS
          ipureintro
          exact fun s hs h => scrAt_next m 0 t s hs h
        iexact Hr
      iexact HN
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin (cfgM m).N) :
    defs₀ (F := F) .tc (cfgM m).body ((cfgM m).bodyArgs t ((cfgM m).slots t)) = bodyAt m t := by
  unfold defs₀; rw [Defs.onTc_tc]

/-- The launch's obligation of the body. -/
theorem obligation (c : Dev nD) : BodyObligation (dats (F := F) m 0 c) (defs₀ (F := F)) Variants.none () Set.univ := fun t => by
  rw [bigSep_W0, bigSep_W0, defs₀_row m]
  exact triple_restated (sound m c t) rfl .rfl fun _ => .rfl

/-! ## The run -/

set_option backward.isDefEq.respectTransparency.types false in
/-- Every run of the program ends with the launch's arrays as its data say, and with no signal left. -/
theorem run_quiet : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_track_shared (Q' := _) pcfgs (fun _ => adm m) (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hpf := V_pre m)
    (hin := inv_start m) (hout := fun c => inv_end m c _)

/-- After such a run the arguments are as they began. -/
theorem kept (r) (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_kept m c main_arg0 (by decide)))),
    ((h c).2 main_arg1 (show main_arg1 ∈ Pipeline.restRefs sig spec0 by decide)).trans (V_kept m c main_arg1 (by decide)),
    ((h c).2 main_arg2 (show main_arg2 ∈ Pipeline.restRefs sig spec0 by decide)).trans (V_kept m c main_arg2 (by decide)),
    ((h c).1 1).trans (((dats m 0 c).arrAt_in 1 rfl _).trans ((A_eq m c 1).trans (V_kept m c main_arg3 (by decide)))),
    ((h c).1 2).trans (((dats m 0 c).arrAt_in 2 rfl _).trans ((A_eq m c 2).trans (V_kept m c main_arg4 (by decide))))⟩

/-- The arguments end as they began, and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_quiet m ρ)

end Cert.Kernel4Ideal.Norm

end
-- ==== Proof.NormValue.lean ====
/- What the kernel leaves in a tile of the input projection, element by element: the body's arithmetic, and the blocks of a
   point. -/
module

public import proofs.«01_k».proof.Proof.NormFrame
public import Idealize.ShloMosaic.Lib.Pointwise

@[expose] public section

set_option maxRecDepth 16384

noncomputable section

namespace Cert.Kernel4Ideal.Norm

open Idealize.ShloMosaic Idealize.ShloMosaic.TcCoe Idealize.SL.Sem
open Cert.Kernel4Ideal Cert.Kernel4Ideal.Gen

/-! ## The body's arithmetic -/

/-- An element of a row divided by the row's root mean square, times the norm's weight, scaled and shifted. -/
def normed (h : Fin 2048 → EReal) (g : EReal) (sh sc : EReal) (d : Fin 2048) : EReal :=
  h d * Ideal.rsqrt (Ideal.div (∑ e : Fin 2048, h e * h e) (Ideal.ofBits FTy.f32 0x45000000#32) + Ideal.ofBits FTy.f32 0x358637BD#32) * g * (1 + sc) + sh

theorem pay1_at (h : Vec Ideal S64x2048 .f32) (g : Vec Ideal S1x2048 .f32) (sh sc : Vec Ideal S1x1x2048 .f32) (i : Fin 64) (d : Fin 2048) :
    k0_pay1 h g sh sc (ix2 i d) = normed (fun e => h (ix2 i e)) (g (ix2 0 d)) (sh (ix3 0 0 d)) (sc (ix3 0 0 d)) d := by
  unfold normed
  pointwise [k0_pay1]

theorem pay2_at (x : Vec Ideal S1024x2048 .bf16) (w : Vec Ideal S2048x1152 .bf16) (i : Fin 1024) (l : Fin 1152) :
    k0_pay2 x w (ix2 i l) = ∑ d : Fin 2048, x (ix2 i d) * w (ix2 d l) := by
  pointwise [k0_pay2]

/-- A row of the block that the trips leave. -/
theorem filled_at (x0 : Vec Ideal S1024x2048 .f32) (x1 x2 : Vec Ideal S32x1x2048 .f32) (x3 : Vec Ideal S1x2048 .f32)
    (w : Fin k0_t1_loop.trips → BitVec 32) (hw : ∀ k, Named (w k)) (i : Fin 1024) (d : Fin 2048) (q : Fin 32)
    (hq : (w (tripOf (ix2 i d))).toNat = q.val) :
    filled x0 x1 x2 x3 w hw (ix2 i d) = normed (fun e => x0 (ix2 i e)) (x3 (ix2 0 d)) (x1 (ix3 q 0 d)) (x2 (ix3 q 0 d)) d := by
  have hi : 64 * (tripOf (ix2 i d)).val + i.val % 64 = i.val := by
    show 64 * (i.val / 64) + i.val % 64 = i.val
    omega
  have he : ∀ x : Vec Ideal S32x1x2048 .f32, View.ld (Val := Elt Ideal) x
      (Rect.unit (s := S32x1x2048) (k0_off3 (w (tripOf (ix2 i d)))) S1x1x2048.size (hw _)) (ix3 0 0 d) = x (ix3 q 0 d) := fun x => congrArg x (by
    funext a
    match a with
    | ⟨0, _⟩ => exact Fin.ext ((ValueKit.rect_emb_unit_val _ _ _ _ _).trans hq)
    | ⟨1, _⟩ => exact Fin.ext ((ValueKit.rect_emb_unit_val _ _ _ _ _).trans rfl)
    | ⟨2, _⟩ => exact Fin.ext ((ValueKit.rect_emb_unit_val _ _ _ _ _).trans (Nat.zero_add _)))
  have h0 : ∀ e : Fin 2048, View.ld (Val := Elt Ideal) x0
      (Rect.unit (s := S1024x2048) (k0_off2 (tripOf (ix2 i d))) S64x2048.size (off2_inb _)) (ix2 (⟨i.val % 64, Nat.mod_lt _ (by decide)⟩ : Fin 64) e) = x0 (ix2 i e) :=
    fun e => congrArg x0 (by
    funext a
    match a with
    | ⟨0, _⟩ => exact Fin.ext ((ValueKit.rect_emb_unit_val _ _ _ _ _).trans ((congrArg (fun f : Fin 2 → ℕ => f 0 + i.val % 64) (off2_eq _)).trans hi))
    | ⟨1, _⟩ => exact Fin.ext ((ValueKit.rect_emb_unit_val _ _ _ _ _).trans (Nat.zero_add _)))
  unfold filled rows
  refine (pay1_at _ _ _ _ _ _).trans ?_
  have e : (fun e : Fin 2048 => View.ld (Val := Elt Ideal) x0
      (Rect.unit (s := S1024x2048) (k0_off2 (tripOf (ix2 i d))) S64x2048.size (off2_inb _)) (ix2 (⟨i.val % 64, Nat.mod_lt _ (by decide)⟩ : Fin 64) e))
      = fun e => x0 (ix2 i e) := funext h0
  exact (congrArg (fun h : Fin 2048 → EReal => normed h (x3 (ix2 0 d)) _ _ d) e).trans
    (congrArg₂ (fun a b : EReal => normed (fun e => x0 (ix2 i e)) (x3 (ix2 0 d)) a b d) (he x1) (he x2))

/-! ## The arrays -/

variable (m : (ℓ : Loc nD τ sig) → Buf (Elt Ideal) ℓ)

/-- The projection's weights as the launch reads them: sixty-four columns of zeros after them. -/
def padded (a : FVec Ideal S1x2048x10304 .f32) : FVec Ideal S2048x10368 .bf16 :=
  truncf .bf16 (pad S2048x10368 ![0, 0] ![0, 64] ![0, 0] (shapeCast S2048x10304 a shapeCasts_S1x2048x10304_S2048x10304)
    (sitofp (F := Ideal) .f32 (constantI S_ 32 0#32)) pads_S2048x10304_S2048x10368_000_0640 h_S_) bitsLt_bf16_f32

/-- The norm's weights: the first of the two rows. -/
def weights (a : FVec Ideal S2x2048 .f32) : FVec Ideal S1x2048 .f32 :=
  shapeCast S1x2048 (shapeCast S2048 (extractStridedSlice S1x2048 ![0, 0] a slices_S2x2048_S1x2048_0_0) shapeCasts_S1x2048_S2048) shapeCasts_S2048_S1x2048

theorem V_w (c : Dev nD) : V m c main_v2 = padded (m ((c.tc : Thread nD τ).loc main_arg2)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

theorem V_g (c : Dev nD) : V m c main_v5 = weights (m ((c.tc : Thread nD τ).loc main_arg1)) := by
  dsimp only [V, hostOps0, hostOps0_1, hostOps0_2, List.flatten_cons, List.flatten_nil, List.append_nil, List.cons_append, List.nil_append]
  simp only [StableHlo.TRef.binary, StableHlo.TRef.unary, StableHlo.TRef.toBuf, StableHlo.TRef.ofBuf, cast_eq]
  after_results_simp
  all_goals rfl

theorem padded_at (a : FVec Ideal S1x2048x10304 .f32) (d : Fin 2048) (k : Fin 10368) :
    padded a (ix2 d k) = if h : k.val < 10304 then (a (ix3 0 d ⟨k.val, h⟩) : EReal) else 0 := by
  pointwise [padded]
  by_cases h : k.val < 10304
  · rw [dif_pos (by omega), dif_pos h]
  · rw [dif_neg (by omega), dif_neg h]
    show (((0#32 : BitVec 32).toInt : ℝ) : EReal) = 0
    simp

theorem weights_at (a : FVec Ideal S2x2048 .f32) (d : Fin 2048) : weights a (ix2 0 d) = a (ix2 0 d) := by
  pointwise [weights]

/-! ## The blocks -/

theorem pt_val : ∀ t : Fin grid0.N, (grid0.coords t 0).val = t.val / 9 ∧ (grid0.coords t 1).val = t.val % 9 := by
  decide +kernel

theorem pt_lt (t : Fin grid0.N) : t.val < 297 := lt_of_lt_of_eq t.isLt pts

theorem blk0 (c : Dev nD) (t : Fin (cfgM m).N) (i : Fin 1024) (d : Fin 2048) (r : Fin 33792) (hr : r.val = 1024 * (t.val / 9) + i.val) :
    (show Vec Ideal S1024x2048 .f32 from iblk m c 0 t) (ix2 i d) = (m ((c.tc : Thread nD τ).loc main_arg0) : Vec Ideal S33792x2048 .f32) (ix2 r d) := by
  have ht := pt_lt t
  have hp := (pt_val t).1
  refine Eq.trans ?_ (congrFun (V_kept m c main_arg0 (by decide)) _)
  blk_simp [iblk]
  refine congrArg (V m c main_arg0) (funext fun a => Fin.ext ?_)
  match a with
  | ⟨0, _⟩ =>
    refine (ValueKit.view_emb_slice_whole_unit_val _ _ _ _ _ _).trans ?_
    show (BitVec.ofNat 32 (grid0.coords t 0).val : BitVec 32).toNat * 1024 + i.val = r.val
    rw [BitVec.toNat_ofNat, hp]; omega
  | ⟨1, _⟩ => exact (ValueKit.view_emb_slice_whole_unit_val _ _ _ _ _ _).trans (Nat.zero_add _)

theorem blk1 (c : Dev nD) (t : Fin (cfgM m).N) (q : Fin 32) (d : Fin 2048) :
    (show Vec Ideal S32x1x2048 .f32 from iblk m c 1 t) (ix3 q 0 d) = (m ((c.tc : Thread nD τ).loc main_arg3) : Vec Ideal S32x1x2048 .f32) (ix3 q 0 d) := by
  refine Eq.trans ?_ (congrFun (V_kept m c main_arg3 (by decide)) _)
  blk_simp [iblk]
  refine congrArg (V m c main_arg3) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ => exact (ValueKit.view_emb_slice_whole_unit_val _ _ _ _ _ _).trans (Nat.zero_add _)

theorem blk2 (c : Dev nD) (t : Fin (cfgM m).N) (q : Fin 32) (d : Fin 2048) :
    (show Vec Ideal S32x1x2048 .f32 from iblk m c 2 t) (ix3 q 0 d) = (m ((c.tc : Thread nD τ).loc main_arg4) : Vec Ideal S32x1x2048 .f32) (ix3 q 0 d) := by
  refine Eq.trans ?_ (congrFun (V_kept m c main_arg4 (by decide)) _)
  blk_simp [iblk]
  refine congrArg (V m c main_arg4) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ => exact (ValueKit.view_emb_slice_whole_unit_val _ _ _ _ _ _).trans (Nat.zero_add _)

theorem blk3 (c : Dev nD) (t : Fin (cfgM m).N) (d : Fin 2048) :
    (show Vec Ideal S1x2048 .f32 from iblk m c 3 t) (ix2 0 d) = (m ((c.tc : Thread nD τ).loc main_arg1) : Vec Ideal S2x2048 .f32) (ix2 0 d) := by
  refine Eq.trans ?_ ((congrFun (V_g m c) (ix2 0 d)).trans (weights_at _ d))
  blk_simp [iblk]
  refine congrArg (V m c main_v5) (funext fun a => Fin.ext ?_)
  match a with
  | ⟨0, _⟩ => exact (ValueKit.view_emb_slice_whole_unit_val _ _ _ _ _ _).trans rfl
  | ⟨1, _⟩ => exact (ValueKit.view_emb_slice_whole_unit_val _ _ _ _ _ _).trans (Nat.zero_add _)

theorem blk4 (c : Dev nD) (t : Fin (cfgM m).N) (d : Fin 2048) (l : Fin 1152) (k : Fin 10368) (hk : k.val = 1152 * (t.val % 9) + l.val) :
    (show Vec Ideal S2048x1152 .bf16 from iblk m c 4 t) (ix2 d l) = padded (m ((c.tc : Thread nD τ).loc main_arg2)) (ix2 d k) := by
  have ht := pt_lt t
  have hp := (pt_val t).2
  refine Eq.trans ?_ (congrFun (V_w m c) (ix2 d k))
  blk_simp [iblk]
  refine congrArg (V m c main_v2) (funext fun a => Fin.ext ?_)
  match a with
  | ⟨0, _⟩ => exact (ValueKit.view_emb_slice_whole_unit_val _ _ _ _ _ _).trans (Nat.zero_add _)
  | ⟨1, _⟩ =>
    refine (ValueKit.view_emb_slice_whole_unit_val _ _ _ _ _ _).trans ?_
    show (BitVec.ofNat 32 (grid0.coords t 1).val : BitVec 32).toNat * 1152 + l.val = k.val
    rw [BitVec.toNat_ofNat, hp]; omega

/-! ## The result -/

/-- The sequence of a row. -/
def seqRow (r : Fin 33792) : Fin 32 := ⟨gateOf (r.val / 64), gateOf_lt _ (by omega)⟩

/-- A row of the stream normalised, scaled and shifted. -/
def xn (x : Vec Ideal S33792x2048 .f32) (g : Vec Ideal S2x2048 .f32) (sh sc : Vec Ideal S32x1x2048 .f32) (r : Fin 33792) (d : Fin 2048) : EReal :=
  normed (fun e => x (ix2 r e)) (g (ix2 0 d)) (sh (ix3 (seqRow r) 0 d)) (sc (ix3 (seqRow r) 0 d)) d

/-- That row through the weights; the last sixty-four columns are zero. -/
def out (x : Vec Ideal S33792x2048 .f32) (g : Vec Ideal S2x2048 .f32) (w : Vec Ideal S1x2048x10304 .f32) (sh sc : Vec Ideal S32x1x2048 .f32)
    (r : Fin 33792) (k : Fin 10368) : EReal :=
  if h : k.val < 10304 then ∑ d : Fin 2048, xn x g sh sc r d * w (ix3 0 d ⟨k.val, h⟩) else 0

/-- The product with the padded weights is that. -/
theorem sum_padded (x : Vec Ideal S33792x2048 .f32) (g : Vec Ideal S2x2048 .f32) (w : Vec Ideal S1x2048x10304 .f32) (sh sc : Vec Ideal S32x1x2048 .f32)
    (r : Fin 33792) (k : Fin 10368) : ∑ d : Fin 2048, xn x g sh sc r d * padded w (ix2 d k) = out x g w sh sc r k := by
  unfold out
  by_cases h : k.val < 10304
  · rw [dif_pos h]
    exact Finset.sum_congr rfl fun d _ => congrArg _ ((padded_at w d k).trans (dif_pos h))
  · rw [dif_neg h]
    exact Finset.sum_eq_zero fun d _ => (congrArg _ ((padded_at w d k).trans (dif_neg h))).trans (mul_zero _)

/-- The result in closed form. -/
def res (c : Dev nD) : Buf (Elt Ideal) ((c.tc : Thread nD τ).loc main_v6) := fun y : S33792x10368.Idx =>
  (out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (show Fin 33792 from y 0) (show Fin 10368 from y 1) : EReal)

/-- The scratch block at a point, at an element. -/
theorem scrAt_at (c : Dev nD) (t : Fin (cfgM m).N) (i : Fin 1024) (d : Fin 2048) (r : Fin 33792) (hr : r.val = 1024 * (t.val / 9) + i.val) :
    scrAt m c t (ix2 i d) = xn (m ((c.tc : Thread nD τ).loc main_arg0)) (m ((c.tc : Thread nD τ).loc main_arg1))
      (m ((c.tc : Thread nD τ).loc main_arg3)) (m ((c.tc : Thread nD τ).loc main_arg4)) r d := by
  have ht := pt_lt t
  have hf : (firstOf t).val / 9 = t.val / 9 := by show 9 * (t.val / 9) / 9 = t.val / 9; omega
  have hp := (pt_val (firstOf t)).1
  have hr' : r.val = 1024 * ((firstOf t).val / 9) + i.val := by rw [hf]; exact hr
  have hq : (words (grid0.coords (firstOf t)) (tripOf (ix2 i d))).toNat = (seqRow r).val := by
    have e : 16 * (grid0.coords (firstOf t) 0 : Fin 33).val + (tripOf (ix2 i d)).val = r.val / 64 := by
      show 16 * (grid0.coords (firstOf t) 0).val + i.val / 64 = r.val / 64
      rw [hp, hf]; omega
    show (BitVec.ofNat 32 (gateOf _)).toNat = _
    rw [e, BitVec.toNat_ofNat]
    exact Nat.mod_eq_of_lt (lt_of_lt_of_le (seqRow r).isLt (by decide))
  unfold scrAt filledAt xn
  refine (filled_at _ _ _ _ _ _ i d (seqRow r) hq).trans ?_
  have e : (fun e : Fin 2048 => (show Vec Ideal S1024x2048 .f32 from iblk m c 0 (firstOf t)) (ix2 i e))
      = fun e => (m ((c.tc : Thread nD τ).loc main_arg0) : Vec Ideal S33792x2048 .f32) (ix2 r e) := funext fun e => blk0 m c (firstOf t) i e r hr'
  exact (congrArg (fun h : Fin 2048 → EReal => normed h _ _ _ d) e).trans
    ((congrArg (fun g : EReal => normed _ g _ _ d) (blk3 m c (firstOf t) d)).trans
      (congrArg₂ (fun a b : EReal => normed _ _ a b d) (blk1 m c (firstOf t) (seqRow r) d) (blk2 m c (firstOf t) (seqRow r) d)))

/-- The block that a point leaves, at an element. -/
theorem outAt_at (c : Dev nD) (t : Fin (cfgM m).N) (i : Fin 1024) (l : Fin 1152) (r : Fin 33792) (hr : r.val = 1024 * (t.val / 9) + i.val)
    (k : Fin 10368) (hk : k.val = 1152 * (t.val % 9) + l.val) : outAt m c t (ix2 i l) = res m c (ix2 r k) := by
  show _ = out _ _ _ _ _ r k
  unfold outAt
  refine (pay2_at _ _ i l).trans (Eq.trans ?_ (sum_padded _ _ _ _ _ r k))
  exact Finset.sum_congr rfl fun d _ => congrArg₂ (· * ·) (scrAt_at m c t i d r hr) (blk4 m c t d l k hk)

end Cert.Kernel4Ideal.Norm

end
-- ==== Proof.NormFinal.lean ====
/- The input projection's result: its blocks put together, and the run that ends with them. -/
module

public import proofs.«01_k».proof.Proof.NormValue

@[expose] public section

set_option maxRecDepth 16384

noncomputable section

namespace Cert.Kernel4Ideal.Norm

open Idealize.ShloMosaic Idealize.ShloMosaic.TcCoe Idealize.ShloMosaic.Tactic Idealize.SL.Sem
open Idealize.ShloMosaic.Pipeline (Dat)
open Cert.Kernel4Ideal Cert.Kernel4Ideal.Gen

variable (m : (ℓ : Loc nD τ sig) → Buf (Elt Ideal) ℓ)

/-- The blocks that are written back cover the result. -/
theorem covers : ((cfgM m).win 5).Covers := by
  refine ⟨fun a => ?_, fun β => ?_⟩
  · match a with
    | ⟨0, _⟩ => exact (by decide : 0 < 1024)
    | ⟨1, _⟩ => exact (by decide : 0 < 1152)
  · have h0 : (β (0 : Fin 2)).val < 33 := lt_of_lt_of_eq (β (0 : Fin 2)).isLt (show (33792 + 1024 - 1) / 1024 = 33 by decide)
    have h1 : (β (1 : Fin 2)).val < 9 := lt_of_lt_of_eq (β (1 : Fin 2)).isLt (show (10368 + 1152 - 1) / 1152 = 9 by decide)
    have hN : grid0.N = 297 := by decide
    have ht : 9 * (β (0 : Fin 2)).val + (β (1 : Fin 2)).val < grid0.N := by omega
    refine ⟨⟨9 * (β (0 : Fin 2)).val + (β (1 : Fin 2)).val, ht⟩, flush5 _ _, fun a => ?_⟩
    have hp := pt_val ⟨9 * (β (0 : Fin 2)).val + (β (1 : Fin 2)).val, ht⟩
    match a with
    | ⟨0, _⟩ =>
      refine ⟨?_, Or.inl rfl⟩
      show (BitVec.ofNat 32 (grid0.coords ⟨9 * (β (0 : Fin 2)).val + (β (1 : Fin 2)).val, _⟩ 0).val : BitVec 32).toNat = (β (0 : Fin 2)).val
      rw [BitVec.toNat_ofNat, hp.1]; dsimp only; omega
    | ⟨1, _⟩ =>
      refine ⟨?_, Or.inl rfl⟩
      show (BitVec.ofNat 32 (grid0.coords ⟨9 * (β (0 : Fin 2)).val + (β (1 : Fin 2)).val, _⟩ 1).val : BitVec 32).toNat = (β (1 : Fin 2)).val
      rw [BitVec.toNat_ofNat, hp.2]; dsimp only; omega

attribute [local irreducible] outAt in
theorem final (c : Dev nD) : (dats m 0 c).arrAt 5 (cfgM m).N = res m c := by
  refine (dats m 0 c).arrAt_eq_of_covers 5 _ (covers m) fun t _ y => ?_
  have ht := pt_lt t
  have hp := pt_val t
  obtain ⟨i, l, rfl⟩ : ∃ (i : Fin 1024) (l : Fin 1152), y = ix2 i l :=
    ⟨(show Fin 1024 from y (0 : Fin 2)), (show Fin 1152 from y (1 : Fin 2)), by funext a; match a with | ⟨0, _⟩ => rfl | ⟨1, _⟩ => rfl⟩
  have e0 : ((((cfgM m).win 5).blk t).view.emb (ix2 i l) (0 : Fin 2)).val = 1024 * (t.val / 9) + i.val := by
    refine (ValueKit.view_emb_slice_whole_unit_val _ _ _ _ _ _).trans ?_
    show (BitVec.ofNat 32 (grid0.coords t 0).val : BitVec 32).toNat * 1024 + i.val = _
    rw [BitVec.toNat_ofNat, hp.1]; omega
  have e1 : ((((cfgM m).win 5).blk t).view.emb (ix2 i l) (1 : Fin 2)).val = 1152 * (t.val % 9) + l.val := by
    refine (ValueKit.view_emb_slice_whole_unit_val _ _ _ _ _ _).trans ?_
    show (BitVec.ofNat 32 (grid0.coords t 1).val : BitVec 32).toNat * 1152 + l.val = _
    rw [BitVec.toNat_ofNat, hp.2]; omega
  have ho := outAt_at m c t i l ⟨1024 * (t.val / 9) + i.val, by omega⟩ rfl ⟨1152 * (t.val % 9) + l.val, by omega⟩ rfl
  rw [after5]
  refine Eq.trans ?_ (ho.trans ?_)
  · rfl
  · unfold res
    congr 1
    · exact Fin.ext e0.symm
    · exact Fin.ext e1.symm

/-- The kernel ends with the closed form in its result and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v6) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final m c), kept m r h.1 c⟩) (run_quiet m ρ)

end Cert.Kernel4Ideal.Norm

end
-- ==== Proof.NormKernel.lean ====
/- The kernel as it is printed for its own floats is the same program as the one read over the extended reals: the tables of bodies
   agree entry by entry, and so its frame is the other's. -/
module

public import proofs.«01_k».proof.Proof.NormFrame
public import proofs.«01_k».proof.Proof.Gen.Kernel4.Launch

@[expose] public section

set_option maxRecDepth 16384

noncomputable section

namespace Cert.Kernel4.Norm

open Idealize.ShloMosaic Idealize.ShloMosaic.TcCoe Idealize.SL.Sem

variable {F : FTy → Type} [FloatOps F]

set_option maxHeartbeats 1000000 in
theorem bodies_eq : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg (Defs.onTc (τ := Cert.Kernel4Ideal.τ) (Λ := Cert.Kernel4Ideal.Λ₀)) (funext fun l => funext fun x => ?_)
  match l, x with
  | 0, (t, s) => rfl
  | ⟨n + 1, h⟩, _ => exact absurd h (Nat.not_lt.2 (Nat.le_add_left _ _))

set_option maxHeartbeats 1000000 in
theorem defs_eq : @Cert.Kernel4.defs F _ Cert.Kernel4.Gen.facts = @Cert.Kernel4Ideal.defs F _ Cert.Kernel4Ideal.Gen.facts :=
  congrArg (Pipeline.defs (@Cert.Kernel4Ideal.pcfgs F _ Cert.Kernel4Ideal.Gen.facts)) bodies_eq

set_option maxHeartbeats 1000000 in
theorem main_eq : @Cert.Kernel4.main F _ Cert.Kernel4.Gen.facts = @Cert.Kernel4Ideal.main F _ Cert.Kernel4Ideal.Gen.facts := rfl

open Cert.Kernel4 Cert.Kernel4.Gen

set_option maxHeartbeats 1000000 in
/-- The kernel's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  exact Cert.Kernel4Ideal.Norm.frame m ρ

end Cert.Kernel4.Norm

end
-- ==== Proof.NormRef.lean ====
/- The reference's result for the input projection, element by element: the prompt rows and the decode rows are normalised,
   scaled and shifted by their sequence's, and projected apart; they are put one after the other, and zeros beside them. -/
module

public import proofs.«01_k».proof.Proof.Gen.Reference4Ideal.Run
public import proofs.«01_k».proof.Proof.NormValue
public import Idealize.ShloMosaic.Lib.Pointwise

@[expose] public section

set_option maxRecDepth 16384

noncomputable section

namespace Cert.Reference4Ideal.Ref

open Idealize.ShloMosaic Idealize.ShloMosaic.TcCoe Idealize.SL.Sem
open Cert.Reference4Ideal Cert.Reference4Ideal.Gen
open Cert.Kernel4Ideal.Norm (out xn normed gateOf seqRow)

/-- The prompt rows of the stream, and the decode rows. -/
def takeP (x : FVec Ideal S33792x2048 .f32) : FVec Ideal S16x2048x2048 .f32 :=
  shapeCast S16x2048x2048 (extractStridedSlice S32768x2048 ![0, 0] x slices_S33792x2048_S32768x2048_0_0) shapeCasts_S32768x2048_S16x2048x2048
def takeD (x : FVec Ideal S33792x2048 .f32) : FVec Ideal S16x64x2048 .f32 :=
  shapeCast S16x64x2048 (extractStridedSlice S1024x2048 ![32768, 0] x slices_S33792x2048_S1024x2048_32768_0) shapeCasts_S1024x2048_S16x64x2048

/-- The norm's weights. -/
def weight (g : FVec Ideal S2x2048 .f32) : FVec Ideal S1x1x2048 .f32 :=
  broadcastInDim S1x1x2048 ![2] bcast_S2048_S1x1x2048_2
    (shapeCast S2048 (extractStridedSlice S1x2048 ![0, 0] g slices_S2x2048_S1x2048_0_0) shapeCasts_S1x2048_S2048)

/-- The reciprocal root mean squares of the prompt rows, and of the decode rows. -/
def rootP (h : FVec Ideal S16x2048x2048 .f32) : FVec Ideal S16x2048x1 .f32 :=
  Host.rsqrt (addf (Host.divf (broadcastInDim S16x2048x1 ![0, 1] bcast_S16x2048_S16x2048x1_0_1
      (Host.reduceAdd (mulf h h) (constant S_ .f32 0x00000000#32) reducesTo_S16x2048x2048_S16x2048_d2 h_S_))
    (broadcastInDim S16x2048x1 ![] bcast_S_S16x2048x1 (constant S_ .f32 0x45000000#32)))
    (broadcastInDim S16x2048x1 ![] bcast_S_S16x2048x1 (constant S_ .f32 0x358637BD#32)))
def rootD (h : FVec Ideal S16x64x2048 .f32) : FVec Ideal S16x64x1 .f32 :=
  Host.rsqrt (addf (Host.divf (broadcastInDim S16x64x1 ![0, 1] bcast_S16x64_S16x64x1_0_1
      (Host.reduceAdd (mulf h h) (constant S_ .f32 0x00000000#32) reducesTo_S16x64x2048_S16x64_d2 h_S_))
    (broadcastInDim S16x64x1 ![] bcast_S_S16x64x1 (constant S_ .f32 0x45000000#32)))
    (broadcastInDim S16x64x1 ![] bcast_S_S16x64x1 (constant S_ .f32 0x358637BD#32)))

/-- The prompt rows normalised, scaled and shifted, and the decode rows. -/
def normP (h : FVec Ideal S16x2048x2048 .f32) (g : FVec Ideal S2x2048 .f32) (sh sc : FVec Ideal S32x1x2048 .f32) : FVec Ideal S16x2048x2048 .f32 :=
  addf (mulf (mulf (mulf h (broadcastInDim S16x2048x2048 ![0, 1, 2] bcast_S16x2048x1_S16x2048x2048_0_1_2 (rootP h)))
      (broadcastInDim S16x2048x2048 ![0, 1, 2] bcast_S1x1x2048_S16x2048x2048_0_1_2 (weight g)))
    (broadcastInDim S16x2048x2048 ![0, 1, 2] bcast_S16x1x2048_S16x2048x2048_0_1_2 (addf (broadcastInDim S16x1x2048 ![] bcast_S_S16x1x2048 (constant S_ .f32 0x3F800000#32))
      (extractStridedSlice S16x1x2048 ![0, 0, 0] sc slices_S32x1x2048_S16x1x2048_0_0_0))))
    (broadcastInDim S16x2048x2048 ![0, 1, 2] bcast_S16x1x2048_S16x2048x2048_0_1_2 (extractStridedSlice S16x1x2048 ![0, 0, 0] sh slices_S32x1x2048_S16x1x2048_0_0_0))
def normD (h : FVec Ideal S16x64x2048 .f32) (g : FVec Ideal S2x2048 .f32) (sh sc : FVec Ideal S32x1x2048 .f32) : FVec Ideal S16x64x2048 .f32 :=
  addf (mulf (mulf (mulf h (broadcastInDim S16x64x2048 ![0, 1, 2] bcast_S16x64x1_S16x64x2048_0_1_2 (rootD h)))
      (broadcastInDim S16x64x2048 ![0, 1, 2] bcast_S1x1x2048_S16x64x2048_0_1_2 (weight g)))
    (broadcastInDim S16x64x2048 ![0, 1, 2] bcast_S16x1x2048_S16x64x2048_0_1_2 (addf (broadcastInDim S16x1x2048 ![] bcast_S_S16x1x2048 (constant S_ .f32 0x3F800000#32))
      (extractStridedSlice S16x1x2048 ![16, 0, 0] sc slices_S32x1x2048_S16x1x2048_16_0_0))))
    (broadcastInDim S16x64x2048 ![0, 1, 2] bcast_S16x1x2048_S16x64x2048_0_1_2 (extractStridedSlice S16x1x2048 ![16, 0, 0] sh slices_S32x1x2048_S16x1x2048_16_0_0))

/-- The two through the weights. -/
def projP (n : FVec Ideal S16x2048x2048 .f32) (w : FVec Ideal S1x2048x10304 .f32) : FVec Ideal S16x2048x10304 .f32 :=
  Host.dotGeneral dot_S16x2048x2048_S2048x10304_S16x2048x10304_2_0_01_1_n_n none n (shapeCast S2048x10304 w shapeCasts_S1x2048x10304_S2048x10304)
def projD (n : FVec Ideal S16x64x2048 .f32) (w : FVec Ideal S1x2048x10304 .f32) : FVec Ideal S16x64x10304 .f32 :=
  Host.dotGeneral dot_S16x64x2048_S2048x10304_S16x64x10304_2_0_01_1_n_n none n (shapeCast S2048x10304 w shapeCasts_S1x2048x10304_S2048x10304)

/-- The two put one after the other. -/
def joined (p : FVec Ideal S16x2048x10304 .f32) (d : FVec Ideal S16x64x10304 .f32) : FVec Ideal S33792x10304 .f32 :=
  concatenate S33792x10304 0 [⟨S32768x10304, shapeCast S32768x10304 p shapeCasts_S16x2048x10304_S32768x10304⟩,
    ⟨S1024x10304, shapeCast S1024x10304 d shapeCasts_S16x64x10304_S1024x10304⟩] concatenates_S32768x10304_S1024x10304_S33792x10304_d0

/-- The zeros beside them. -/
def widened (z : FVec Ideal S33792x10304 .f32) : FVec Ideal S33792x10368 .bf16 :=
  truncf .bf16 (concatenate S33792x10368 1 [⟨S33792x10304, z⟩, ⟨S33792x64, broadcastInDim S33792x64 ![] bcast_S_S33792x64 (constant S_ .f32 0x00000000#32)⟩]
    concatenates_S33792x10304_S33792x64_S33792x10368_d1) bitsLt_bf16_f32

theorem takeP_at (x : FVec Ideal S33792x2048 .f32) (s : Fin 16) (i d : Fin 2048) : takeP x (ix3 s i d) = x (ix2 ⟨s.val * 2048 + i.val, by omega⟩ d) := by
  pointwise [takeP]

theorem takeD_at (x : FVec Ideal S33792x2048 .f32) (s : Fin 16) (i : Fin 64) (d : Fin 2048) :
    takeD x (ix3 s i d) = x (ix2 ⟨32768 + (s.val * 64 + i.val), by omega⟩ d) := by
  pointwise [takeD]

theorem weight_at (g : FVec Ideal S2x2048 .f32) (d : Fin 2048) : weight g (ix3 0 0 d) = g (ix2 0 d) := by
  pointwise [weight]

theorem rootP_at (h : FVec Ideal S16x2048x2048 .f32) (s : Fin 16) (i : Fin 2048) : rootP h (ix3 s i 0)
    = Ideal.rsqrt (Ideal.div (∑ e : Fin 2048, h (ix3 s i e) * h (ix3 s i e)) (Ideal.ofBits FTy.f32 0x45000000#32) + Ideal.ofBits FTy.f32 0x358637BD#32) := by
  pointwise [rootP]

theorem rootD_at (h : FVec Ideal S16x64x2048 .f32) (s : Fin 16) (i : Fin 64) : rootD h (ix3 s i 0)
    = Ideal.rsqrt (Ideal.div (∑ e : Fin 2048, h (ix3 s i e) * h (ix3 s i e)) (Ideal.ofBits FTy.f32 0x45000000#32) + Ideal.ofBits FTy.f32 0x358637BD#32) := by
  pointwise [rootD]

theorem normP_at (h : FVec Ideal S16x2048x2048 .f32) (g : FVec Ideal S2x2048 .f32) (sh sc : FVec Ideal S32x1x2048 .f32) (s : Fin 16) (i d : Fin 2048) :
    normP h g sh sc (ix3 s i d) = normed (fun e => h (ix3 s i e)) (g (ix2 0 d)) (sh (ix3 ⟨s.val, by omega⟩ 0 d)) (sc (ix3 ⟨s.val, by omega⟩ 0 d)) d := by
  unfold normed
  rw [← rootP_at h s i, ← weight_at g d]
  pointwise [normP]

theorem normD_at (h : FVec Ideal S16x64x2048 .f32) (g : FVec Ideal S2x2048 .f32) (sh sc : FVec Ideal S32x1x2048 .f32) (s : Fin 16) (i : Fin 64) (d : Fin 2048) :
    normD h g sh sc (ix3 s i d) = normed (fun e => h (ix3 s i e)) (g (ix2 0 d)) (sh (ix3 ⟨16 + s.val, by omega⟩ 0 d)) (sc (ix3 ⟨16 + s.val, by omega⟩ 0 d)) d := by
  unfold normed
  rw [← rootD_at h s i, ← weight_at g d]
  pointwise [normD]

theorem projP_at (n : FVec Ideal S16x2048x2048 .f32) (w : FVec Ideal S1x2048x10304 .f32) (s : Fin 16) (i : Fin 2048) (k : Fin 10304) :
    projP n w (ix3 s i k) = ∑ d : Fin 2048, n (ix3 s i d) * w (ix3 0 d k) := by
  pointwise [projP]

theorem projD_at (n : FVec Ideal S16x64x2048 .f32) (w : FVec Ideal S1x2048x10304 .f32) (s : Fin 16) (i : Fin 64) (k : Fin 10304) :
    projD n w (ix3 s i k) = ∑ d : Fin 2048, n (ix3 s i d) * w (ix3 0 d k) := by
  pointwise [projD]

theorem joined_prompt (p : FVec Ideal S16x2048x10304 .f32) (d : FVec Ideal S16x64x10304 .f32) (r : Fin 33792) (k : Fin 10304) (h : r.val < 32768) :
    joined p d (ix2 r k) = p (ix3 ⟨r.val / 2048, by omega⟩ ⟨r.val % 2048, by omega⟩ k) := by
  pointwise [joined]
  exact dif_pos h

theorem joined_decode (p : FVec Ideal S16x2048x10304 .f32) (d : FVec Ideal S16x64x10304 .f32) (r : Fin 33792) (k : Fin 10304) (h : ¬ r.val < 32768) :
    joined p d (ix2 r k) = d (ix3 ⟨(r.val - 32768) / 64, by omega⟩ ⟨(r.val - 32768) % 64, by omega⟩ k) := by
  pointwise [joined]
  exact dif_neg h

theorem widened_in (z : FVec Ideal S33792x10304 .f32) (r : Fin 33792) (k : Fin 10368) (h : k.val < 10304) : widened z (ix2 r k) = (z (ix2 r ⟨k.val, h⟩) : EReal) := by
  pointwise [widened]
  exact dif_pos h

theorem widened_zero (z : FVec Ideal S33792x10304 .f32) (r : Fin 33792) (k : Fin 10368) (h : ¬ k.val < 10304) : widened z (ix2 r k) = (0 : EReal) := by
  pointwise [widened]
  exact dif_neg h

/-- The reference, in these stages. -/
def projected (x : FVec Ideal S33792x2048 .f32) (g : FVec Ideal S2x2048 .f32) (w : FVec Ideal S1x2048x10304 .f32) (sh sc : FVec Ideal S32x1x2048 .f32) :
    FVec Ideal S33792x10368 .bf16 :=
  widened (joined (projP (normP (takeP x) g sh sc) w) (projD (normD (takeD x) g sh sc) w))

/-- It is the kernel's closed form. -/
theorem projected_at (x : FVec Ideal S33792x2048 .f32) (g : FVec Ideal S2x2048 .f32) (w : FVec Ideal S1x2048x10304 .f32) (sh sc : FVec Ideal S32x1x2048 .f32)
    (r : Fin 33792) (k : Fin 10368) : projected x g w sh sc (ix2 r k) = out x g w sh sc r k := by
  unfold projected out
  by_cases hk : k.val < 10304
  swap
  · rw [dif_neg hk]; exact widened_zero _ r k hk
  rw [dif_pos hk, widened_in _ r k hk]
  by_cases h : r.val < 32768
  · have hr : (⟨r.val / 2048 * 2048 + r.val % 2048, by omega⟩ : Fin 33792) = r := Fin.ext (by dsimp only; omega)
    have hg : (⟨r.val / 2048, by omega⟩ : Fin 32) = seqRow r := Fin.ext (by
      show r.val / 2048 = if r.val / 64 < 512 then r.val / 64 / 32 else 16 + (r.val / 64 - 512)
      rw [if_pos (by omega)]; omega)
    rw [joined_prompt _ _ r _ h, projP_at]
    refine Finset.sum_congr rfl fun d _ => congrArg (· * _) ?_
    rw [normP_at]
    simp only [takeP_at]
    rw [hr, hg]
    rfl
  · have hr : (⟨32768 + ((r.val - 32768) / 64 * 64 + (r.val - 32768) % 64), by omega⟩ : Fin 33792) = r := Fin.ext (by dsimp only; omega)
    have hg : (⟨16 + (r.val - 32768) / 64, by omega⟩ : Fin 32) = seqRow r := Fin.ext (by
      show 16 + (r.val - 32768) / 64 = if r.val / 64 < 512 then r.val / 64 / 32 else 16 + (r.val / 64 - 512)
      rw [if_neg (by omega)]; omega)
    rw [joined_decode _ _ r _ h, projD_at]
    refine Finset.sum_congr rfl fun d _ => congrArg (· * _) ?_
    rw [normD_at]
    simp only [takeD_at]
    rw [hr, hg]
    rfl

set_option maxHeartbeats 1000000 in
/-- Every run of the reference ends with its result and its arguments so. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59) = projected (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold Value.res_main_v59; rfl), (h c).2⟩) (Value.run (F := Ideal) m ρ)

end Cert.Reference4Ideal.Ref

end
-- ==== Proof.LastRun.lean ====
/- One grid point of the final norm's launch: the eight blocks of rows one by one, each with the gate, the shift and the
   scale its word names. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel5Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (UR sig nD τ) ℕ

/-- The table of the blocks' sequences, as the body is handed it, what it holds on a core, and half of the right to it. -/
abbrev tab : Memref sig .tc .smem S528 .i32 := Memref.whole main_c
abbrev TabBuf (F : FTy → Type) (c : Dev nD) : Type := Buf (Elt F) (tab.view.loc (c : Thread nD τ))
abbrev tabPt (c : Dev nD) (f : TabBuf F c) : sProp 𝕄 := tab.view.loc (c : Thread nD τ) ↦{fullShare.right} f

/-- The word that trip `k` reads of it. -/
abbrev word {c : Dev nD} (i : grid0.Coords) (n : TabBuf F c) (k : Fin k0_t1_loop.trips) : BitVec 32 :=
  tab.view.readAt (Elt F) (Rect.unit (s := S528) (k0_off1 i k) S1.size (k0_off1_inb i k)).toLoadRect n (Shape.Idx.first (numel1_S1.symm ▸ Nat.one_pos))

theorem trips_eq : k0_t1_loop.trips = 8 := by decide

theorem off2_eq (k : Fin k0_t1_loop.trips) : k0_off2 k = ![64 * k.val, 0] := by
  revert k; decide +kernel

theorem off4_eq (k : Fin k0_t1_loop.trips) : k0_off4 k = ![64 * k.val, 0] := by
  revert k; decide +kernel

/-- The trip that writes a row. -/
def tripOf (y : S512x2048.Idx) : Fin k0_t1_loop.trips :=
  ⟨(y 0).val / 64, by rw [trips_eq]; have : (y 0).val < 512 := (y 0).isLt; omega⟩

/-- What a point reads: the blocks of the stream and of the experts' output, the gates, the shifts, the scales, the norm's
    weights. -/
structure Blocks (F : FTy → Type) [FloatOps F] where
  h : Vec F S512x2048 .f32
  e : Vec F S512x2048 .f32
  gate : Vec F S32x1x2048 .f32
  shift : Vec F S32x1x2048 .f32
  scale : Vec F S32x1x2048 .f32
  g : Vec F S1x2048 .f32

/-- The rows of trip `k`. -/
def rows (x : Blocks F) (w : BitVec 32) (hw : k0_chk1 w) (k : Fin k0_t1_loop.trips) : Vec F S64x2048 .f32 :=
  k0_pay1 (View.ld (Val := Elt F) x.h (Rect.unit (s := S512x2048) (k0_off2 k) S64x2048.size (k0_off2_inb k)))
    (View.ld (Val := Elt F) x.gate (Rect.unit (s := S32x1x2048) (k0_off3 w) S1x1x2048.size (k0_off3_inb w hw)))
    (View.ld (Val := Elt F) x.e (Rect.unit (s := S512x2048) (k0_off4 k) S64x2048.size (k0_off4_inb k)))
    x.g
    (View.ld (Val := Elt F) x.shift (Rect.unit (s := S32x1x2048) (k0_off3 w) S1x1x2048.size (k0_off3_inb w hw)))
    (View.ld (Val := Elt F) x.scale (Rect.unit (s := S32x1x2048) (k0_off3 w) S1x1x2048.size (k0_off3_inb w hw)))

/-- The block that the eight trips leave. -/
def left (x : Blocks F) (w : Fin k0_t1_loop.trips → BitVec 32) (hw : ∀ k, k0_chk1 (w k)) : Vec F S512x2048 .f32 := fun y =>
  rows x (w (tripOf y)) (hw _) (tripOf y) (ix2 (⟨(y 0).val % 64, Nat.mod_lt _ (by decide)⟩ : Fin 64) (show Fin 2048 from y 1))

section Body

variable (c : Dev nD) (i : grid0.Coords) (arg2 : Memref sig .tc .vmem S512x2048 .f32) (harg2 : arg2.IsWhole)
    (arg3 : Memref sig .tc .vmem S512x2048 .f32) (harg3 : arg3.IsWhole) (arg4 : Memref sig .tc .vmem S32x1x2048 .f32) (harg4 : arg4.IsWhole)
    (arg5 : Memref sig .tc .vmem S32x1x2048 .f32) (harg5 : arg5.IsWhole) (arg6 : Memref sig .tc .vmem S32x1x2048 .f32) (harg6 : arg6.IsWhole)
    (arg7 : Memref sig .tc .vmem S1x2048 .f32) (harg7 : arg7.IsWhole) (arg8 : Memref sig .tc .vmem S512x2048 .f32) (harg8 : arg8.IsWhole)
    (x : Blocks F) (n : TabBuf F c)

/-- The same rows as the trip loads them of the buffers. -/
def loaded (w : BitVec 32) (hw : k0_chk1 w) (k : Fin k0_t1_loop.trips) : Vec F S64x2048 .f32 :=
  k0_pay1 (arg2.view.readAt (Elt F) (Rect.unit (s := S512x2048) (k0_off2 k) S64x2048.size (k0_off2_inb k)).toLoadRect (harg2.unread x.h))
    (arg4.view.readAt (Elt F) (Rect.unit (s := S32x1x2048) (k0_off3 w) S1x1x2048.size (k0_off3_inb w hw)).toLoadRect (harg4.unread x.gate))
    (arg3.view.readAt (Elt F) (Rect.unit (s := S512x2048) (k0_off4 k) S64x2048.size (k0_off4_inb k)).toLoadRect (harg3.unread x.e))
    (arg7.view.readAt (Elt F) (Rect.unit (s := S1x2048) ![0, 0] S1x2048.size inb_S1x2048_S1x2048_0_0).toLoadRect (harg7.unread x.g))
    (arg5.view.readAt (Elt F) (Rect.unit (s := S32x1x2048) (k0_off3 w) S1x1x2048.size (k0_off3_inb w hw)).toLoadRect (harg5.unread x.shift))
    (arg6.view.readAt (Elt F) (Rect.unit (s := S32x1x2048) (k0_off3 w) S1x1x2048.size (k0_off3_inb w hw)).toLoadRect (harg6.unread x.scale))

theorem loaded_eq (w : BitVec 32) (hw : k0_chk1 w) (k : Fin k0_t1_loop.trips) :
    loaded arg2 harg2 arg3 harg3 arg4 harg4 arg5 harg5 arg6 harg6 arg7 harg7 x w hw k = rows x w hw k := by
  have e : arg7.view.readAt (Elt F) (Rect.unit (s := S1x2048) ![0, 0] S1x2048.size inb_S1x2048_S1x2048_0_0).toLoadRect (harg7.unread x.g) = x.g :=
    (View.readAt_full _ _ _).trans (harg7.read_unread _)
  unfold loaded rows
  rw [e, View.readAt_eq_ld, View.readAt_eq_ld, View.readAt_eq_ld, View.readAt_eq_ld, View.readAt_eq_ld,
    harg2.read_unread, harg3.read_unread, harg4.read_unread, harg5.read_unread, harg6.read_unread]

/-- What holds the blocks read and the table, with the right to the output's block. -/
abbrev held (o : sProp 𝕄) : sProp 𝕄 :=
  iprop(owns (c : Thread nD τ) arg2 fullShare x.h ∗ owns (c : Thread nD τ) arg3 fullShare x.e ∗ owns (c : Thread nD τ) arg4 fullShare x.gate
    ∗ owns (c : Thread nD τ) arg5 fullShare x.shift ∗ owns (c : Thread nD τ) arg6 fullShare x.scale ∗ owns (c : Thread nD τ) arg7 fullShare x.g
    ∗ tabPt c n ∗ o)

/-- What a trip finds. -/
def resAt (fo : Buf (Elt F) (arg8.view.loc (c : Thread nD τ))) : sProp 𝕄 :=
  held c arg2 arg3 arg4 arg5 arg6 arg7 x n iprop(arg8.view.loc (c : Thread nD τ) ↦[arg8.view.set]{fullShare} fo)

set_option maxHeartbeats 800000 in
/-- One trip: its rows into the output's block. -/
theorem tripRun (v : BitVec 32) (hw : ∀ k, k0_chk1 (word i n k)) (k : Fin k0_t1_loop.trips) (fo : Buf (Elt F) (arg8.view.loc (c : Thread nD τ))) :
    resAt c arg2 arg3 arg4 arg5 arg6 arg7 arg8 x n fo ⊢ wp frame (wpE (defs₀ (F := F)) Variants.none c none) Set.univ
      (k0_t1_body (F := F) i tab (Memref.isWhole_whole _) arg2 harg2 arg3 harg3 arg4 harg4 arg5 harg5 arg6 harg6 arg7 harg7 arg8 harg8 v k ())
      (fun _ => resAt c arg2 arg3 arg4 arg5 arg6 arg7 arg8 x n (arg8.view.writes (Elt F) fo
        [⟨Rect.unit (s := S512x2048) (k0_off4 k) S64x2048.size (k0_off4_inb k),
          loaded arg2 harg2 arg3 harg3 arg4 harg4 arg5 harg5 arg6 harg6 arg7 harg7 x (word i n k) (hw k) k⟩])) := by
  have hwk := hw k
  unfold resAt held owns
  iintro ⟨⟨%f2, %hf2, H2⟩, ⟨%f3, %hf3, H3⟩, ⟨%f4, %hf4, H4⟩, ⟨%f5, %hf5, H5⟩, ⟨%f6, %hf6, H6⟩, ⟨%f7, %hf7, H7⟩, HN, H8⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_unfold [k0_t1_body]
  simp only [k0_part1_eq_skeleton]
  sl_unfold [k0_part1_skel]
  sl_exec (disch := sl_exact hwk)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [HN]; · iexact HN
  unfold loaded
  iexact H8

/-- Before trip `k`: the rows of the trips before it are written. -/
def invAt (hw : ∀ k, k0_chk1 (word i n k)) (k : ℕ) (_ : Unit) : sProp 𝕄 :=
  iprop(∃ fo, ⌜∀ y : S512x2048.Idx, (y (0 : Fin 2)).val < 64 * k → arg8.view.read (Elt F) fo y = left x (word i n) hw y⌝
    ∗ resAt c arg2 arg3 arg4 arg5 arg6 arg7 arg8 x n fo)

/-- One trip more of the rows. -/
theorem rows_next (hw : ∀ k, k0_chk1 (word i n k)) (k : Fin k0_t1_loop.trips) (fo : Buf (Elt F) (arg8.view.loc (c : Thread nD τ)))
    (h : ∀ y : S512x2048.Idx, (y (0 : Fin 2)).val < 64 * k.val → arg8.view.read (Elt F) fo y = left x (word i n) hw y)
    (y : S512x2048.Idx) (hy : (y (0 : Fin 2)).val < 64 * (k.val + 1)) :
    arg8.view.read (Elt F) (arg8.view.writes (Elt F) fo
      [⟨Rect.unit (s := S512x2048) (k0_off4 k) S64x2048.size (k0_off4_inb k), rows x (word i n k) (hw k) k⟩]) y
      = left x (word i n) hw y := by
  by_cases hk : (y (0 : Fin 2)).val < 64 * k.val
  · exact (View.read_writes_cons_rows_of_not_mem (o := 64 * k.val) (W := 64) arg8.view fo (k0_off4_inb k) _ [] y (off4_eq k) rfl (Or.inl hk)).trans (h y hk)
  · have e : tripOf y = k := Fin.ext (by show (y (0 : Fin 2)).val / 64 = k.val; omega)
    refine (View.read_writes_cons_rows_of_mem (o := 64 * k.val) arg8.view fo (k0_off4_inb k) _ [] y
      (ix2 (⟨(y (0 : Fin 2)).val % 64, Nat.mod_lt _ (by decide)⟩ : Fin 64) (show Fin 2048 from y (1 : Fin 2))) (off4_eq k) ?_ rfl).trans ?_
    · show (y (0 : Fin 2)).val = 64 * k.val + (y (0 : Fin 2)).val % 64
      omega
    · unfold left
      subst e
      rfl

/-- The rows of every trip are the whole block. -/
theorem rows_all (hw : ∀ k, k0_chk1 (word i n k)) (fo : Buf (Elt F) (arg8.view.loc (c : Thread nD τ)))
    (h : ∀ y : S512x2048.Idx, (y (0 : Fin 2)).val < 64 * k0_t1_loop.trips → arg8.view.read (Elt F) fo y = left x (word i n) hw y) :
    arg8.view.read (Elt F) fo = left x (word i n) hw :=
  funext fun y => h y (by rw [trips_eq]; exact (y (0 : Fin 2)).isLt)

theorem step (v : BitVec 32) (hw : ∀ k, k0_chk1 (word i n k)) (k : Fin k0_t1_loop.trips) (a : Unit) :
    invAt c i arg2 arg3 arg4 arg5 arg6 arg7 arg8 x n hw k.val a ⊢ wp frame (wpE (defs₀ (F := F)) Variants.none c none) Set.univ
      (k0_t1_body (F := F) i tab (Memref.isWhole_whole _) arg2 harg2 arg3 harg3 arg4 harg4 arg5 harg5 arg6 harg6 arg7 harg7 arg8 harg8 v k a)
      (invAt c i arg2 arg3 arg4 arg5 arg6 arg7 arg8 x n hw (k.val + 1)) := by
  unfold invAt
  iintro ⟨%fo, %h, H⟩
  iapply (wp_wand_r Idealize.ShloMosaic.frame (wpE (defs₀ (F := F)) Variants.none (c : Thread nD τ) none) Set.univ)
  isplitl [H]
  · iapply (tripRun c i arg2 harg2 arg3 harg3 arg4 harg4 arg5 harg5 arg6 harg6 arg7 harg7 arg8 harg8 x n v hw k fo); iexact H
  · rw [loaded_eq]
    iintro %_ H'
    iexists _
    isplitr
    swap; · iexact H'
    ipureintro
    exact rows_next c i arg8 x n hw k fo h

set_option maxHeartbeats 1000000 in
/-- The body at a point. -/
theorem body (hw : ∀ k, k0_chk1 (word i n k)) (K : PUnit → sProp 𝕄) :
    iprop(held c arg2 arg3 arg4 arg5 arg6 arg7 x n iprop(∃ d, owns (c : Thread nD τ) arg8 fullShare d)
        ∗ (held c arg2 arg3 arg4 arg5 arg6 arg7 x n iprop(owns (c : Thread nD τ) arg8 fullShare (left x (word i n) hw)) -∗ K ⟨⟩))
      ⊢ wp frame (wpE (defs₀ (F := F)) Variants.none c none) Set.univ (cc0_final_norm i tab (Memref.isWhole_whole _) arg2 harg2 arg3 harg3
          arg4 harg4 arg5 harg5 arg6 harg6 arg7 harg7 arg8 harg8) K := by
  simp only [cc0_final_norm_eq_skeleton]; unfold cc0_final_norm_skel
  unfold held
  iintro ⟨⟨H2, H3, H4, H5, H6, H7, HN, ⟨%d8, H8⟩⟩, Hk⟩
  unfold owns
  icases H8 with ⟨%f8, -, H8⟩
  ihave HC := (Scf.wp_for_bind Idealize.ShloMosaic.frame (wpE (defs₀ (F := F)) Variants.none (c : Thread nD τ) none) Set.univ
    k0_t1_loop.lb k0_t1_loop.ub k0_t1_loop.st k0_t1_ok ⟨⟩ _ (invAt c i arg2 arg3 arg4 arg5 arg6 arg7 arg8 x n hw)
    (step c i arg2 harg2 arg3 harg3 arg4 harg4 arg5 harg5 arg6 harg6 arg7 harg7 arg8 harg8 x n _ hw)) $$ [H2 H3 H4 H5 H6 H7 HN H8]
  · unfold invAt resAt held owns
    iexists f8
    isplitr; · ipureintro; intro y hy; exact absurd hy (Nat.not_lt_zero _)
    isplitl [H2]; · iexact H2
    isplitl [H3]; · iexact H3
    isplitl [H4]; · iexact H4
    isplitl [H5]; · iexact H5
    isplitl [H6]; · iexact H6
    isplitl [H7]; · iexact H7
    isplitl [HN]; · iexact HN
    iexact H8
  iapply HC
  iintro %a HI
  unfold invAt resAt held
  icases HI with ⟨%fo, %hfo, H2, H3, H4, H5, H6, H7, HN, H8⟩
  sl_step
  iapply Hk
  unfold owns
  isplitl [H2]; · iexact H2
  isplitl [H3]; · iexact H3
  isplitl [H4]; · iexact H4
  isplitl [H5]; · iexact H5
  isplitl [H6]; · iexact H6
  isplitl [H7]; · iexact H7
  isplitl [HN]; · iexact HN
  iexists fo; isplitr
  swap; · iexact H8
  ipureintro
  exact rows_all c i arg8 x n hw fo hfo

end Body

end Cert.Kernel5Ideal.Last

end
-- ==== Proof.LastFrame.lean ====
/- The final norm's launch: the table it finds, what its blocks hold point by point, and its run. -/
module

public import proofs.«01_k».proof.Proof.LastRun
public import Idealize.ShloMosaic.Lib.Claim
public import Idealize.ShloMosaic.Lib.Pipeline.Kit

@[expose] public section

set_option maxRecDepth 16384

noncomputable section

namespace Cert.Kernel5Ideal.Last

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the launch -/

/-- The buffers when the launch begins: the table written, the norm's weights as a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that is neither the table nor the copy of the norm's weights is as the caller left it. -/
theorem V_kept (c : Dev nD) (b : Ref sig .tc) (h0 : b ≠ main_c) (h1 : b ≠ main_v0) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.nullary_writes, StableHlo.reshape_writes, Finset.mem_singleton]
    refine ⟨?_, ?_⟩
    all_goals exact StableHlo.devRef_ne_of_ne (by assumption)))

/-- The launch finds the table at its literal. -/
theorem V_tab (c : Dev nD) : V m c main_c = (fun i => lit0 (S528.rowMajor i) : Vec F S528 .i32) := by
  dsimp only [V, hostOps0, List.flatten_cons, List.flatten_nil, List.append_nil, List.cons_append, List.nil_append]
  after_results_simp
  all_goals rfl

/-- The table as the launch finds it; there is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- No index map reads the table, and so every table is admitted. -/
abbrev adm : (pcfg0 (F := F)).Adm := ⟨tbl m, trivial⟩
abbrev cfgM : Pipeline.Cfg sig Λ₀ := cfg0 (adm m)

/-- The table's half. -/
theorem tables_eq (c : Dev nD) : (Pipeline.ΦT pre0 (tbl m) c : sProp 𝕄) = tabPt c (tbl m 0) := by
  unfold Pipeline.ΦT Pipeline.prefHeld
  rw [show (Finset.univ : Finset (Fin 1)) = {(0 : Fin 1)} from by decide, bigSep_singleton]
  rfl

/-! ## The words of the table -/

theorem rowMajor_528 (i : S528.Idx) : S528.rowMajor i = (i 0 : Fin 528) :=
  Fin.ext (Shape.rowMajor_val_one i)

/-- The sequence that the table names for a block of sixty-four rows: the prompt's, or the sample's. -/
def gateOf (k : ℕ) : ℕ := if k < 512 then k / 32 else 16 + (k - 512)

theorem lit0_gate : ∀ k : Fin 528, lit0 k = BitVec.ofNat 32 (gateOf k) := by
  decide +kernel

theorem gateOf_lt (k : ℕ) (h : k < 528) : gateOf k < 32 := by
  unfold gateOf; split <;> omega

theorem off1_nat : ∀ (a : Fin 64) (k : Fin k0_t1_loop.trips),
    (Scalar.indexCast (Scalar.addi (Scalar.muli (Scalar.addi (BitVec.ofNat 32 a.val) 0#32) 8#32) (Scf.iv 0#32 1#32 k)) : BitVec 32).toNat = 8 * a.val + k.val := by
  decide +kernel

theorem off1_lt (a : Fin 64) (k : Fin k0_t1_loop.trips) : 8 * a.val + k.val < 528 := by
  have hk : k.val < 8 := lt_of_lt_of_eq k.isLt trips_eq
  have ha := a.isLt
  omega

/-- The word of a trip is its block's sequence. -/
theorem word_eq (i : grid0.Coords) (k : Fin k0_t1_loop.trips) :
    word (F := F) (c := (0 : Dev nD)) i (tbl m 0) k = BitVec.ofNat 32 (gateOf (8 * (i 0 : Fin 64).val + k.val)) := by
  have e := V_tab m (0 : Dev nD)
  refine (congrFun e _).trans (Eq.trans (congrArg lit0 ?_) (lit0_gate ⟨8 * (i 0 : Fin 64).val + k.val, off1_lt (i 0) k⟩))
  refine (rowMajor_528 _).trans (Fin.ext ((ValueKit.rect_emb_unit_val _ _ _ _ _).trans ?_))
  exact (Nat.add_zero _).trans (off1_nat (i 0) k)

theorem chk_of (n : ℕ) (h : n < 32) : k0_chk1 (BitVec.ofNat 32 n) := by
  have e : (BitVec.ofNat 32 n).toNat = n := by rw [BitVec.toNat_ofNat]; exact Nat.mod_eq_of_lt (by omega)
  intro a
  match a with
  | ⟨0, _⟩ => show (BitVec.ofNat 32 n).toNat + 1 ≤ 32; omega
  | ⟨1, _⟩ => show 0 + 1 ≤ 1; omega
  | ⟨2, _⟩ => show 0 + 2048 ≤ 2048; omega

/-- Every word names a sequence that exists. -/
theorem chk (i : grid0.Coords) (k : Fin k0_t1_loop.trips) : k0_chk1 (word (F := F) (c := (0 : Dev nD)) i (tbl m 0) k) := by
  rw [word_eq]; exact chk_of _ (gateOf_lt _ (off1_lt _ _))

/-! ## The blocks -/

/-- A window's block at a point, of its array as the launch finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The output's block is written back at every point. -/
theorem flush6 (a : (pcfg0 (F := F)).Adm) : ∀ t : Fin (cfg0 a).N, ((cfg0 a).win 6).flush t = true :=
  (fun t => (Pipeline.Window.flushOf_reads cc0_transform_6 reads0_6 hreads0_6 0 (by decide) (by decide)
    (Pipeline.Window.sep_of_coord cc0_transform_6 0 0 (fun _ => rfl) (by decide)) (P := 1) (m := 0) (by decide) rfl t).mpr (Nat.mod_one _) :
    ∀ t : Fin grid0.N, Pipeline.Window.flushOf grid0 true cc0_transform_6 t = true)

/-- The staging buffers of a point. -/
abbrev ms0 (t : Fin (cfgM m).N) : Memref sig .tc .vmem S512x2048 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S512x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S32x1x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S32x1x2048 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S32x1x2048 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x2048 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S512x2048 .f32 := spec0_6.stage ((cfgM m).slots t 6)
abbrev hs6 (t : Fin (cfgM m).N) : (ms6 m t).IsWhole := hstage0_6 (((cfgM m).slots t 6).cast nbuf0_6)

/-- The body as it is called at a point. -/
abbrev bodyAt (t : Fin (cfgM m).N) : Prog (TpuEff nD τ sig (Elt F) Λ₀ .tc) PUnit :=
  cc0_final_norm (grid0.coords t) tab (Memref.isWhole_whole _) (ms0 m t) (hs0 m t) (ms1 m t) (hs1 m t) (ms2 m t) (hs2 m t) (ms3 m t) (hs3 m t)
    (ms4 m t) (hs4 m t) (ms5 m t) (hs5 m t) (ms6 m t) (hs6 m t)

/-- What a point reads. -/
def blocks (c : Dev nD) (t : Fin (cfgM m).N) : Blocks F where
  h := iblk m c 0 t
  e := iblk m c 1 t
  gate := iblk m c 2 t
  shift := iblk m c 3 t
  scale := iblk m c 4 t
  g := iblk m c 5 t

/-- What a point leaves. -/
def outAt (c : Dev nD) (t : Fin (cfgM m).N) : Vec F S512x2048 .f32 :=
  left (blocks m c t) (word (F := F) (c := (0 : Dev nD)) (grid0.coords t) (tbl m 0)) (chk m (grid0.coords t))

/-- The launch's data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = iblk m c 4 t := by dsimp only [dats]; try rfl
theorem after5 (c : Dev nD) (t : Fin (cfgM m).N) : (dats m 0 c).after 5 t = iblk m c 5 t := by dsimp only [dats]; try rfl
theorem after6 (c : Dev nD) (t : Fin (cfgM m).N) : (dats m 0 c).after 6 t = outAt m c t := by dsimp only [dats]; try rfl

/-- The blocks read are in place at every point. -/
theorem before0 (c : Dev nD) (t : Fin (cfgM m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgM m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgM m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgM m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## The body at a point -/

/-- What the body is called with, and what it returns. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t))

set_option maxHeartbeats 1600000 in
/-- The body between the two, at every point. -/
theorem sound (c : Dev nD) (t : Fin (cfgM m).N) :
    bodyPre m c t ⊢ wp frame (wpE (defs₀ (F := F)) Variants.none c none) Set.univ (bodyAt m t) (fun _ => bodyPost m c t) := by
  obtain rfl : c = 0 := Subsingleton.elim _ _
  unfold bodyPre bodyPost
  simp only [before0, before1, before2, before3, before4, before5]
  rw [show (dats m 0 0).Φ t.succ = (dats m 0 0).Φ t.castSucc from rfl,
    show (dats m 0 0).owesAt () t.succ = (dats m 0 0).owesAt () t.castSucc from rfl,
    after0, after1, after2, after3, after4, after5, after6]
  rw [show (dats m 0 0).Φ t.castSucc = iprop(Pipeline.ΦA spec0 0 ∗ Pipeline.ΦT pre0 (tbl m) 0) from rfl, tables_eq]
  iintro ⟨⟨HA, HN⟩, Ho, ⟨%d0, H0⟩, ⟨%d1, H1⟩, ⟨%d2, H2⟩, ⟨%d3, H3⟩, ⟨%d4, H4⟩, ⟨%d5, H5⟩, ⟨%d6, H6⟩⟩
  iapply (body (0 : Dev nD) (grid0.coords t) (ms0 m t) (hs0 m t) (ms1 m t) (hs1 m t) (ms2 m t) (hs2 m t) (ms3 m t) (hs3 m t)
    (ms4 m t) (hs4 m t) (ms5 m t) (hs5 m t) (ms6 m t) (hs6 m t) (blocks m 0 t) (tbl m 0) (chk m (grid0.coords t)) _)
  unfold held blocks
  isplitl [H0 H1 H2 H3 H4 H5 H6 HN]
  · isplitl [H0]; · iexact H0
    isplitl [H1]; · iexact H1
    isplitl [H2]; · iexact H2
    isplitl [H3]; · iexact H3
    isplitl [H4]; · iexact H4
    isplitl [H5]; · iexact H5
    isplitl [HN]; · iexact HN
    iexists _; iexact H6
  iintro ⟨H0, H1, H2, H3, H4, H5, HN, H6⟩
  isplitl [HA HN]
  · isplitl [HA]; · iexact HA
    iexact HN
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold outAt blocks
  iexact H6

theorem defs₀_row (t : Fin (cfgM m).N) :
    defs₀ (F := F) .tc (cfgM m).body ((cfgM m).bodyArgs t ((cfgM m).slots t)) = bodyAt m t := by
  unfold defs₀; rw [Defs.onTc_tc]

/-- The launch's obligation of the body. -/
theorem obligation (c : Dev nD) : BodyObligation (dats (F := F) m 0 c) (defs₀ (F := F)) Variants.none () Set.univ := fun t => by
  rw [bigSep_W0, bigSep_W0, defs₀_row m]
  exact triple_restated (sound m c t) rfl .rfl fun _ => .rfl

/-! ## The run -/

set_option backward.isDefEq.respectTransparency.types false in
/-- Every run of the program ends with the launch's arrays as its data say, and with no signal left. -/
theorem run_quiet : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_shared (Q' := _) pcfgs (fun _ => adm m) (dats m) (0 : Fin 1) launch0.to₀ defs₀ Variants.none m ρ main
    (hbody := fun c => (obligation m c).loose) (hq := fun _ _ _ => rfl)
    (howed := fun _ _ => rfl) (V := V m) (hmain := hmain m Variants.none) (hA := A_eq m) (hpf := V_pre m)
    (hΦ := fun _ _ => rfl)

/-- After such a run the arguments are as they began. -/
theorem kept (r) (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m 0 c).arrAt_in 0 rfl _).trans ((A_eq m c 0).trans (V_kept m c main_arg0 (by decide) (by decide)))),
    ((h c).1 1).trans (((dats m 0 c).arrAt_in 1 rfl _).trans ((A_eq m c 1).trans (V_kept m c main_arg1 (by decide) (by decide)))),
    ((h c).1 2).trans (((dats m 0 c).arrAt_in 2 rfl _).trans ((A_eq m c 2).trans (V_kept m c main_arg2 (by decide) (by decide)))),
    ((h c).1 3).trans (((dats m 0 c).arrAt_in 3 rfl _).trans ((A_eq m c 3).trans (V_kept m c main_arg3 (by decide) (by decide)))),
    ((h c).1 4).trans (((dats m 0 c).arrAt_in 4 rfl _).trans ((A_eq m c 4).trans (V_kept m c main_arg4 (by decide) (by decide)))),
    ((h c).2 main_arg5 (show main_arg5 ∈ Pipeline.restRefs sig spec0 by decide)).trans (V_kept m c main_arg5 (by decide) (by decide))⟩

/-- The arguments end as they began, and no signal is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m r h.1, h.2⟩) (run_quiet m ρ)

end Cert.Kernel5Ideal.Last

end
-- ==== Proof.LastValue.lean ====
/- What the kernel leaves in a tile of the final norm, element by element: the body's arithmetic, and the blocks of a point. -/
module

public import proofs.«01_k».proof.Proof.LastFrame
public import Idealize.ShloMosaic.Lib.Pointwise

@[expose] public section

set_option maxRecDepth 16384

noncomputable section

namespace Cert.Kernel5Ideal.Last

open Idealize.ShloMosaic Idealize.ShloMosaic.TcCoe Idealize.SL.Sem
open Cert.Kernel5Ideal Cert.Kernel5Ideal.Gen

/-! ## The body's arithmetic -/

/-- An element of a row divided by the row's root mean square, times the norm's weight, scaled and shifted. -/
def normed (h : Fin 2048 → EReal) (g : EReal) (sh sc : EReal) (d : Fin 2048) : EReal :=
  h d * Ideal.rsqrt (Ideal.div (∑ e : Fin 2048, h e * h e) (Ideal.ofBits FTy.f32 0x45000000#32) + Ideal.ofBits FTy.f32 0x358637BD#32) * g * (1 + sc) + sh

theorem pay1_at (h : Vec Ideal S64x2048 .f32) (ga : Vec Ideal S1x1x2048 .f32) (e : Vec Ideal S64x2048 .f32) (g : Vec Ideal S1x2048 .f32)
    (sh sc : Vec Ideal S1x1x2048 .f32) (i : Fin 64) (d : Fin 2048) :
    k0_pay1 h ga e g sh sc (ix2 i d)
      = normed (fun f => h (ix2 i f) + ga (ix3 0 0 f) * e (ix2 i f)) (g (ix2 0 d)) (sh (ix3 0 0 d)) (sc (ix3 0 0 d)) d := by
  unfold normed
  pointwise [k0_pay1]

/-- A row of a vector per sequence, as the word that names the sequence loads it. -/
theorem named_at (x : Vec Ideal S32x1x2048 .f32) (w : BitVec 32) (hw : k0_chk1 w) (q : Fin 32) (hq : w.toNat = q.val) (d : Fin 2048) :
    View.ld (Val := Elt Ideal) x (Rect.unit (s := S32x1x2048) (k0_off3 w) S1x1x2048.size (k0_off3_inb w hw)) (ix3 0 0 d) = x (ix3 q 0 d) :=
  congrArg x (by
    funext a
    match a with
    | ⟨0, _⟩ => exact Fin.ext ((ValueKit.rect_emb_unit_val _ _ _ _ _).trans hq)
    | ⟨1, _⟩ => exact Fin.ext ((ValueKit.rect_emb_unit_val _ _ _ _ _).trans rfl)
    | ⟨2, _⟩ => exact Fin.ext ((ValueKit.rect_emb_unit_val _ _ _ _ _).trans (Nat.zero_add _)))

/-- A row of a trip's block, as the trip loads it. -/
theorem row_at (x : Vec Ideal S512x2048 .f32) (o : Fin 2 → ℕ) (ho : ∀ a, o a + S64x2048.size a ≤ S512x2048.size a) (k : ℕ) (e : o = ![64 * k, 0])
    (j : Fin 64) (i : Fin 512) (hi : 64 * k + j.val = i.val) (d : Fin 2048) :
    View.ld (Val := Elt Ideal) x (Rect.unit (s := S512x2048) o S64x2048.size ho) (ix2 j d) = x (ix2 i d) := by
  subst e
  refine congrArg x ?_
  funext a
  match a with
  | ⟨0, _⟩ => exact Fin.ext ((ValueKit.rect_emb_unit_val _ _ _ _ _).trans hi)
  | ⟨1, _⟩ => exact Fin.ext ((ValueKit.rect_emb_unit_val _ _ _ _ _).trans (Nat.zero_add _))

/-- A row of the block that the trips leave. -/
theorem left_at (x : Blocks Ideal) (w : Fin k0_t1_loop.trips → BitVec 32) (hw : ∀ k, k0_chk1 (w k)) (i : Fin 512) (d : Fin 2048) (q : Fin 32)
    (hq : (w (tripOf (ix2 i d))).toNat = q.val) :
    left x w hw (ix2 i d) = normed (fun f => x.h (ix2 i f) + x.gate (ix3 q 0 f) * x.e (ix2 i f)) (x.g (ix2 0 d)) (x.shift (ix3 q 0 d)) (x.scale (ix3 q 0 d)) d := by
  have hi : 64 * (tripOf (ix2 i d)).val + (⟨i.val % 64, Nat.mod_lt _ (by decide)⟩ : Fin 64).val = i.val := by
    show 64 * (i.val / 64) + i.val % 64 = i.val
    omega
  unfold left rows
  refine (pay1_at _ _ _ _ _ _ (⟨i.val % 64, Nat.mod_lt _ (by decide)⟩ : Fin 64) d).trans ?_
  have hr := fun f : Fin 2048 => congrArg₂ (fun a b : EReal => a + b)
    (row_at x.h (k0_off2 (tripOf (ix2 i d))) (k0_off2_inb _) _ (off2_eq _) (⟨i.val % 64, Nat.mod_lt _ (by decide)⟩ : Fin 64) i hi f)
    (congrArg₂ (fun a b : EReal => a * b) (named_at x.gate _ (hw (tripOf (ix2 i d))) q hq f)
      (row_at x.e (k0_off4 (tripOf (ix2 i d))) (k0_off4_inb _) _ (off4_eq _) (⟨i.val % 64, Nat.mod_lt _ (by decide)⟩ : Fin 64) i hi f))
  exact (congrArg (fun h : Fin 2048 → EReal => normed h (x.g (ix2 0 d)) _ _ d) (funext hr)).trans
    (congrArg₂ (fun a b : EReal => normed _ (x.g (ix2 0 d)) a b d) (named_at x.shift _ (hw _) q hq d) (named_at x.scale _ (hw _) q hq d))

/-! ## The blocks -/

variable (m : (ℓ : Loc nD τ sig) → Buf (Elt Ideal) ℓ)

/-- The norm's weights as a row. -/
theorem V_g (c : Dev nD) (d : Fin 2048) :
    (V m c main_v0 : Vec Ideal S1x2048 .f32) (ix2 0 d) = (m ((c.tc : Thread nD τ).loc main_arg5) : Vec Ideal S2048 .f32) (ix1 d) := by
  have e : V m c main_v0 = (shapeCast S1x2048 (m ((c.tc : Thread nD τ).loc main_arg5) : Vec Ideal S2048 .f32) shapeCasts_S2048_S1x2048 : Vec Ideal S1x2048 .f32) := by
    dsimp only [V, hostOps0, List.flatten_cons, List.flatten_nil, List.append_nil, List.cons_append, List.nil_append]
    after_results_simp
    all_goals rfl
  refine (congrFun e _).trans ?_
  pointwise []

theorem pts : grid0.N = 64 := by decide

theorem pt_val : ∀ t : Fin grid0.N, (grid0.coords t 0).val = t.val := by
  decide +kernel

theorem pt_lt (t : Fin grid0.N) : t.val < 64 := lt_of_lt_of_eq t.isLt pts

theorem blk0 (c : Dev nD) (t : Fin (cfgM m).N) (i : Fin 512) (d : Fin 2048) (r : Fin 33792) (hr : r.val = 512 * t.val + i.val) :
    (show Vec Ideal S512x2048 .f32 from iblk m c 0 t) (ix2 i d) = (m ((c.tc : Thread nD τ).loc main_arg0) : Vec Ideal S33792x2048 .f32) (ix2 r d) := by
  have ht := pt_lt t
  have hp := pt_val t
  refine Eq.trans ?_ (congrFun (V_kept m c main_arg0 (by decide) (by decide)) _)
  blk_simp [iblk]
  refine congrArg (V m c main_arg0) (funext fun a => Fin.ext ?_)
  match a with
  | ⟨0, _⟩ =>
    refine (ValueKit.view_emb_slice_whole_unit_val _ _ _ _ _ _).trans ?_
    show (Scalar.addi (BitVec.ofNat 32 (grid0.coords t 0).val) 0#32 : BitVec 32).toNat * 512 + i.val = r.val
    rw [show (Scalar.addi (BitVec.ofNat 32 (grid0.coords t 0).val) 0#32 : BitVec 32) = BitVec.ofNat 32 (grid0.coords t 0).val from BitVec.add_zero _,
      BitVec.toNat_ofNat, hp]; omega
  | ⟨1, _⟩ => exact (ValueKit.view_emb_slice_whole_unit_val _ _ _ _ _ _).trans (Nat.zero_add _)

theorem blk1 (c : Dev nD) (t : Fin (cfgM m).N) (i : Fin 512) (d : Fin 2048) (r : Fin 33792) (hr : r.val = 512 * t.val + i.val) :
    (show Vec Ideal S512x2048 .f32 from iblk m c 1 t) (ix2 i d) = (m ((c.tc : Thread nD τ).loc main_arg1) : Vec Ideal S33792x2048 .f32) (ix2 r d) := by
  have ht := pt_lt t
  have hp := pt_val t
  refine Eq.trans ?_ (congrFun (V_kept m c main_arg1 (by decide) (by decide)) _)
  blk_simp [iblk]
  refine congrArg (V m c main_arg1) (funext fun a => Fin.ext ?_)
  match a with
  | ⟨0, _⟩ =>
    refine (ValueKit.view_emb_slice_whole_unit_val _ _ _ _ _ _).trans ?_
    show (Scalar.addi (BitVec.ofNat 32 (grid0.coords t 0).val) 0#32 : BitVec 32).toNat * 512 + i.val = r.val
    rw [show (Scalar.addi (BitVec.ofNat 32 (grid0.coords t 0).val) 0#32 : BitVec 32) = BitVec.ofNat 32 (grid0.coords t 0).val from BitVec.add_zero _,
      BitVec.toNat_ofNat, hp]; omega
  | ⟨1, _⟩ => exact (ValueKit.view_emb_slice_whole_unit_val _ _ _ _ _ _).trans (Nat.zero_add _)

theorem blk2 (c : Dev nD) (t : Fin (cfgM m).N) (q : Fin 32) (d : Fin 2048) :
    (show Vec Ideal S32x1x2048 .f32 from iblk m c 2 t) (ix3 q 0 d) = (m ((c.tc : Thread nD τ).loc main_arg2) : Vec Ideal S32x1x2048 .f32) (ix3 q 0 d) := by
  refine Eq.trans ?_ (congrFun (V_kept m c main_arg2 (by decide) (by decide)) _)
  blk_simp [iblk]
  refine congrArg (V m c main_arg2) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ => exact (ValueKit.view_emb_slice_whole_unit_val _ _ _ _ _ _).trans (Nat.zero_add _)

theorem blk3 (c : Dev nD) (t : Fin (cfgM m).N) (q : Fin 32) (d : Fin 2048) :
    (show Vec Ideal S32x1x2048 .f32 from iblk m c 3 t) (ix3 q 0 d) = (m ((c.tc : Thread nD τ).loc main_arg3) : Vec Ideal S32x1x2048 .f32) (ix3 q 0 d) := by
  refine Eq.trans ?_ (congrFun (V_kept m c main_arg3 (by decide) (by decide)) _)
  blk_simp [iblk]
  refine congrArg (V m c main_arg3) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ => exact (ValueKit.view_emb_slice_whole_unit_val _ _ _ _ _ _).trans (Nat.zero_add _)

theorem blk4 (c : Dev nD) (t : Fin (cfgM m).N) (q : Fin 32) (d : Fin 2048) :
    (show Vec Ideal S32x1x2048 .f32 from iblk m c 4 t) (ix3 q 0 d) = (m ((c.tc : Thread nD τ).loc main_arg4) : Vec Ideal S32x1x2048 .f32) (ix3 q 0 d) := by
  refine Eq.trans ?_ (congrFun (V_kept m c main_arg4 (by decide) (by decide)) _)
  blk_simp [iblk]
  refine congrArg (V m c main_arg4) (funext fun a => Fin.ext ?_)
  match a with
  | ⟨0, _⟩ => exact (ValueKit.view_emb_slice_whole_unit_val _ _ _ _ _ _).trans (Nat.zero_add _)
  | ⟨1, _⟩ => exact (ValueKit.view_emb_slice_whole_unit_val _ _ _ _ _ _).trans rfl
  | ⟨2, _⟩ => exact (ValueKit.view_emb_slice_whole_unit_val _ _ _ _ _ _).trans (Nat.zero_add _)

theorem blk5 (c : Dev nD) (t : Fin (cfgM m).N) (d : Fin 2048) :
    (show Vec Ideal S1x2048 .f32 from iblk m c 5 t) (ix2 0 d) = (m ((c.tc : Thread nD τ).loc main_arg5) : Vec Ideal S2048 .f32) (ix1 d) := by
  refine Eq.trans ?_ (V_g m c d)
  blk_simp [iblk]
  refine congrArg (V m c main_v0) (funext fun a => Fin.ext ?_)
  match a with
  | ⟨0, _⟩ => exact (ValueKit.view_emb_slice_whole_unit_val _ _ _ _ _ _).trans rfl
  | ⟨1, _⟩ => exact (ValueKit.view_emb_slice_whole_unit_val _ _ _ _ _ _).trans (Nat.zero_add _)

/-! ## The result -/

/-- A row of the prompt batch: the gated residual, normalised, scaled and shifted. -/
def out (h e : Vec Ideal S33792x2048 .f32) (ga sh sc : Vec Ideal S32x1x2048 .f32) (g : Vec Ideal S2048 .f32) (r : Fin 32768) (d : Fin 2048) : EReal :=
  normed (fun f => h (ix2 ⟨r.val, by omega⟩ f) + ga (ix3 ⟨r.val / 2048, by omega⟩ 0 f) * e (ix2 ⟨r.val, by omega⟩ f)) (g (ix1 d))
    (sh (ix3 ⟨r.val / 2048, by omega⟩ 0 d)) (sc (ix3 ⟨r.val / 2048, by omega⟩ 0 d)) d

/-- The result in closed form. -/
def res (c : Dev nD) : Buf (Elt Ideal) ((c.tc : Thread nD τ).loc main_v1) := fun y : S32768x2048.Idx =>
  (out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (show Fin 32768 from y 0) (show Fin 2048 from y 1) : EReal)

/-- The block that a point leaves, at an element. -/
theorem outAt_at (c : Dev nD) (t : Fin (cfgM m).N) (i : Fin 512) (d : Fin 2048) (r : Fin 32768) (hr : r.val = 512 * t.val + i.val) :
    outAt m c t (ix2 i d) = res m c (ix2 r d) := by
  have ht := pt_lt t
  have hp := pt_val t
  have hq : (word (F := Ideal) (c := (0 : Dev nD)) (grid0.coords t) (tbl m 0) (tripOf (ix2 i d))).toNat = (⟨r.val / 2048, by omega⟩ : Fin 32).val := by
    have e : 8 * (grid0.coords t 0 : Fin 64).val + (tripOf (ix2 i d)).val = r.val / 64 := by
      show 8 * (grid0.coords t 0).val + i.val / 64 = r.val / 64
      rw [hp]; omega
    rw [word_eq, e, BitVec.toNat_ofNat]
    show (if r.val / 64 < 512 then r.val / 64 / 32 else 16 + (r.val / 64 - 512)) % 2 ^ 32 = r.val / 2048
    rw [if_pos (by omega)]; omega
  show _ = out _ _ _ _ _ _ r d
  unfold outAt out
  refine (left_at _ _ _ i d ⟨r.val / 2048, by omega⟩ hq).trans ?_
  have e := fun f : Fin 2048 => congrArg₂ (fun a b : EReal => a + b) (blk0 m c t i f ⟨r.val, by omega⟩ hr)
    (congrArg₂ (fun a b : EReal => a * b) (blk2 m c t ⟨r.val / 2048, by omega⟩ f) (blk1 m c t i f ⟨r.val, by omega⟩ hr))
  exact (congrArg (fun h : Fin 2048 → EReal => normed h _ _ _ d) (funext e)).trans
    ((congrArg (fun g : EReal => normed _ g _ _ d) (blk5 m c t d)).trans
      (congrArg₂ (fun a b : EReal => normed _ _ a b d) (blk3 m c t ⟨r.val / 2048, by omega⟩ d) (blk4 m c t ⟨r.val / 2048, by omega⟩ d)))

end Cert.Kernel5Ideal.Last

end
-- ==== Proof.LastFinal.lean ====
/- The final norm's result: its blocks put together, and the run that ends with them. -/
module

public import proofs.«01_k».proof.Proof.LastValue

@[expose] public section

set_option maxRecDepth 16384

noncomputable section

namespace Cert.Kernel5Ideal.Last

open Idealize.ShloMosaic Idealize.ShloMosaic.TcCoe Idealize.ShloMosaic.Tactic Idealize.SL.Sem
open Idealize.ShloMosaic.Pipeline (Dat)
open Cert.Kernel5Ideal Cert.Kernel5Ideal.Gen

variable (m : (ℓ : Loc nD τ sig) → Buf (Elt Ideal) ℓ)

/-- The blocks that are written back cover the result. -/
theorem covers : ((cfgM m).win 6).Covers := by
  refine ⟨fun a => ?_, fun β => ?_⟩
  · match a with
    | ⟨0, _⟩ => exact (by decide : 0 < 512)
    | ⟨1, _⟩ => exact (by decide : 0 < 2048)
  · have h0 : (β (0 : Fin 2)).val < 64 := lt_of_lt_of_eq (β (0 : Fin 2)).isLt (show (32768 + 512 - 1) / 512 = 64 by decide)
    have h1 : (β (1 : Fin 2)).val < 1 := lt_of_lt_of_eq (β (1 : Fin 2)).isLt (show (2048 + 2048 - 1) / 2048 = 1 by decide)
    have ht : (β (0 : Fin 2)).val < grid0.N := lt_of_lt_of_eq h0 pts.symm
    refine ⟨⟨(β (0 : Fin 2)).val, ht⟩, flush6 _ _, fun a => ?_⟩
    have hp := pt_val ⟨(β (0 : Fin 2)).val, ht⟩
    match a with
    | ⟨0, _⟩ =>
      refine ⟨?_, Or.inl rfl⟩
      show (BitVec.ofNat 32 (grid0.coords ⟨(β (0 : Fin 2)).val, _⟩ 0).val : BitVec 32).toNat = (β (0 : Fin 2)).val
      rw [BitVec.toNat_ofNat, hp]; dsimp only; omega
    | ⟨1, _⟩ =>
      refine ⟨?_, Or.inl rfl⟩
      show 0 = (β (1 : Fin 2)).val
      omega

attribute [local irreducible] outAt in
theorem final (c : Dev nD) : (dats m 0 c).arrAt 6 (cfgM m).N = res m c := by
  refine (dats m 0 c).arrAt_eq_of_covers 6 _ (covers m) fun t _ y => ?_
  have ht := pt_lt t
  have hp := pt_val t
  obtain ⟨i, l, rfl⟩ : ∃ (i : Fin 512) (l : Fin 2048), y = ix2 i l :=
    ⟨(show Fin 512 from y (0 : Fin 2)), (show Fin 2048 from y (1 : Fin 2)), by funext a; match a with | ⟨0, _⟩ => rfl | ⟨1, _⟩ => rfl⟩
  have e0 : ((((cfgM m).win 6).blk t).view.emb (ix2 i l) (0 : Fin 2)).val = 512 * t.val + i.val := by
    refine (ValueKit.view_emb_slice_whole_unit_val _ _ _ _ _ _).trans ?_
    show (BitVec.ofNat 32 (grid0.coords t 0).val : BitVec 32).toNat * 512 + i.val = _
    rw [BitVec.toNat_ofNat, hp]; omega
  have e1 : ((((cfgM m).win 6).blk t).view.emb (ix2 i l) (1 : Fin 2)).val = l.val :=
    (ValueKit.view_emb_slice_whole_unit_val _ _ _ _ _ _).trans (Nat.zero_add _)
  have ho := outAt_at m c t i l ⟨512 * t.val + i.val, by omega⟩ rfl
  rw [after6]
  refine Eq.trans ?_ (ho.trans ?_)
  · rfl
  · unfold res
    congr 1
    · exact Fin.ext e0.symm
    · exact Fin.ext e1.symm

/-- The kernel ends with the closed form in its result and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final m c), kept m r h.1 c⟩) (run_quiet m ρ)

end Cert.Kernel5Ideal.Last

end
-- ==== Proof.LastKernel.lean ====
/- The kernel as it is printed for its own floats is the same program as the one read over the extended reals: the tables of bodies
   agree entry by entry, and so its frame is the other's. -/
module

public import proofs.«01_k».proof.Proof.LastFrame
public import proofs.«01_k».proof.Proof.Gen.Kernel5.Launch

@[expose] public section

set_option maxRecDepth 16384

noncomputable section

namespace Cert.Kernel5.Last

open Idealize.ShloMosaic Idealize.ShloMosaic.TcCoe Idealize.SL.Sem

variable {F : FTy → Type} [FloatOps F]

set_option maxHeartbeats 1000000 in
theorem bodies_eq : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg (Defs.onTc (τ := Cert.Kernel5Ideal.τ) (Λ := Cert.Kernel5Ideal.Λ₀)) (funext fun l => funext fun x => ?_)
  match l, x with
  | 0, (t, s) => rfl
  | ⟨n + 1, h⟩, _ => exact absurd h (Nat.not_lt.2 (Nat.le_add_left _ _))

set_option maxHeartbeats 1000000 in
theorem defs_eq : @Cert.Kernel5.defs F _ Cert.Kernel5.Gen.facts = @Cert.Kernel5Ideal.defs F _ Cert.Kernel5Ideal.Gen.facts :=
  congrArg (Pipeline.defs (@Cert.Kernel5Ideal.pcfgs F _ Cert.Kernel5Ideal.Gen.facts)) bodies_eq

set_option maxHeartbeats 1000000 in
theorem main_eq : @Cert.Kernel5.main F _ Cert.Kernel5.Gen.facts = @Cert.Kernel5Ideal.main F _ Cert.Kernel5Ideal.Gen.facts := rfl

open Cert.Kernel5 Cert.Kernel5.Gen

set_option maxHeartbeats 1000000 in
/-- The kernel's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.Kernel5Ideal.Last.frame m ρ

end Cert.Kernel5.Last

end
-- ==== Proof.LastRef.lean ====
/- The reference's result for the final norm, element by element. -/
module

public import proofs.«01_k».proof.Proof.Gen.Reference5Ideal.Run
public import proofs.«01_k».proof.Proof.LastValue
public import Idealize.ShloMosaic.Lib.Pointwise

@[expose] public section

set_option maxRecDepth 16384

noncomputable section

namespace Cert.Reference5Ideal.Ref

open Idealize.ShloMosaic Idealize.ShloMosaic.TcCoe Idealize.SL.Sem
open Cert.Reference5Ideal Cert.Reference5Ideal.Gen
open Cert.Kernel5Ideal.Last (out normed)

/-- The prompt rows of an array of the stream's shape. -/
def take (x : FVec Ideal S33792x2048 .f32) : FVec Ideal S16x2048x2048 .f32 :=
  shapeCast S16x2048x2048 (extractStridedSlice S32768x2048 ![0, 0] x slices_S33792x2048_S32768x2048_0_0) shapeCasts_S32768x2048_S16x2048x2048

/-- The stream plus the gated output of the experts. -/
def stream (h e : FVec Ideal S33792x2048 .f32) (ga : FVec Ideal S32x1x2048 .f32) : FVec Ideal S16x2048x2048 .f32 :=
  addf (take h) (mulf (broadcastInDim S16x2048x2048 ![0, 1, 2] bcast_S16x1x2048_S16x2048x2048_0_1_2
    (extractStridedSlice S16x1x2048 ![0, 0, 0] ga slices_S32x1x2048_S16x1x2048_0_0_0)) (take e))

/-- The norm's weights. -/
def weight (g : FVec Ideal S2048 .f32) : FVec Ideal S1x1x2048 .f32 :=
  broadcastInDim S1x1x2048 ![2] bcast_S2048_S1x1x2048_2 g

/-- The reciprocal root mean squares of the rows. -/
def root (h : FVec Ideal S16x2048x2048 .f32) : FVec Ideal S16x2048x1 .f32 :=
  Host.rsqrt (addf (Host.divf (broadcastInDim S16x2048x1 ![0, 1] bcast_S16x2048_S16x2048x1_0_1
      (Host.reduceAdd (mulf h h) (constant S_ .f32 0x00000000#32) reducesTo_S16x2048x2048_S16x2048_d2 h_S_))
    (broadcastInDim S16x2048x1 ![] bcast_S_S16x2048x1 (constant S_ .f32 0x45000000#32)))
    (broadcastInDim S16x2048x1 ![] bcast_S_S16x2048x1 (constant S_ .f32 0x358637BD#32)))

/-- The rows normalised, scaled and shifted. -/
def norm (h : FVec Ideal S16x2048x2048 .f32) (g : FVec Ideal S2048 .f32) (sh sc : FVec Ideal S32x1x2048 .f32) : FVec Ideal S16x2048x2048 .f32 :=
  addf (mulf (mulf (mulf h (broadcastInDim S16x2048x2048 ![0, 1, 2] bcast_S16x2048x1_S16x2048x2048_0_1_2 (root h)))
      (broadcastInDim S16x2048x2048 ![0, 1, 2] bcast_S1x1x2048_S16x2048x2048_0_1_2 (weight g)))
    (broadcastInDim S16x2048x2048 ![0, 1, 2] bcast_S16x1x2048_S16x2048x2048_0_1_2 (addf (broadcastInDim S16x1x2048 ![] bcast_S_S16x1x2048 (constant S_ .f32 0x3F800000#32))
      (extractStridedSlice S16x1x2048 ![0, 0, 0] sc slices_S32x1x2048_S16x1x2048_0_0_0))))
    (broadcastInDim S16x2048x2048 ![0, 1, 2] bcast_S16x1x2048_S16x2048x2048_0_1_2 (extractStridedSlice S16x1x2048 ![0, 0, 0] sh slices_S32x1x2048_S16x1x2048_0_0_0))

theorem take_at (x : FVec Ideal S33792x2048 .f32) (s : Fin 16) (i d : Fin 2048) : take x (ix3 s i d) = x (ix2 ⟨s.val * 2048 + i.val, by omega⟩ d) := by
  pointwise [take]

theorem stream_at (h e : FVec Ideal S33792x2048 .f32) (ga : FVec Ideal S32x1x2048 .f32) (s : Fin 16) (i d : Fin 2048) :
    stream h e ga (ix3 s i d) = h (ix2 ⟨s.val * 2048 + i.val, by omega⟩ d) + ga (ix3 ⟨s.val, by omega⟩ 0 d) * e (ix2 ⟨s.val * 2048 + i.val, by omega⟩ d) := by
  rw [← take_at h s i d, ← take_at e s i d]
  pointwise [stream]

theorem weight_at (g : FVec Ideal S2048 .f32) (d : Fin 2048) : weight g (ix3 0 0 d) = g (ix1 d) := by
  pointwise [weight]

theorem root_at (h : FVec Ideal S16x2048x2048 .f32) (s : Fin 16) (i : Fin 2048) : root h (ix3 s i 0)
    = Ideal.rsqrt (Ideal.div (∑ e : Fin 2048, h (ix3 s i e) * h (ix3 s i e)) (Ideal.ofBits FTy.f32 0x45000000#32) + Ideal.ofBits FTy.f32 0x358637BD#32) := by
  pointwise [root]

theorem norm_at (h : FVec Ideal S16x2048x2048 .f32) (g : FVec Ideal S2048 .f32) (sh sc : FVec Ideal S32x1x2048 .f32) (s : Fin 16) (i d : Fin 2048) :
    norm h g sh sc (ix3 s i d) = normed (fun e => h (ix3 s i e)) (g (ix1 d)) (sh (ix3 ⟨s.val, by omega⟩ 0 d)) (sc (ix3 ⟨s.val, by omega⟩ 0 d)) d := by
  unfold normed
  rw [← root_at h s i, ← weight_at g d]
  pointwise [norm]

/-- The reference, in these stages. -/
def last (h e : FVec Ideal S33792x2048 .f32) (ga sh sc : FVec Ideal S32x1x2048 .f32) (g : FVec Ideal S2048 .f32) : FVec Ideal S32768x2048 .f32 :=
  shapeCast S32768x2048 (norm (stream h e ga) g sh sc) shapeCasts_S16x2048x2048_S32768x2048

/-- Its rows put one after the other. -/
theorem flat_at (n : FVec Ideal S16x2048x2048 .f32) (r : Fin 32768) (d : Fin 2048) :
    (shapeCast S32768x2048 n shapeCasts_S16x2048x2048_S32768x2048 : FVec Ideal S32768x2048 .f32) (ix2 r d)
      = n (ix3 ⟨r.val / 2048, by omega⟩ ⟨r.val % 2048, by omega⟩ d) := by
  pointwise []

/-- It is the kernel's closed form. -/
theorem last_at (h e : FVec Ideal S33792x2048 .f32) (ga sh sc : FVec Ideal S32x1x2048 .f32) (g : FVec Ideal S2048 .f32)
    (r : Fin 32768) (d : Fin 2048) : last h e ga sh sc g (ix2 r d) = out h e ga sh sc g r d := by
  have hr : (⟨r.val / 2048 * 2048 + r.val % 2048, by omega⟩ : Fin 33792) = ⟨r.val, by omega⟩ := Fin.ext (by dsimp only; omega)
  unfold last out
  rw [flat_at, norm_at]
  simp only [stream_at]
  rw [hr]

set_option maxHeartbeats 1000000 in
/-- Every run of the reference ends with its result and its arguments so. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = last (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run (F := Ideal) m ρ)

end Cert.Reference5Ideal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelTables
public import proofs.«01_k».proof.Proof.Final
public import proofs.«01_k».proof.Proof.Finite
public import proofs.«01_k».proof.Proof.RefAt
public import proofs.«01_k».proof.Proof.ExpertsFinal
public import proofs.«01_k».proof.Proof.ExpertsKernel
public import proofs.«01_k».proof.Proof.ExpertsRef
public import proofs.«01_k».proof.Proof.Gen.Kernel2.Launch
public import proofs.«01_k».proof.Proof.Gen.Kernel2.Skeleton
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.ResidualFinal
public import proofs.«01_k».proof.Proof.ResidualKernel
public import proofs.«01_k».proof.Proof.ResidualRef
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.NormFinal
public import proofs.«01_k».proof.Proof.NormKernel
public import proofs.«01_k».proof.Proof.NormRef
public import proofs.«01_k».proof.Proof.Gen.Kernel4.Launch
public import proofs.«01_k».proof.Proof.Gen.Kernel4.Skeleton
public import proofs.«01_k».proof.Proof.Gen.Kernel4Ideal.Launch
public import proofs.«01_k».proof.Proof.Gen.Kernel4Ideal.Skeleton
public import proofs.«01_k».proof.Proof.Gen.Reference4Ideal.Run
public import proofs.«01_k».proof.Proof.LastFinal
public import proofs.«01_k».proof.Proof.LastKernel
public import proofs.«01_k».proof.Proof.LastRef
public import proofs.«01_k».proof.Proof.Gen.Kernel5.Launch
public import proofs.«01_k».proof.Proof.Gen.Kernel5.Skeleton
public import proofs.«01_k».proof.Proof.Gen.Kernel5Ideal.Launch
public import proofs.«01_k».proof.Proof.Gen.Kernel5Ideal.Skeleton
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs, its arguments end unchanged, and no semaphore is left counting. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨Cert.KernelIdeal.Out.res m, Cert.KernelIdeal.Out.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4⟩ := hargs c
  refine (Cert.ReferenceIdeal.Ref.res_eq m' c).trans ?_
  rw [e0, e1, e2, e3, e4]
  funext y
  obtain ⟨n, l, rfl⟩ : ∃ (n : Fin 33792) (l : Fin 2048), y = ix2 n l :=
    ⟨(show Fin 33792 from y (0 : Fin 2)), (show Fin 2048 from y (1 : Fin 2)),
      by funext a; match a with | ⟨0, _⟩ => rfl | ⟨1, _⟩ => rfl⟩
  refine (Cert.ReferenceIdeal.Ref.attn_at _ _ _ _ _ n l).trans ?_
  exact (Cert.Spec.late_eq_early _ _ _ _ _ (Cert.Finite.queries m hpre c) (Cert.Finite.keys m hpre c)
    (Cert.Finite.cached m hpre c) (Cert.Finite.sinks m hpre c) _ _ _ _).symm

/-- The tables of the routed rows, on the one device. -/
theorem routed (m : (ℓ : Loc Cert.Kernel2Ideal.nD Cert.Kernel2Ideal.τ Cert.Kernel2Ideal.sig) → Buf (Elt Ideal) ℓ)
    (h : haveI := Cert.Experts.facts; Cert.Pre_Kernel2Ideal m) :
    Cert.Experts.Routed (Cert.Kernel2Ideal.Experts.fstE m) (Cert.Kernel2Ideal.Experts.sndE m) (Cert.Kernel2Ideal.Experts.valid m) :=
  Cert.Experts.routed_of _ _ _ _ _ _ _ _ _ rfl (h 0)

/-- The kernel of the experts: its arguments end unchanged, and no semaphore is left counting. -/
theorem frame_experts : Cert.quiescent_Kernel2 (hKernel2 := Cert.Kernel2.Gen.facts) (hPre_routed := Cert.Experts.facts) :=
  fun m ρ h => Cert.Kernel2.Experts.frame m ρ (Cert.Experts.routed_of _ _ _ _ _ _ _ _ _ rfl (h 0))

/-- The same of the ideal kernel. -/
theorem frame_experts_ideal : Cert.quiescent_Kernel2Ideal (hKernel2Ideal := Cert.Kernel2Ideal.Gen.facts) (hPre_routed := Cert.Experts.facts) :=
  fun m ρ h => Cert.Kernel2Ideal.Experts.frame m ρ (Cert.Kernel2Ideal.Experts.ok m (routed m h)) (Cert.Kernel2Ideal.Experts.counted m (routed m h))

/-- The same of the experts' reference. -/
theorem frame_experts_reference : Cert.quiescent_Reference2Ideal (hReference2Ideal := Cert.Reference2Ideal.Gen.facts) := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Over the extended reals the result of the kernel of the experts is the reference's. -/
theorem algebraic_experts : Cert.algebraic_Kernel2Ideal_Reference2Ideal (hKernel2Ideal := Cert.Kernel2Ideal.Gen.facts)
    (hReference2Ideal := Cert.Reference2Ideal.Gen.facts) (hPre_routed := Cert.Experts.facts) := by
  intro m g m' g' hpre hargs
  have hR := routed m hpre
  refine ⟨Cert.Kernel2Ideal.Experts.res m, Cert.Kernel2Ideal.Experts.run m hR g, ?_⟩
  refine (θ_run Cert.Reference2Ideal.defs _ _).mono (fun r h c => ⟨(h c).1.trans ?_, (h c).2⟩) (Cert.Reference2Ideal.Ref.run m' g')
  obtain rfl : c = 0 := Subsingleton.elim _ _
  obtain ⟨e0, e1, e2, e3, e4, e5, e6, e7⟩ := hargs 0
  rw [e0, e1, e2, e3, e4, e5, e6, e7]
  funext y
  obtain ⟨n, l, rfl⟩ : ∃ (n : Fin 39936) (l : Fin 2048), y = ix2 n l :=
    ⟨(show Fin 39936 from y (0 : Fin 2)), (show Fin 2048 from y (1 : Fin 2)),
      by funext a; match a with | ⟨0, _⟩ => rfl | ⟨1, _⟩ => rfl⟩
  exact Cert.Reference2Ideal.Ref.moe_at _ _ _ hR _ _ _ _ _ n l

/-- The output projection's reference: its arguments end unchanged, and no semaphore is left counting. -/
theorem frame_residual_reference : Cert.quiescent_Reference3Ideal (hReference3Ideal := Cert.Reference3Ideal.Gen.facts) := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Over the extended reals the output projection's result is the reference's. -/
theorem algebraic_residual : Cert.algebraic_Kernel3Ideal_Reference3Ideal (hKernel3Ideal := Cert.Kernel3Ideal.Gen.facts)
    (hReference3Ideal := Cert.Reference3Ideal.Gen.facts) := by
  intro m g m' g' _ hargs
  refine ⟨Cert.Kernel3Ideal.Residual.res m, Cert.Kernel3Ideal.Residual.run m g, ?_⟩
  refine (θ_run Cert.Reference3Ideal.defs _ _).mono (fun r h c => ⟨(h c).1.trans ?_, (h c).2⟩) (Cert.Reference3Ideal.Ref.run m' g')
  obtain ⟨e0, e1, e2, e3⟩ := hargs c
  rw [e0, e1, e2, e3]
  funext y
  obtain ⟨n, l, rfl⟩ : ∃ (n : Fin 33792) (l : Fin 2048), y = ix2 n l :=
    ⟨(show Fin 33792 from y (0 : Fin 2)), (show Fin 2048 from y (1 : Fin 2)),
      by funext a; match a with | ⟨0, _⟩ => rfl | ⟨1, _⟩ => rfl⟩
  exact Cert.Reference3Ideal.Ref.residual_at _ _ _ _ n l

/-- The input projection's reference: its arguments end unchanged, and no semaphore is left counting. -/
theorem frame_norm_reference : Cert.quiescent_Reference4Ideal (hReference4Ideal := Cert.Reference4Ideal.Gen.facts) := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Over the extended reals the input projection's result is the reference's. -/
theorem algebraic_norm : Cert.algebraic_Kernel4Ideal_Reference4Ideal (hKernel4Ideal := Cert.Kernel4Ideal.Gen.facts)
    (hReference4Ideal := Cert.Reference4Ideal.Gen.facts) := by
  intro m g m' g' _ hargs
  refine ⟨Cert.Kernel4Ideal.Norm.res m, Cert.Kernel4Ideal.Norm.run m g, ?_⟩
  refine (θ_run Cert.Reference4Ideal.defs _ _).mono (fun r h c => ⟨(h c).1.trans ?_, (h c).2⟩) (Cert.Reference4Ideal.Ref.run m' g')
  obtain ⟨e0, e1, e2, e3, e4⟩ := hargs c
  rw [e0, e1, e2, e3, e4]
  funext y
  obtain ⟨n, l, rfl⟩ : ∃ (n : Fin 33792) (l : Fin 10368), y = ix2 n l :=
    ⟨(show Fin 33792 from y (0 : Fin 2)), (show Fin 10368 from y (1 : Fin 2)),
      by funext a; match a with | ⟨0, _⟩ => rfl | ⟨1, _⟩ => rfl⟩
  exact Cert.Reference4Ideal.Ref.projected_at _ _ _ _ _ n l

/-- The final norm's reference: its arguments end unchanged, and no semaphore is left counting. -/
theorem frame_last_reference : Cert.quiescent_Reference5Ideal (hReference5Ideal := Cert.Reference5Ideal.Gen.facts) := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Over the extended reals the final norm's result is the reference's. -/
theorem algebraic_last : Cert.algebraic_Kernel5Ideal_Reference5Ideal (hKernel5Ideal := Cert.Kernel5Ideal.Gen.facts)
    (hReference5Ideal := Cert.Reference5Ideal.Gen.facts) := by
  intro m g m' g' _ hargs
  refine ⟨Cert.Kernel5Ideal.Last.res m, Cert.Kernel5Ideal.Last.run m g, ?_⟩
  refine (θ_run Cert.Reference5Ideal.defs _ _).mono (fun r h c => ⟨(h c).1.trans ?_, (h c).2⟩) (Cert.Reference5Ideal.Ref.run m' g')
  obtain ⟨e0, e1, e2, e3, e4, e5⟩ := hargs c
  rw [e0, e1, e2, e3, e4, e5]
  funext y
  obtain ⟨n, l, rfl⟩ : ∃ (n : Fin 32768) (l : Fin 2048), y = ix2 n l :=
    ⟨(show Fin 32768 from y (0 : Fin 2)), (show Fin 2048 from y (1 : Fin 2)),
      by funext a; match a with | ⟨0, _⟩ => rfl | ⟨1, _⟩ => rfl⟩
  exact Cert.Reference5Ideal.Ref.last_at _ _ _ _ _ _ n l

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Finite.facts, Cert.Experts.facts,
  fun m ρ _ => Cert.Kernel.Gen.frame m ρ (Cert.Kernel.Tables.ok m),
  fun m ρ _ => Cert.KernelIdeal.Gen.frame m ρ (Cert.KernelIdeal.Tables.ok m),
  fun m ρ _ => Cert.KernelIdeal.Gen.frame m ρ (Cert.KernelIdeal.Tables.ok m),
  frame_reference,
  fun m ρ _ => frame_reference m ρ trivial,
  frame_experts,
  frame_experts_ideal,
  frame_experts_reference,
  fun m ρ _ => frame_experts_reference m ρ trivial,
  fun m ρ _ => Cert.Kernel3.Residual.frame m ρ,
  fun m ρ _ => Cert.Kernel3Ideal.Residual.frame m ρ,
  frame_residual_reference,
  fun m ρ _ => Cert.Kernel4.Norm.frame m ρ,
  fun m ρ _ => Cert.Kernel4Ideal.Norm.frame m ρ,
  frame_norm_reference,
  fun m ρ _ => Cert.Kernel5.Last.frame m ρ,
  fun m ρ _ => Cert.Kernel5Ideal.Last.frame m ρ,
  frame_last_reference,
  trivial,
  algebraic,
  trivial,
  algebraic_experts,
  trivial,
  algebraic_residual,
  trivial,
  algebraic_norm,
  trivial,
  algebraic_last⟩

end Cert.Proof

end
